-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x128x512 .f32) (main_arg1 : FVec F S512x256 .f32) (main_arg2 : FVec F S2x4096x4x64 .f32) (main_arg3 : FVec F S2x4096x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x4096x4x64 .f32 := Host.absf main_arg2
  let main_cst_2 : FVec F S_ .f32 := constant S_ .f32 0x7F800000#32
  let main_v10 : FVec F S2x4096x4x64 .f32 := broadcastInDim S2x4096x4x64 ![] bcast_S_S2x4096x4x64 main_cst_2
  let main_v11 : IVec S2x4096x4x64 1 := cmpf .olt main_v9 main_v10
  let main_c_3 : IVec S_ 1 := constantI S_ 1 1#1
  let main_v12 : IVec S_ 1 := (fun x v => Host.reduce IntOp.andi x v reducesTo_S2x4096x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S4x128x260 : Shape := ⟨3, ![4, 128, 260]⟩
abbrev S7x128x260 : Shape := ⟨3, ![7, 128, 260]⟩
abbrev S7 : Shape := ⟨1, ![7]⟩
abbrev S_ : Shape := ⟨0, ![]⟩
abbrev S256x256 : Shape := ⟨2, ![256, 256]⟩
abbrev S2x128x256 : Shape := ⟨3, ![2, 128, 256]⟩
abbrev S128x128 : Shape := ⟨2, ![128, 128]⟩
abbrev S128x256 : Shape := ⟨2, ![128, 256]⟩
abbrev S1x128x256 : Shape := ⟨3, ![1, 128, 256]⟩
abbrev S128x64 : Shape := ⟨2, ![128, 64]⟩
abbrev S128 : Shape := ⟨1, ![128]⟩
abbrev S1x128x64 : Shape := ⟨3, ![1, 128, 64]⟩
abbrev S128x1 : Shape := ⟨2, ![128, 1]⟩
abbrev S1x128x1 : Shape := ⟨3, ![1, 128, 1]⟩
abbrev S1 : Shape := ⟨1, ![1]⟩
abbrev S1x128x260 : Shape := ⟨3, ![1, 128, 260]⟩
abbrev S128x260 : Shape := ⟨2, ![128, 260]⟩
abbrev S128x4 : Shape := ⟨2, ![128, 4]⟩
abbrev S128x4x1 : Shape := ⟨3, ![128, 4, 1]⟩
abbrev S128x4x64 : Shape := ⟨3, ![128, 4, 64]⟩
abbrev S128x512 : Shape := ⟨2, ![128, 512]⟩
abbrev S1x128x512 : Shape := ⟨3, ![1, 128, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S4x128x260, .bf16⟩
  | .local _ .vmem, ⟨7, _⟩ => ⟨S4x128x260, .bf16⟩
  | .local _ .vmem, ⟨8, _⟩ => ⟨S7x128x260, .bf16⟩
  | .local _ .vmem, ⟨9, _⟩ => ⟨S7x128x260, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v68 : BitVec 32 := Scalar.xori v2 c1_i32_29
  let c1_i32_98 : BitVec 32 := 1#32
  let v187 : BitVec 32 := Scalar.muli v68 c1_i32_98
  let v188 : BitVec 32 := Scalar.addi c0_i32_99 v187
  v188.toNat
def k0_dev2 (d0 : Dev nD) : Nat :=
  let c0_i32_102 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.muli c8_i32_30 v19
  let c2_i32_37 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v81 : BitVec 32 := Scalar.muli c2_i32_37 v80
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.addi v56 v46
  let c2_i32_23 : BitVec 32 := 2#32
  let c0_i32_24 : BitVec 32 := 0#32
  let v58 : BitVec 1 := Scalar.cmpi .eq c2_i32_23 c0_i32_24
  let c1_i32_25 : BitVec 32 := 1#32
  let v59 : BitVec 32 := Scalar.select v58 c1_i32_25 c2_i32_23
  let v60 : BitVec 32 := Scalar.remsi v57 v59
  let c0_i32_27 : BitVec 32 := 0#32
  let v62 : BitVec 1 := Scalar.cmpi .slt v60 c0_i32_27
  let c0_i32_28 : BitVec 32 := 0#32
  let v63 : BitVec 1 := Scalar.cmpi .slt v59 c0_i32_28
  let v64 : BitVec 1 := Scalar.xori v62 v63
  let c0_i32_26 : BitVec 32 := 0#32
  let v61 : BitVec 1 := Scalar.cmpi .ne v60 c0_i32_26
  let v65 : BitVec 1 := Scalar.andi v64 v61
  let v66 : BitVec 32 := Scalar.addi v60 v59
  let v67 : BitVec 32 := Scalar.select v65 v66 v60
  let v82 : BitVec 32 := Scalar.addi v67 v80
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v82 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let v93 : BitVec 32 := Scalar.addi v81 v92
  let v94 : BitVec 32 := Scalar.addi v69 v93
  let c1_i32_101 : BitVec 32 := 1#32
  let v189 : BitVec 32 := Scalar.muli v94 c1_i32_101
  let v190 : BitVec 32 := Scalar.addi c0_i32_102 v189
  v190.toNat
def k0_dev3 (d0 : Dev nD) : Nat :=
  let c0_i32_105 : BitVec 32 := 0#32
  let c8_i32_44 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v95 : BitVec 32 := Scalar.muli c8_i32_44 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_45 : BitVec 32 := 2#32
  let v96 : BitVec 32 := Scalar.addi v46 c2_i32_45
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi v96 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let v107 : BitVec 32 := Scalar.muli c2_i32_52 v106
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.addi v56 v46
  let c2_i32_23 : BitVec 32 := 2#32
  let c0_i32_24 : BitVec 32 := 0#32
  let v58 : BitVec 1 := Scalar.cmpi .eq c2_i32_23 c0_i32_24
  let c1_i32_25 : BitVec 32 := 1#32
  let v59 : BitVec 32 := Scalar.select v58 c1_i32_25 c2_i32_23
  let v60 : BitVec 32 := Scalar.remsi v57 v59
  let c0_i32_27 : BitVec 32 := 0#32
  let v62 : BitVec 1 := Scalar.cmpi .slt v60 c0_i32_27
  let c0_i32_28 : BitVec 32 := 0#32
  let v63 : BitVec 1 := Scalar.cmpi .slt v59 c0_i32_28
  let v64 : BitVec 1 := Scalar.xori v62 v63
  let c0_i32_26 : BitVec 32 := 0#32
  let v61 : BitVec 1 := Scalar.cmpi .ne v60 c0_i32_26
  let v65 : BitVec 1 := Scalar.andi v64 v61
  let v66 : BitVec 32 := Scalar.addi v60 v59
  let v67 : BitVec 32 := Scalar.select v65 v66 v60
  let v108 : BitVec 32 := Scalar.addi v67 v106
  let c2_i32_53 : BitVec 32 := 2#32
  let c0_i32_54 : BitVec 32 := 0#32
  let v109 : BitVec 1 := Scalar.cmpi .eq c2_i32_53 c0_i32_54
  let c1_i32_55 : BitVec 32 := 1#32
  let v110 : BitVec 32 := Scalar.select v109 c1_i32_55 c2_i32_53
  let v111 : BitVec 32 := Scalar.remsi v108 v110
  let c0_i32_57 : BitVec 32 := 0#32
  let v113 : BitVec 1 := Scalar.cmpi .slt v111 c0_i32_57
  let c0_i32_58 : BitVec 32 := 0#32
  let v114 : BitVec 1 := Scalar.cmpi .slt v110 c0_i32_58
  let v115 : BitVec 1 := Scalar.xori v113 v114
  let c0_i32_56 : BitVec 32 := 0#32
  let v112 : BitVec 1 := Scalar.cmpi .ne v111 c0_i32_56
  let v116 : BitVec 1 := Scalar.andi v115 v112
  let v117 : BitVec 32 := Scalar.addi v111 v110
  let v118 : BitVec 32 := Scalar.select v116 v117 v111
  let v119 : BitVec 32 := Scalar.addi v107 v118
  let v120 : BitVec 32 := Scalar.addi v95 v119
  let c1_i32_104 : BitVec 32 := 1#32
  let v191 : BitVec 32 := Scalar.muli v120 c1_i32_104
  let v192 : BitVec 32 := Scalar.addi c0_i32_105 v191
  v192.toNat
def k0_dev4 (d0 : Dev nD) : Nat :=
  let c0_i32_108 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v121 : BitVec 32 := Scalar.muli c8_i32_59 v19
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v122 : BitVec 32 := Scalar.addi v46 c3_i32
  let c4_i32_60 : BitVec 32 := 4#32
  let c0_i32_61 : BitVec 32 := 0#32
  let v123 : BitVec 1 := Scalar.cmpi .eq c4_i32_60 c0_i32_61
  let c1_i32_62 : BitVec 32 := 1#32
  let v124 : BitVec 32 := Scalar.select v123 c1_i32_62 c4_i32_60
  let v125 : BitVec 32 := Scalar.remsi v122 v124
  let c0_i32_64 : BitVec 32 := 0#32
  let v127 : BitVec 1 := Scalar.cmpi .slt v125 c0_i32_64
  let c0_i32_65 : BitVec 32 := 0#32
  let v128 : BitVec 1 := Scalar.cmpi .slt v124 c0_i32_65
  let v129 : BitVec 1 := Scalar.xori v127 v128
  let c0_i32_63 : BitVec 32 := 0#32
  let v126 : BitVec 1 := Scalar.cmpi .ne v125 c0_i32_63
  let v130 : BitVec 1 := Scalar.andi v129 v126
  let v131 : BitVec 32 := Scalar.addi v125 v124
  let v132 : BitVec 32 := Scalar.select v130 v131 v125
  let v133 : BitVec 32 := Scalar.muli c2_i32_66 v132
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.addi v56 v46
  let c2_i32_23 : BitVec 32 := 2#32
  let c0_i32_24 : BitVec 32 := 0#32
  let v58 : BitVec 1 := Scalar.cmpi .eq c2_i32_23 c0_i32_24
  let c1_i32_25 : BitVec 32 := 1#32
  let v59 : BitVec 32 := Scalar.select v58 c1_i32_25 c2_i32_23
  let v60 : BitVec 32 := Scalar.remsi v57 v59
  let c0_i32_27 : BitVec 32 := 0#32
  let v62 : BitVec 1 := Scalar.cmpi .slt v60 c0_i32_27
  let c0_i32_28 : BitVec 32 := 0#32
  let v63 : BitVec 1 := Scalar.cmpi .slt v59 c0_i32_28
  let v64 : BitVec 1 := Scalar.xori v62 v63
  let c0_i32_26 : BitVec 32 := 0#32
  let v61 : BitVec 1 := Scalar.cmpi .ne v60 c0_i32_26
  let v65 : BitVec 1 := Scalar.andi v64 v61
  let v66 : BitVec 32 := Scalar.addi v60 v59
  let v67 : BitVec 32 := Scalar.select v65 v66 v60
  let v134 : BitVec 32 := Scalar.addi v67 v132
  let c2_i32_67 : BitVec 32 := 2#32
  let c0_i32_68 : BitVec 32 := 0#32
  let v135 : BitVec 1 := Scalar.cmpi .eq c2_i32_67 c0_i32_68
  let c1_i32_69 : BitVec 32 := 1#32
  let v136 : BitVec 32 := Scalar.select v135 c1_i32_69 c2_i32_67
  let v137 : BitVec 32 := Scalar.remsi v134 v136
  let c0_i32_71 : BitVec 32 := 0#32
  let v139 : BitVec 1 := Scalar.cmpi .slt v137 c0_i32_71
  let c0_i32_72 : BitVec 32 := 0#32
  let v140 : BitVec 1 := Scalar.cmpi .slt v136 c0_i32_72
  let v141 : BitVec 1 := Scalar.xori v139 v140
  let c0_i32_70 : BitVec 32 := 0#32
  let v138 : BitVec 1 := Scalar.cmpi .ne v137 c0_i32_70
  let v142 : BitVec 1 := Scalar.andi v141 v138
  let v143 : BitVec 32 := Scalar.addi v137 v136
  let v144 : BitVec 32 := Scalar.select v142 v143 v137
  let v145 : BitVec 32 := Scalar.addi v133 v144
  let v146 : BitVec 32 := Scalar.addi v121 v145
  let c1_i32_107 : BitVec 32 := 1#32
  let v193 : BitVec 32 := Scalar.muli v146 c1_i32_107
  let v194 : BitVec 32 := Scalar.addi c0_i32_108 v193
  v194.toNat
def k0_dev5 (d0 : Dev nD) : Nat :=
  let c0_i32_111 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_73 : BitVec 32 := 1#32
  let v147 : BitVec 32 := Scalar.addi v19 c1_i32_73
  let c4_i32_74 : BitVec 32 := 4#32
  let c0_i32_75 : BitVec 32 := 0#32
  let v148 : BitVec 1 := Scalar.cmpi .eq c4_i32_74 c0_i32_75
  let c1_i32_76 : BitVec 32 := 1#32
  let v149 : BitVec 32 := Scalar.select v148 c1_i32_76 c4_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let v158 : BitVec 32 := Scalar.muli c8_i32_80 v157
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v159 : BitVec 32 := Scalar.addi v158 v29
  let c1_i32_110 : BitVec 32 := 1#32
  let v195 : BitVec 32 := Scalar.muli v159 c1_i32_110
  let v196 : BitVec 32 := Scalar.addi c0_i32_111 v195
  v196.toNat
def k0_dev6 (d0 : Dev nD) : Nat :=
  let c0_i32_114 : BitVec 32 := 0#32
  let c8_i32_88 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_81 : BitVec 32 := 2#32
  let v160 : BitVec 32 := Scalar.addi v19 c2_i32_81
  let c4_i32_82 : BitVec 32 := 4#32
  let c0_i32_83 : BitVec 32 := 0#32
  let v161 : BitVec 1 := Scalar.cmpi .eq c4_i32_82 c0_i32_83
  let c1_i32_84 : BitVec 32 := 1#32
  let v162 : BitVec 32 := Scalar.select v161 c1_i32_84 c4_i32_82
  let v163 : BitVec 32 := Scalar.remsi v160 v162
  let c0_i32_86 : BitVec 32 := 0#32
  let v165 : BitVec 1 := Scalar.cmpi .slt v163 c0_i32_86
  let c0_i32_87 : BitVec 32 := 0#32
  let v166 : BitVec 1 := Scalar.cmpi .slt v162 c0_i32_87
  let v167 : BitVec 1 := Scalar.xori v165 v166
  let c0_i32_85 : BitVec 32 := 0#32
  let v164 : BitVec 1 := Scalar.cmpi .ne v163 c0_i32_85
  let v168 : BitVec 1 := Scalar.andi v167 v164
  let v169 : BitVec 32 := Scalar.addi v163 v162
  let v170 : BitVec 32 := Scalar.select v168 v169 v163
  let v171 : BitVec 32 := Scalar.muli c8_i32_88 v170
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v172 : BitVec 32 := Scalar.addi v171 v29
  let c1_i32_113 : BitVec 32 := 1#32
  let v197 : BitVec 32 := Scalar.muli v172 c1_i32_113
  let v198 : BitVec 32 := Scalar.addi c0_i32_114 v197
  v198.toNat
def k0_dev7 (d0 : Dev nD) : Nat :=
  let c0_i32_117 : BitVec 32 := 0#32
  let c8_i32_96 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_89 : BitVec 32 := 3#32
  let v173 : BitVec 32 := Scalar.addi v19 c3_i32_89
  let c4_i32_90 : BitVec 32 := 4#32
  let c0_i32_91 : BitVec 32 := 0#32
  let v174 : BitVec 1 := Scalar.cmpi .eq c4_i32_90 c0_i32_91
  let c1_i32_92 : BitVec 32 := 1#32
  let v175 : BitVec 32 := Scalar.select v174 c1_i32_92 c4_i32_90
  let v176 : BitVec 32 := Scalar.remsi v173 v175
  let c0_i32_94 : BitVec 32 := 0#32
  let v178 : BitVec 1 := Scalar.cmpi .slt v176 c0_i32_94
  let c0_i32_95 : BitVec 32 := 0#32
  let v179 : BitVec 1 := Scalar.cmpi .slt v175 c0_i32_95
  let v180 : BitVec 1 := Scalar.xori v178 v179
  let c0_i32_93 : BitVec 32 := 0#32
  let v177 : BitVec 1 := Scalar.cmpi .ne v176 c0_i32_93
  let v181 : BitVec 1 := Scalar.andi v180 v177
  let v182 : BitVec 32 := Scalar.addi v176 v175
  let v183 : BitVec 32 := Scalar.select v181 v182 v176
  let v184 : BitVec 32 := Scalar.muli c8_i32_96 v183
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v185 : BitVec 32 := Scalar.addi v184 v29
  let c1_i32_116 : BitVec 32 := 1#32
  let v199 : BitVec 32 := Scalar.muli v185 c1_i32_116
  let v200 : BitVec 32 := Scalar.addi c0_i32_117 v199
  v200.toNat
def k0_dev8 (d0 : Dev nD) : Nat :=
  let c0_i32_194 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.muli c8_i32_30 v19
  let c2_i32_37 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v81 : BitVec 32 := Scalar.muli c2_i32_37 v80
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.addi v56 v46
  let c2_i32_23 : BitVec 32 := 2#32
  let c0_i32_24 : BitVec 32 := 0#32
  let v58 : BitVec 1 := Scalar.cmpi .eq c2_i32_23 c0_i32_24
  let c1_i32_25 : BitVec 32 := 1#32
  let v59 : BitVec 32 := Scalar.select v58 c1_i32_25 c2_i32_23
  let v60 : BitVec 32 := Scalar.remsi v57 v59
  let c0_i32_27 : BitVec 32 := 0#32
  let v62 : BitVec 1 := Scalar.cmpi .slt v60 c0_i32_27
  let c0_i32_28 : BitVec 32 := 0#32
  let v63 : BitVec 1 := Scalar.cmpi .slt v59 c0_i32_28
  let v64 : BitVec 1 := Scalar.xori v62 v63
  let c0_i32_26 : BitVec 32 := 0#32
  let v61 : BitVec 1 := Scalar.cmpi .ne v60 c0_i32_26
  let v65 : BitVec 1 := Scalar.andi v64 v61
  let v66 : BitVec 32 := Scalar.addi v60 v59
  let v67 : BitVec 32 := Scalar.select v65 v66 v60
  let v82 : BitVec 32 := Scalar.addi v67 v80
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v82 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let v93 : BitVec 32 := Scalar.addi v81 v92
  let v94 : BitVec 32 := Scalar.addi v69 v93
  let c1_i32_193 : BitVec 32 := 1#32
  let v375 : BitVec 32 := Scalar.muli v94 c1_i32_193
  let v376 : BitVec 32 := Scalar.addi c0_i32_194 v375
  v376.toNat
def k0_dev9 (d0 : Dev nD) : Nat :=
  let c0_i32_204 : BitVec 32 := 0#32
  let c8_i32_44 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v95 : BitVec 32 := Scalar.muli c8_i32_44 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_45 : BitVec 32 := 2#32
  let v96 : BitVec 32 := Scalar.addi v46 c2_i32_45
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi v96 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let v107 : BitVec 32 := Scalar.muli c2_i32_52 v106
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.addi v56 v46
  let c2_i32_23 : BitVec 32 := 2#32
  let c0_i32_24 : BitVec 32 := 0#32
  let v58 : BitVec 1 := Scalar.cmpi .eq c2_i32_23 c0_i32_24
  let c1_i32_25 : BitVec 32 := 1#32
  let v59 : BitVec 32 := Scalar.select v58 c1_i32_25 c2_i32_23
  let v60 : BitVec 32 := Scalar.remsi v57 v59
  let c0_i32_27 : BitVec 32 := 0#32
  let v62 : BitVec 1 := Scalar.cmpi .slt v60 c0_i32_27
  let c0_i32_28 : BitVec 32 := 0#32
  let v63 : BitVec 1 := Scalar.cmpi .slt v59 c0_i32_28
  let v64 : BitVec 1 := Scalar.xori v62 v63
  let c0_i32_26 : BitVec 32 := 0#32
  let v61 : BitVec 1 := Scalar.cmpi .ne v60 c0_i32_26
  let v65 : BitVec 1 := Scalar.andi v64 v61
  let v66 : BitVec 32 := Scalar.addi v60 v59
  let v67 : BitVec 32 := Scalar.select v65 v66 v60
  let v108 : BitVec 32 := Scalar.addi v67 v106
  let c2_i32_53 : BitVec 32 := 2#32
  let c0_i32_54 : BitVec 32 := 0#32
  let v109 : BitVec 1 := Scalar.cmpi .eq c2_i32_53 c0_i32_54
  let c1_i32_55 : BitVec 32 := 1#32
  let v110 : BitVec 32 := Scalar.select v109 c1_i32_55 c2_i32_53
  let v111 : BitVec 32 := Scalar.remsi v108 v110
  let c0_i32_57 : BitVec 32 := 0#32
  let v113 : BitVec 1 := Scalar.cmpi .slt v111 c0_i32_57
  let c0_i32_58 : BitVec 32 := 0#32
  let v114 : BitVec 1 := Scalar.cmpi .slt v110 c0_i32_58
  let v115 : BitVec 1 := Scalar.xori v113 v114
  let c0_i32_56 : BitVec 32 := 0#32
  let v112 : BitVec 1 := Scalar.cmpi .ne v111 c0_i32_56
  let v116 : BitVec 1 := Scalar.andi v115 v112
  let v117 : BitVec 32 := Scalar.addi v111 v110
  let v118 : BitVec 32 := Scalar.select v116 v117 v111
  let v119 : BitVec 32 := Scalar.addi v107 v118
  let v120 : BitVec 32 := Scalar.addi v95 v119
  let c1_i32_203 : BitVec 32 := 1#32
  let v385 : BitVec 32 := Scalar.muli v120 c1_i32_203
  let v386 : BitVec 32 := Scalar.addi c0_i32_204 v385
  v386.toNat
def k0_dev10 (d0 : Dev nD) : Nat :=
  let c0_i32_214 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v121 : BitVec 32 := Scalar.muli c8_i32_59 v19
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v122 : BitVec 32 := Scalar.addi v46 c3_i32
  let c4_i32_60 : BitVec 32 := 4#32
  let c0_i32_61 : BitVec 32 := 0#32
  let v123 : BitVec 1 := Scalar.cmpi .eq c4_i32_60 c0_i32_61
  let c1_i32_62 : BitVec 32 := 1#32
  let v124 : BitVec 32 := Scalar.select v123 c1_i32_62 c4_i32_60
  let v125 : BitVec 32 := Scalar.remsi v122 v124
  let c0_i32_64 : BitVec 32 := 0#32
  let v127 : BitVec 1 := Scalar.cmpi .slt v125 c0_i32_64
  let c0_i32_65 : BitVec 32 := 0#32
  let v128 : BitVec 1 := Scalar.cmpi .slt v124 c0_i32_65
  let v129 : BitVec 1 := Scalar.xori v127 v128
  let c0_i32_63 : BitVec 32 := 0#32
  let v126 : BitVec 1 := Scalar.cmpi .ne v125 c0_i32_63
  let v130 : BitVec 1 := Scalar.andi v129 v126
  let v131 : BitVec 32 := Scalar.addi v125 v124
  let v132 : BitVec 32 := Scalar.select v130 v131 v125
  let v133 : BitVec 32 := Scalar.muli c2_i32_66 v132
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.addi v56 v46
  let c2_i32_23 : BitVec 32 := 2#32
  let c0_i32_24 : BitVec 32 := 0#32
  let v58 : BitVec 1 := Scalar.cmpi .eq c2_i32_23 c0_i32_24
  let c1_i32_25 : BitVec 32 := 1#32
  let v59 : BitVec 32 := Scalar.select v58 c1_i32_25 c2_i32_23
  let v60 : BitVec 32 := Scalar.remsi v57 v59
  let c0_i32_27 : BitVec 32 := 0#32
  let v62 : BitVec 1 := Scalar.cmpi .slt v60 c0_i32_27
  let c0_i32_28 : BitVec 32 := 0#32
  let v63 : BitVec 1 := Scalar.cmpi .slt v59 c0_i32_28
  let v64 : BitVec 1 := Scalar.xori v62 v63
  let c0_i32_26 : BitVec 32 := 0#32
  let v61 : BitVec 1 := Scalar.cmpi .ne v60 c0_i32_26
  let v65 : BitVec 1 := Scalar.andi v64 v61
  let v66 : BitVec 32 := Scalar.addi v60 v59
  let v67 : BitVec 32 := Scalar.select v65 v66 v60
  let v134 : BitVec 32 := Scalar.addi v67 v132
  let c2_i32_67 : BitVec 32 := 2#32
  let c0_i32_68 : BitVec 32 := 0#32
  let v135 : BitVec 1 := Scalar.cmpi .eq c2_i32_67 c0_i32_68
  let c1_i32_69 : BitVec 32 := 1#32
  let v136 : BitVec 32 := Scalar.select v135 c1_i32_69 c2_i32_67
  let v137 : BitVec 32 := Scalar.remsi v134 v136
  let c0_i32_71 : BitVec 32 := 0#32
  let v139 : BitVec 1 := Scalar.cmpi .slt v137 c0_i32_71
  let c0_i32_72 : BitVec 32 := 0#32
  let v140 : BitVec 1 := Scalar.cmpi .slt v136 c0_i32_72
  let v141 : BitVec 1 := Scalar.xori v139 v140
  let c0_i32_70 : BitVec 32 := 0#32
  let v138 : BitVec 1 := Scalar.cmpi .ne v137 c0_i32_70
  let v142 : BitVec 1 := Scalar.andi v141 v138
  let v143 : BitVec 32 := Scalar.addi v137 v136
  let v144 : BitVec 32 := Scalar.select v142 v143 v137
  let v145 : BitVec 32 := Scalar.addi v133 v144
  let v146 : BitVec 32 := Scalar.addi v121 v145
  let c1_i32_213 : BitVec 32 := 1#32
  let v395 : BitVec 32 := Scalar.muli v146 c1_i32_213
  let v396 : BitVec 32 := Scalar.addi c0_i32_214 v395
  v396.toNat
def k0_dev11 (d0 : Dev nD) : Nat :=
  let c0_i32_268 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_73 : BitVec 32 := 1#32
  let v147 : BitVec 32 := Scalar.addi v19 c1_i32_73
  let c4_i32_74 : BitVec 32 := 4#32
  let c0_i32_75 : BitVec 32 := 0#32
  let v148 : BitVec 1 := Scalar.cmpi .eq c4_i32_74 c0_i32_75
  let c1_i32_76 : BitVec 32 := 1#32
  let v149 : BitVec 32 := Scalar.select v148 c1_i32_76 c4_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let v158 : BitVec 32 := Scalar.muli c8_i32_80 v157
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v159 : BitVec 32 := Scalar.addi v158 v29
  let c1_i32_267 : BitVec 32 := 1#32
  let v490 : BitVec 32 := Scalar.muli v159 c1_i32_267
  let v491 : BitVec 32 := Scalar.addi c0_i32_268 v490
  v491.toNat
def k0_dev12 (d0 : Dev nD) : Nat :=
  let c0_i32_277 : BitVec 32 := 0#32
  let c8_i32_88 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_81 : BitVec 32 := 2#32
  let v160 : BitVec 32 := Scalar.addi v19 c2_i32_81
  let c4_i32_82 : BitVec 32 := 4#32
  let c0_i32_83 : BitVec 32 := 0#32
  let v161 : BitVec 1 := Scalar.cmpi .eq c4_i32_82 c0_i32_83
  let c1_i32_84 : BitVec 32 := 1#32
  let v162 : BitVec 32 := Scalar.select v161 c1_i32_84 c4_i32_82
  let v163 : BitVec 32 := Scalar.remsi v160 v162
  let c0_i32_86 : BitVec 32 := 0#32
  let v165 : BitVec 1 := Scalar.cmpi .slt v163 c0_i32_86
  let c0_i32_87 : BitVec 32 := 0#32
  let v166 : BitVec 1 := Scalar.cmpi .slt v162 c0_i32_87
  let v167 : BitVec 1 := Scalar.xori v165 v166
  let c0_i32_85 : BitVec 32 := 0#32
  let v164 : BitVec 1 := Scalar.cmpi .ne v163 c0_i32_85
  let v168 : BitVec 1 := Scalar.andi v167 v164
  let v169 : BitVec 32 := Scalar.addi v163 v162
  let v170 : BitVec 32 := Scalar.select v168 v169 v163
  let v171 : BitVec 32 := Scalar.muli c8_i32_88 v170
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v172 : BitVec 32 := Scalar.addi v171 v29
  let c1_i32_276 : BitVec 32 := 1#32
  let v500 : BitVec 32 := Scalar.muli v172 c1_i32_276
  let v501 : BitVec 32 := Scalar.addi c0_i32_277 v500
  v501.toNat
def k0_dev13 (d0 : Dev nD) : Nat :=
  let c0_i32_286 : BitVec 32 := 0#32
  let c8_i32_96 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_89 : BitVec 32 := 3#32
  let v173 : BitVec 32 := Scalar.addi v19 c3_i32_89
  let c4_i32_90 : BitVec 32 := 4#32
  let c0_i32_91 : BitVec 32 := 0#32
  let v174 : BitVec 1 := Scalar.cmpi .eq c4_i32_90 c0_i32_91
  let c1_i32_92 : BitVec 32 := 1#32
  let v175 : BitVec 32 := Scalar.select v174 c1_i32_92 c4_i32_90
  let v176 : BitVec 32 := Scalar.remsi v173 v175
  let c0_i32_94 : BitVec 32 := 0#32
  let v178 : BitVec 1 := Scalar.cmpi .slt v176 c0_i32_94
  let c0_i32_95 : BitVec 32 := 0#32
  let v179 : BitVec 1 := Scalar.cmpi .slt v175 c0_i32_95
  let v180 : BitVec 1 := Scalar.xori v178 v179
  let c0_i32_93 : BitVec 32 := 0#32
  let v177 : BitVec 1 := Scalar.cmpi .ne v176 c0_i32_93
  let v181 : BitVec 1 := Scalar.andi v180 v177
  let v182 : BitVec 32 := Scalar.addi v176 v175
  let v183 : BitVec 32 := Scalar.select v181 v182 v176
  let v184 : BitVec 32 := Scalar.muli c8_i32_96 v183
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v185 : BitVec 32 := Scalar.addi v184 v29
  let c1_i32_285 : BitVec 32 := 1#32
  let v510 : BitVec 32 := Scalar.muli v185 c1_i32_285
  let v511 : BitVec 32 := Scalar.addi c0_i32_286 v510
  v511.toNat
def k0_dev14 (d0 : Dev nD) : Nat :=
  let c0_i32_338 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_73 : BitVec 32 := 1#32
  let v147 : BitVec 32 := Scalar.addi v19 c1_i32_73
  let c4_i32_74 : BitVec 32 := 4#32
  let c0_i32_75 : BitVec 32 := 0#32
  let v148 : BitVec 1 := Scalar.cmpi .eq c4_i32_74 c0_i32_75
  let c1_i32_76 : BitVec 32 := 1#32
  let v149 : BitVec 32 := Scalar.select v148 c1_i32_76 c4_i32_74
  let v150 : BitVec 32 := Scalar.remsi v147 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let v158 : BitVec 32 := Scalar.muli c8_i32_80 v157
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v159 : BitVec 32 := Scalar.addi v158 v29
  let c1_i32_337 : BitVec 32 := 1#32
  let v558 : BitVec 32 := Scalar.muli v159 c1_i32_337
  let v559 : BitVec 32 := Scalar.addi c0_i32_338 v558
  v559.toNat
def k0_dev15 (d0 : Dev nD) : Nat :=
  let c0_i32_348 : BitVec 32 := 0#32
  let c8_i32_88 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_81 : BitVec 32 := 2#32
  let v160 : BitVec 32 := Scalar.addi v19 c2_i32_81
  let c4_i32_82 : BitVec 32 := 4#32
  let c0_i32_83 : BitVec 32 := 0#32
  let v161 : BitVec 1 := Scalar.cmpi .eq c4_i32_82 c0_i32_83
  let c1_i32_84 : BitVec 32 := 1#32
  let v162 : BitVec 32 := Scalar.select v161 c1_i32_84 c4_i32_82
  let v163 : BitVec 32 := Scalar.remsi v160 v162
  let c0_i32_86 : BitVec 32 := 0#32
  let v165 : BitVec 1 := Scalar.cmpi .slt v163 c0_i32_86
  let c0_i32_87 : BitVec 32 := 0#32
  let v166 : BitVec 1 := Scalar.cmpi .slt v162 c0_i32_87
  let v167 : BitVec 1 := Scalar.xori v165 v166
  let c0_i32_85 : BitVec 32 := 0#32
  let v164 : BitVec 1 := Scalar.cmpi .ne v163 c0_i32_85
  let v168 : BitVec 1 := Scalar.andi v167 v164
  let v169 : BitVec 32 := Scalar.addi v163 v162
  let v170 : BitVec 32 := Scalar.select v168 v169 v163
  let v171 : BitVec 32 := Scalar.muli c8_i32_88 v170
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v172 : BitVec 32 := Scalar.addi v171 v29
  let c1_i32_347 : BitVec 32 := 1#32
  let v568 : BitVec 32 := Scalar.muli v172 c1_i32_347
  let v569 : BitVec 32 := Scalar.addi c0_i32_348 v568
  v569.toNat
def k0_dev16 (d0 : Dev nD) : Nat :=
  let c0_i32_358 : BitVec 32 := 0#32
  let c8_i32_96 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_89 : BitVec 32 := 3#32
  let v173 : BitVec 32 := Scalar.addi v19 c3_i32_89
  let c4_i32_90 : BitVec 32 := 4#32
  let c0_i32_91 : BitVec 32 := 0#32
  let v174 : BitVec 1 := Scalar.cmpi .eq c4_i32_90 c0_i32_91
  let c1_i32_92 : BitVec 32 := 1#32
  let v175 : BitVec 32 := Scalar.select v174 c1_i32_92 c4_i32_90
  let v176 : BitVec 32 := Scalar.remsi v173 v175
  let c0_i32_94 : BitVec 32 := 0#32
  let v178 : BitVec 1 := Scalar.cmpi .slt v176 c0_i32_94
  let c0_i32_95 : BitVec 32 := 0#32
  let v179 : BitVec 1 := Scalar.cmpi .slt v175 c0_i32_95
  let v180 : BitVec 1 := Scalar.xori v178 v179
  let c0_i32_93 : BitVec 32 := 0#32
  let v177 : BitVec 1 := Scalar.cmpi .ne v176 c0_i32_93
  let v181 : BitVec 1 := Scalar.andi v180 v177
  let v182 : BitVec 32 := Scalar.addi v176 v175
  let v183 : BitVec 32 := Scalar.select v181 v182 v176
  let v184 : BitVec 32 := Scalar.muli c8_i32_96 v183
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v185 : BitVec 32 := Scalar.addi v184 v29
  let c1_i32_357 : BitVec 32 := 1#32
  let v578 : BitVec 32 := Scalar.muli v185 c1_i32_357
  let v579 : BitVec 32 := Scalar.addi c0_i32_358 v578
  v579.toNat
def k0_dev17 (d0 : Dev nD) : Nat :=
  let c0_i32_410 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.muli c8_i32_30 v19
  let c2_i32_37 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v81 : BitVec 32 := Scalar.muli c2_i32_37 v80
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.addi v56 v46
  let c2_i32_23 : BitVec 32 := 2#32
  let c0_i32_24 : BitVec 32 := 0#32
  let v58 : BitVec 1 := Scalar.cmpi .eq c2_i32_23 c0_i32_24
  let c1_i32_25 : BitVec 32 := 1#32
  let v59 : BitVec 32 := Scalar.select v58 c1_i32_25 c2_i32_23
  let v60 : BitVec 32 := Scalar.remsi v57 v59
  let c0_i32_27 : BitVec 32 := 0#32
  let v62 : BitVec 1 := Scalar.cmpi .slt v60 c0_i32_27
  let c0_i32_28 : BitVec 32 := 0#32
  let v63 : BitVec 1 := Scalar.cmpi .slt v59 c0_i32_28
  let v64 : BitVec 1 := Scalar.xori v62 v63
  let c0_i32_26 : BitVec 32 := 0#32
  let v61 : BitVec 1 := Scalar.cmpi .ne v60 c0_i32_26
  let v65 : BitVec 1 := Scalar.andi v64 v61
  let v66 : BitVec 32 := Scalar.addi v60 v59
  let v67 : BitVec 32 := Scalar.select v65 v66 v60
  let v82 : BitVec 32 := Scalar.addi v67 v80
  let c2_i32_38 : BitVec 32 := 2#32
  let c0_i32_39 : BitVec 32 := 0#32
  let v83 : BitVec 1 := Scalar.cmpi .eq c2_i32_38 c0_i32_39
  let c1_i32_40 : BitVec 32 := 1#32
  let v84 : BitVec 32 := Scalar.select v83 c1_i32_40 c2_i32_38
  let v85 : BitVec 32 := Scalar.remsi v82 v84
  let c0_i32_42 : BitVec 32 := 0#32
  let v87 : BitVec 1 := Scalar.cmpi .slt v85 c0_i32_42
  let c0_i32_43 : BitVec 32 := 0#32
  let v88 : BitVec 1 := Scalar.cmpi .slt v84 c0_i32_43
  let v89 : BitVec 1 := Scalar.xori v87 v88
  let c0_i32_41 : BitVec 32 := 0#32
  let v86 : BitVec 1 := Scalar.cmpi .ne v85 c0_i32_41
  let v90 : BitVec 1 := Scalar.andi v89 v86
  let v91 : BitVec 32 := Scalar.addi v85 v84
  let v92 : BitVec 32 := Scalar.select v90 v91 v85
  let v93 : BitVec 32 := Scalar.addi v81 v92
  let v94 : BitVec 32 := Scalar.addi v69 v93
  let c1_i32_409 : BitVec 32 := 1#32
  let v626 : BitVec 32 := Scalar.muli v94 c1_i32_409
  let v627 : BitVec 32 := Scalar.addi c0_i32_410 v626
  v627.toNat
def k0_dev18 (d0 : Dev nD) : Nat :=
  let c0_i32_420 : BitVec 32 := 0#32
  let c8_i32_44 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v95 : BitVec 32 := Scalar.muli c8_i32_44 v19
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_45 : BitVec 32 := 2#32
  let v96 : BitVec 32 := Scalar.addi v46 c2_i32_45
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi v96 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let v107 : BitVec 32 := Scalar.muli c2_i32_52 v106
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.addi v56 v46
  let c2_i32_23 : BitVec 32 := 2#32
  let c0_i32_24 : BitVec 32 := 0#32
  let v58 : BitVec 1 := Scalar.cmpi .eq c2_i32_23 c0_i32_24
  let c1_i32_25 : BitVec 32 := 1#32
  let v59 : BitVec 32 := Scalar.select v58 c1_i32_25 c2_i32_23
  let v60 : BitVec 32 := Scalar.remsi v57 v59
  let c0_i32_27 : BitVec 32 := 0#32
  let v62 : BitVec 1 := Scalar.cmpi .slt v60 c0_i32_27
  let c0_i32_28 : BitVec 32 := 0#32
  let v63 : BitVec 1 := Scalar.cmpi .slt v59 c0_i32_28
  let v64 : BitVec 1 := Scalar.xori v62 v63
  let c0_i32_26 : BitVec 32 := 0#32
  let v61 : BitVec 1 := Scalar.cmpi .ne v60 c0_i32_26
  let v65 : BitVec 1 := Scalar.andi v64 v61
  let v66 : BitVec 32 := Scalar.addi v60 v59
  let v67 : BitVec 32 := Scalar.select v65 v66 v60
  let v108 : BitVec 32 := Scalar.addi v67 v106
  let c2_i32_53 : BitVec 32 := 2#32
  let c0_i32_54 : BitVec 32 := 0#32
  let v109 : BitVec 1 := Scalar.cmpi .eq c2_i32_53 c0_i32_54
  let c1_i32_55 : BitVec 32 := 1#32
  let v110 : BitVec 32 := Scalar.select v109 c1_i32_55 c2_i32_53
  let v111 : BitVec 32 := Scalar.remsi v108 v110
  let c0_i32_57 : BitVec 32 := 0#32
  let v113 : BitVec 1 := Scalar.cmpi .slt v111 c0_i32_57
  let c0_i32_58 : BitVec 32 := 0#32
  let v114 : BitVec 1 := Scalar.cmpi .slt v110 c0_i32_58
  let v115 : BitVec 1 := Scalar.xori v113 v114
  let c0_i32_56 : BitVec 32 := 0#32
  let v112 : BitVec 1 := Scalar.cmpi .ne v111 c0_i32_56
  let v116 : BitVec 1 := Scalar.andi v115 v112
  let v117 : BitVec 32 := Scalar.addi v111 v110
  let v118 : BitVec 32 := Scalar.select v116 v117 v111
  let v119 : BitVec 32 := Scalar.addi v107 v118
  let v120 : BitVec 32 := Scalar.addi v95 v119
  let c1_i32_419 : BitVec 32 := 1#32
  let v636 : BitVec 32 := Scalar.muli v120 c1_i32_419
  let v637 : BitVec 32 := Scalar.addi c0_i32_420 v636
  v637.toNat
def k0_dev19 (d0 : Dev nD) : Nat :=
  let c0_i32_430 : BitVec 32 := 0#32
  let c8_i32_59 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v121 : BitVec 32 := Scalar.muli c8_i32_59 v19
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v122 : BitVec 32 := Scalar.addi v46 c3_i32
  let c4_i32_60 : BitVec 32 := 4#32
  let c0_i32_61 : BitVec 32 := 0#32
  let v123 : BitVec 1 := Scalar.cmpi .eq c4_i32_60 c0_i32_61
  let c1_i32_62 : BitVec 32 := 1#32
  let v124 : BitVec 32 := Scalar.select v123 c1_i32_62 c4_i32_60
  let v125 : BitVec 32 := Scalar.remsi v122 v124
  let c0_i32_64 : BitVec 32 := 0#32
  let v127 : BitVec 1 := Scalar.cmpi .slt v125 c0_i32_64
  let c0_i32_65 : BitVec 32 := 0#32
  let v128 : BitVec 1 := Scalar.cmpi .slt v124 c0_i32_65
  let v129 : BitVec 1 := Scalar.xori v127 v128
  let c0_i32_63 : BitVec 32 := 0#32
  let v126 : BitVec 1 := Scalar.cmpi .ne v125 c0_i32_63
  let v130 : BitVec 1 := Scalar.andi v129 v126
  let v131 : BitVec 32 := Scalar.addi v125 v124
  let v132 : BitVec 32 := Scalar.select v130 v131 v125
  let v133 : BitVec 32 := Scalar.muli c2_i32_66 v132
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v57 : BitVec 32 := Scalar.addi v56 v46
  let c2_i32_23 : BitVec 32 := 2#32
  let c0_i32_24 : BitVec 32 := 0#32
  let v58 : BitVec 1 := Scalar.cmpi .eq c2_i32_23 c0_i32_24
  let c1_i32_25 : BitVec 32 := 1#32
  let v59 : BitVec 32 := Scalar.select v58 c1_i32_25 c2_i32_23
  let v60 : BitVec 32 := Scalar.remsi v57 v59
  let c0_i32_27 : BitVec 32 := 0#32
  let v62 : BitVec 1 := Scalar.cmpi .slt v60 c0_i32_27
  let c0_i32_28 : BitVec 32 := 0#32
  let v63 : BitVec 1 := Scalar.cmpi .slt v59 c0_i32_28
  let v64 : BitVec 1 := Scalar.xori v62 v63
  let c0_i32_26 : BitVec 32 := 0#32
  let v61 : BitVec 1 := Scalar.cmpi .ne v60 c0_i32_26
  let v65 : BitVec 1 := Scalar.andi v64 v61
  let v66 : BitVec 32 := Scalar.addi v60 v59
  let v67 : BitVec 32 := Scalar.select v65 v66 v60
  let v134 : BitVec 32 := Scalar.addi v67 v132
  let c2_i32_67 : BitVec 32 := 2#32
  let c0_i32_68 : BitVec 32 := 0#32
  let v135 : BitVec 1 := Scalar.cmpi .eq c2_i32_67 c0_i32_68
  let c1_i32_69 : BitVec 32 := 1#32
  let v136 : BitVec 32 := Scalar.select v135 c1_i32_69 c2_i32_67
  let v137 : BitVec 32 := Scalar.remsi v134 v136
  let c0_i32_71 : BitVec 32 := 0#32
  let v139 : BitVec 1 := Scalar.cmpi .slt v137 c0_i32_71
  let c0_i32_72 : BitVec 32 := 0#32
  let v140 : BitVec 1 := Scalar.cmpi .slt v136 c0_i32_72
  let v141 : BitVec 1 := Scalar.xori v139 v140
  let c0_i32_70 : BitVec 32 := 0#32
  let v138 : BitVec 1 := Scalar.cmpi .ne v137 c0_i32_70
  let v142 : BitVec 1 := Scalar.andi v141 v138
  let v143 : BitVec 32 := Scalar.addi v137 v136
  let v144 : BitVec 32 := Scalar.select v142 v143 v137
  let v145 : BitVec 32 := Scalar.addi v133 v144
  let v146 : BitVec 32 := Scalar.addi v121 v145
  let c1_i32_429 : BitVec 32 := 1#32
  let v646 : BitVec 32 := Scalar.muli v146 c1_i32_429
  let v647 : BitVec 32 := Scalar.addi c0_i32_430 v646
  v647.toNat
def k0_dev20 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v68 : BitVec 32 := Scalar.xori v2 c1_i32_29
  let c1_i32_484 : BitVec 32 := 1#32
  let v694 : BitVec 32 := Scalar.muli v68 c1_i32_484
  let v695 : BitVec 32 := Scalar.addi c0_i32_485 v694
  v695.toNat
def k0_dev21 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_29 : BitVec 32 := 1#32
  let v68 : BitVec 32 := Scalar.xori v2 c1_i32_29
  let c1_i32_539 : BitVec 32 := 1#32
  let v742 : BitVec 32 := Scalar.muli v68 c1_i32_539
  let v743 : BitVec 32 := Scalar.addi c0_i32_540 v742
  v743.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x256 : Shape := ⟨2, ![512, 256]⟩
abbrev S2x4096x4x64 : Shape := ⟨4, ![2, 4096, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S4096 : Shape := ⟨1, ![4096]⟩
abbrev S1x4096 : Shape := ⟨2, ![1, 4096]⟩
abbrev S128x4096 : Shape := ⟨2, ![128, 4096]⟩
abbrev S2x4x128x4096 : Shape := ⟨4, ![2, 4, 128, 4096]⟩
abbrev S1x1x128x4096 : Shape := ⟨4, ![1, 1, 128, 4096]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x4096x4x64, .f32⟩
  | .hbm, ⟨3, _⟩ => ⟨S2x4096x4x64, .f32⟩
  | .hbm, ⟨4, _⟩ => ⟨S256x512, .f32⟩
  | .hbm, ⟨5, _⟩ => ⟨S2x128x256, .f32⟩
  | .hbm, ⟨6, _⟩ => ⟨S2x128x4x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S128x4096, .i32⟩
  | .hbm, ⟨48, _⟩ => ⟨S128x4096, .i32⟩
  | .hbm, ⟨49, _⟩ => ⟨S128x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S128x4096, .i1⟩
  | .hbm, ⟨54, _⟩ => ⟨S128x4096, .i1⟩
  | .hbm, ⟨55, _⟩ => ⟨S128x4096, .i32⟩
  | .hbm, ⟨56, _⟩ => ⟨S128x4096, .i32⟩
  | .hbm, ⟨57, _⟩ => ⟨S128x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x4096, .i32⟩
  | .hbm, ⟨65, _⟩ => ⟨S128x4096, .i32⟩
  | .hbm, ⟨66, _⟩ => ⟨S_, .i32⟩
  | .hbm, ⟨67, _⟩ => ⟨S128x4096, .i32⟩
  | .hbm, ⟨68, _⟩ => ⟨S128x4096, .i1⟩
  | .hbm, ⟨69, _⟩ => ⟨S_, .i32⟩
  | .hbm, ⟨70, _⟩ => ⟨S128x4096, .i32⟩
  | .hbm, ⟨71, _⟩ => ⟨S128x4096, .i1⟩
  | .hbm, ⟨72, _⟩ => ⟨S_, .i32⟩
  | .hbm, ⟨73, _⟩ => ⟨S_, .i1⟩
  | .hbm, ⟨74, _⟩ => ⟨S128x4096, .i1⟩
  | .hbm, ⟨75, _⟩ => ⟨S128x4096, .i1⟩
  | .hbm, ⟨76, _⟩ => ⟨S128x4096, .i1⟩
  | .hbm, ⟨77, _⟩ => ⟨S128x4096, .i32⟩
  | .hbm, ⟨78, _⟩ => ⟨S128x4096, .i32⟩
  | .hbm, ⟨79, _⟩ => ⟨S128x4096, .i32⟩
  | .hbm, ⟨80, _⟩ => ⟨S_, .i32⟩
  | .hbm, ⟨81, _⟩ => ⟨S128x4096, .i32⟩
  | .hbm, ⟨82, _⟩ => ⟨S128x4096, .i1⟩
  | .hbm, ⟨83, _⟩ => ⟨S128x4096, .i1⟩
  | .hbm, ⟨84, _⟩ => ⟨S2x4x128x4096, .f32⟩
  | .hbm, ⟨85, _⟩ => ⟨S_, .f32⟩
  | .hbm, ⟨86, _⟩ => ⟨S2x4x128x4096, .f32⟩
  | .hbm, ⟨87, _⟩ => ⟨S2x4x128x4096, .f32⟩
  | .hbm, ⟨88, _⟩ => ⟨S1x1x128x4096, .i1⟩
  | .hbm, ⟨89, _⟩ => ⟨S_, .f32⟩
  | .hbm, ⟨90, _⟩ => ⟨S_, .f32⟩
  | .hbm, ⟨91, _⟩ => ⟨S2x4x128x4096, .i1⟩
  | .hbm, ⟨92, _⟩ => ⟨S2x4x128x4096, .f32⟩
  | .hbm, ⟨93, _⟩ => ⟨S2x4x128x4096, .f32⟩
  | .hbm, ⟨94, _⟩ => ⟨S_, .f32⟩
  | .hbm, ⟨95, _⟩ => ⟨S2x4x128, .f32⟩
  | .hbm, ⟨96, _⟩ => ⟨S2x4x128x1, .f32⟩
  | .hbm, ⟨97, _⟩ => ⟨S2x4x128x4096, .f32⟩
  | .hbm, ⟨98, _⟩ => ⟨S2x4x128x4096, .f32⟩
  | .hbm, ⟨99, _⟩ => ⟨S2x4x128x4096, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S2x4x128, .f32⟩
  | .hbm, ⟨105, _⟩ => ⟨S2x4x128x1, .f32⟩
  | .hbm, ⟨106, _⟩ => ⟨S_, .f32⟩
  | .hbm, ⟨107, _⟩ => ⟨S_, .f32⟩
  | .hbm, ⟨108, _⟩ => ⟨S2x4x128x1, .i1⟩
  | .hbm, ⟨109, _⟩ => ⟨S2x4x128x1, .f32⟩
  | .hbm, ⟨110, _⟩ => ⟨S2x4x128x1, .f32⟩
  | .hbm, ⟨111, _⟩ => ⟨S2x4x128x4096, .f32⟩
  | .hbm, ⟨112, _⟩ => ⟨S2x4x128x4096, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S2x4x128x4096, .i1⟩
  | .hbm, ⟨117, _⟩ => ⟨S2x4x128x4096, .f32⟩
  | .hbm, ⟨118, _⟩ => ⟨S2x4x128x4096, .f32⟩
  | .hbm, ⟨119, _⟩ => ⟨S2x4x64x128, .f32⟩
  | .hbm, ⟨120, _⟩ => ⟨S2x128x4x64, .f32⟩
  | .hbm, ⟨121, _⟩ => ⟨S2x128x256, .f32⟩
  | .hbm, ⟨122, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Peers.lean ====
/-
# The devices one device talks to

The 32 devices form four layers of eight, each layer a 2×4 snake. A device has seven partners, one per slot `s`:
slot 0 is its neighbour across the short side, slots 1, 2, 3 go one, two, three steps around its own column, and slots
4, 5, 6 go one, two, three layers up. Each slot is a permutation of the devices, and the partner across slot `s`
reaches back across slot `back s`. The kernel names the partners by integer arithmetic on its own number; here those
numbers are shown to be the partners, by trying all 32 devices.
-/
module

public import proofs.«01_k».proof.Proof.Gen.KernelIdeal
public import proofs.«01_k».proof.Proof.Gen.KernelIdeal.Skeleton

@[expose] public section

noncomputable section

namespace Cert.Attn

open Cert.KernelIdeal Cert.KernelIdeal.Gen
open Idealize.ShloMosaic

/-- The number, within a layer, of the device at column `x`, row `y` of the snake. -/
abbrev snake (x y : ℕ) : ℕ := 2 * y + (x + y) % 2

/-- The partner's number, by slot. -/
abbrev peerNo (s : Fin 7) (n : ℕ) : ℕ :=
  if s.val = 0 then (if n % 2 = 0 then n + 1 else n - 1)
  else if s.val < 4 then 8 * (n / 8) + snake ((n % 2 + n % 8 / 2) % 2) ((n % 8 / 2 + s.val) % 4)
  else 8 * ((n / 8 + (s.val - 3)) % 4) + n % 8

/-- A neighbour's number is a device's. -/
theorem peerNo_lt : ∀ (s : Fin 7) (c : Dev nD), peerNo s c.val < nD := by decide +kernel

set_option backward.proofsInPublic true in
/-- The partner of device `c` across slot `s`. -/
def peer (s : Fin 7) (c : Dev nD) : Dev nD := ⟨peerNo s c.val, peerNo_lt s c⟩

/-- The slot across which the partner reaches back. -/
def back (s : Fin 7) : Fin 7 := ![0, 3, 2, 1, 6, 5, 4] s

/-- The neighbour's neighbour across the opposite slot is the device itself. -/
theorem peer_back : ∀ (s : Fin 7) (c : Dev nD), peer (back s) (peer s c) = c := by decide +kernel
/-- The same, the other way about. -/
theorem back_peer : ∀ (s : Fin 7) (c : Dev nD), peer s (peer (back s) c) = c := by decide +kernel
/-- The opposite of the opposite slot. -/
theorem back_back : ∀ s : Fin 7, back (back s) = s := by decide

/-- A slot as a permutation of the devices. -/
def peerEquiv (s : Fin 7) : Dev nD ≃ Dev nD := ⟨peer s, peer (back s), peer_back s, back_peer s⟩

/-! The kernel's own arithmetic, number by number: signals 1–7, then the transfers in program order. -/

/-- Device number 1 that the body computes is the neighbour named. -/
theorem dev1_peer : ∀ c : Dev nD, (⟨k0_dev1 c, k0_dev1_lt c⟩ : Dev nD) = peer 0 c := by decide +kernel
/-- Device number 2 that the body computes is the neighbour named. -/
theorem dev2_peer : ∀ c : Dev nD, (⟨k0_dev2 c, k0_dev2_lt c⟩ : Dev nD) = peer 1 c := by decide +kernel
/-- Device number 3 that the body computes is the neighbour named. -/
theorem dev3_peer : ∀ c : Dev nD, (⟨k0_dev3 c, k0_dev3_lt c⟩ : Dev nD) = peer 2 c := by decide +kernel
/-- Device number 4 that the body computes is the neighbour named. -/
theorem dev4_peer : ∀ c : Dev nD, (⟨k0_dev4 c, k0_dev4_lt c⟩ : Dev nD) = peer 3 c := by decide +kernel
/-- Device number 5 that the body computes is the neighbour named. -/
theorem dev5_peer : ∀ c : Dev nD, (⟨k0_dev5 c, k0_dev5_lt c⟩ : Dev nD) = peer 4 c := by decide +kernel
/-- Device number 6 that the body computes is the neighbour named. -/
theorem dev6_peer : ∀ c : Dev nD, (⟨k0_dev6 c, k0_dev6_lt c⟩ : Dev nD) = peer 5 c := by decide +kernel
/-- Device number 7 that the body computes is the neighbour named. -/
theorem dev7_peer : ∀ c : Dev nD, (⟨k0_dev7 c, k0_dev7_lt c⟩ : Dev nD) = peer 6 c := by decide +kernel
/-- Device number 8 that the body computes is the neighbour named. -/
theorem dev8_peer : ∀ c : Dev nD, (⟨k0_dev8 c, k0_dev8_lt c⟩ : Dev nD) = peer 1 c := by decide +kernel
/-- Device number 9 that the body computes is the neighbour named. -/
theorem dev9_peer : ∀ c : Dev nD, (⟨k0_dev9 c, k0_dev9_lt c⟩ : Dev nD) = peer 2 c := by decide +kernel
/-- Device number 10 that the body computes is the neighbour named. -/
theorem dev10_peer : ∀ c : Dev nD, (⟨k0_dev10 c, k0_dev10_lt c⟩ : Dev nD) = peer 3 c := by decide +kernel
/-- Device number 11 that the body computes is the neighbour named. -/
theorem dev11_peer : ∀ c : Dev nD, (⟨k0_dev11 c, k0_dev11_lt c⟩ : Dev nD) = peer 4 c := by decide +kernel
/-- Device number 12 that the body computes is the neighbour named. -/
theorem dev12_peer : ∀ c : Dev nD, (⟨k0_dev12 c, k0_dev12_lt c⟩ : Dev nD) = peer 5 c := by decide +kernel
/-- Device number 13 that the body computes is the neighbour named. -/
theorem dev13_peer : ∀ c : Dev nD, (⟨k0_dev13 c, k0_dev13_lt c⟩ : Dev nD) = peer 6 c := by decide +kernel
/-- Device number 14 that the body computes is the neighbour named. -/
theorem dev14_peer : ∀ c : Dev nD, (⟨k0_dev14 c, k0_dev14_lt c⟩ : Dev nD) = peer 4 c := by decide +kernel
/-- Device number 15 that the body computes is the neighbour named. -/
theorem dev15_peer : ∀ c : Dev nD, (⟨k0_dev15 c, k0_dev15_lt c⟩ : Dev nD) = peer 5 c := by decide +kernel
/-- Device number 16 that the body computes is the neighbour named. -/
theorem dev16_peer : ∀ c : Dev nD, (⟨k0_dev16 c, k0_dev16_lt c⟩ : Dev nD) = peer 6 c := by decide +kernel
/-- Device number 17 that the body computes is the neighbour named. -/
theorem dev17_peer : ∀ c : Dev nD, (⟨k0_dev17 c, k0_dev17_lt c⟩ : Dev nD) = peer 1 c := by decide +kernel
/-- Device number 18 that the body computes is the neighbour named. -/
theorem dev18_peer : ∀ c : Dev nD, (⟨k0_dev18 c, k0_dev18_lt c⟩ : Dev nD) = peer 2 c := by decide +kernel
/-- Device number 19 that the body computes is the neighbour named. -/
theorem dev19_peer : ∀ c : Dev nD, (⟨k0_dev19 c, k0_dev19_lt c⟩ : Dev nD) = peer 3 c := by decide +kernel
/-- Device number 20 that the body computes is the neighbour named. -/
theorem dev20_peer : ∀ c : Dev nD, (⟨k0_dev20 c, k0_dev20_lt c⟩ : Dev nD) = peer 0 c := by decide +kernel
/-- Device number 21 that the body computes is the neighbour named. -/
theorem dev21_peer : ∀ c : Dev nD, (⟨k0_dev21 c, k0_dev21_lt c⟩ : Dev nD) = peer 0 c := by decide +kernel

end Cert.Attn

end
-- ==== Proof.Contents.lean ====
/-
# What each device's buffers hold

A device's own share of the keys gives, for each query row and head, an unnormalised output row (64 columns) and the
sum of its weights (one column): 4·64 + 4 columns of one 128-row slab, one slab per query batch. Three exchanges follow.
In each a device adds to its slab the slabs of the partners of one group, so the slab of a later stage is a sum over more
devices; after three stages it is the sum over all 32. Batch 0 exchanges along the column, then the layers, then the short
side; batch 1 along the layers, then the column, then the short side. The result rows are the summed output divided by
the summed weights, times the output projection.
-/
module

public import proofs.«01_k».proof.Proof.Peers

@[expose] public section

noncomputable section

namespace Cert.Attn

open Cert.KernelIdeal Cert.KernelIdeal.Gen
open Idealize.ShloMosaic Idealize.ShloMosaic.TcCoe

variable {F : FTy → Type} [FloatOps F]

/-- The index of a rank-3 array from its coordinates. -/
def ix3 {d : Fin 3 → ℕ} (a : Fin (d 0)) (b : Fin (d 1)) (c : Fin (d 2)) : (⟨3, d⟩ : Shape).Idx :=
  fun | 0 => a | 1 => b | 2 => c

/-- A slab from its eight column groups: four of 64 columns, then four of one. -/
def slabOf (n0 n1 n2 n3 : Vec F S1x128x64 .bf16) (d0 d1 d2 d3 : Vec F S1x128x1 .bf16) : Vec F S1x128x260 .bf16 := fun i =>
  let r : Fin 128 := i (1 : Fin 3)
  let k : ℕ := (i (2 : Fin 3)).val
  if k < 64 then n0 (ix3 (d := ![1, 128, 64]) (0 : Fin 1) r (⟨k % 64, Nat.mod_lt _ (by decide)⟩ : Fin 64))
  else if k < 128 then n1 (ix3 (d := ![1, 128, 64]) (0 : Fin 1) r (⟨k % 64, Nat.mod_lt _ (by decide)⟩ : Fin 64))
  else if k < 192 then n2 (ix3 (d := ![1, 128, 64]) (0 : Fin 1) r (⟨k % 64, Nat.mod_lt _ (by decide)⟩ : Fin 64))
  else if k < 256 then n3 (ix3 (d := ![1, 128, 64]) (0 : Fin 1) r (⟨k % 64, Nat.mod_lt _ (by decide)⟩ : Fin 64))
  else if k = 256 then d0 (ix3 (d := ![1, 128, 1]) (0 : Fin 1) r (0 : Fin 1))
  else if k = 257 then d1 (ix3 (d := ![1, 128, 1]) (0 : Fin 1) r (0 : Fin 1))
  else if k = 258 then d2 (ix3 (d := ![1, 128, 1]) (0 : Fin 1) r (0 : Fin 1))
  else d3 (ix3 (d := ![1, 128, 1]) (0 : Fin 1) r (0 : Fin 1))

/-! ## The first slab of each batch, from one device's blocks -/

section Local

variable (c : Dev nD) (x : Vec F S2x128x512 .f32) (wq : Vec F S512x256 .f32) (kk vv : Vec F S2x128x4x64 .f32)

/-- The device's number as the kernel reads it. -/
abbrev devWord : BitVec 32 := Scalar.remsi (Scalar.divsi (Dev.word c) 1#32) 32#32

/-- Which pairs of a query row and a key of this device's share may meet. -/
def maskOf : IVec S128x128 1 := k0_pay9 k0_pay4 (Scalar.muli (devWord c) 2#32) k0_pay5 k0_pay6 k0_pay7 k0_pay8

/-- The first batch's slab. -/
def partA : Vec F S1x128x260 .bf16 :=
  let q := k0_pay1 x wq
  let k := k0_pay2 kk
  let v := k0_pay3 vv
  let q0 := k0_pay10 q
  let k0 := k0_pay11 k
  let v0 := k0_pay12 v
  let w := Scalar.muli (devWord c) 2#32
  slabOf
    (k0_pay16 (k0_pay13 q k k0_pay4 w k0_pay5 k0_pay6 k0_pay7 k0_pay8) (k0_pay15 v) (constant S128x64 .f32 0x00000000#32))
    (k0_pay19 (maskOf c) q0 k0 v0)
    (k0_pay23 (maskOf c) v0 (k0_pay21 q0 k0) (Scalar.ofBits .f32 0#32))
    (k0_pay26 (maskOf c) q0 k0 v0)
    (k0_pay17 (k0_pay14 q k k0_pay4 w k0_pay5 k0_pay6 k0_pay7 k0_pay8))
    (k0_pay20 (maskOf c) q0 k0)
    (k0_pay24 (maskOf c) (k0_pay21 q0 k0) (Scalar.ofBits .f32 0#32))
    (k0_pay27 (maskOf c) q0 k0)

/-- The second batch's slab. -/
def partB : Vec F S1x128x260 .bf16 :=
  let q := k0_pay1 x wq
  let k := k0_pay2 kk
  let v := k0_pay3 vv
  let q1 := k0_pay28 q
  let k1 := k0_pay29 k
  let v1 := k0_pay30 v
  slabOf
    (k0_pay32 q k v (maskOf c)) (k0_pay37 (k0_pay36 q k v (maskOf c))) (k0_pay40 (maskOf c) q1 k1 v1)
    (k0_pay44 v1 (k0_pay42 (maskOf c) q1 k1))
    (k0_pay33 q k (maskOf c)) (k0_pay38 (k0_pay35 q k (maskOf c))) (k0_pay41 (maskOf c) q1 k1)
    (k0_pay45 (k0_pay43 (maskOf c) q1 k1))

end Local

/-! ## The exchanges -/

/-- The stage at which slot `s` of a batch is used: the batch's source stage. -/
def stage (b : Bool) (s : Fin 7) : Fin 4 :=
  if s.val = 0 then 2 else if (s.val < 4) = (b = false) then 0 else 1

/-- The device whose slab arrives across slot `s`. -/
abbrev src (s : Fin 7) (c : Dev nD) : Dev nD := peer (back s) c

section Chain

variable (A B : Dev nD → Vec F S1x128x260 .bf16)

/-- The first batch after its first stage: the own slab and three arrived ones. -/
def sA1 (c : Dev nD) : Vec F S1x128x260 .bf16 := k0_pay47 (k0_pay46 (A c) (A (src 1 c))) (A (src 2 c)) (A (src 3 c))
/-- The first batch after its second stage. -/
def sA2 (c : Dev nD) : Vec F S1x128x260 .bf16 := k0_pay52 (k0_pay51 (sA1 A c) (sA1 A (src 4 c))) (sA1 A (src 5 c)) (sA1 A (src 6 c))
/-- The first batch after its last stage: the sum over all the devices. -/
def sA3 (c : Dev nD) : Vec F S1x128x260 .bf16 := k0_pay55 (sA2 A c) (sA2 A (src 0 c))
/-- The second batch after its first stage: the own slab and three arrived ones. -/
def sB1 (c : Dev nD) : Vec F S1x128x260 .bf16 := k0_pay50 (k0_pay49 (k0_pay48 (B c)) (B (src 4 c)) (B (src 5 c))) (B (src 6 c))
/-- The second batch after its second stage. -/
def sB2 (c : Dev nD) : Vec F S1x128x260 .bf16 := k0_pay54 (k0_pay53 (sB1 B c) (sB1 B (src 1 c))) (sB1 B (src 2 c)) (sB1 B (src 3 c))
/-- The second batch after its last stage: the sum over all the devices. -/
def sB3 (c : Dev nD) : Vec F S1x128x260 .bf16 := k0_pay58 (sB2 B c) (sB2 B (src 0 c))

end Chain

/-- The result block from the two final slabs and the output projection. -/
def outOf (a b : Vec F S1x128x260 .bf16) (wo : Vec F S256x512 .f32) : Vec F S2x128x512 .f32 := fun i =>
  if (i (0 : Fin 3)).val = 0 then k0_pay57 (k0_pay56 a wo) (ix3 (d := ![1, 128, 512]) (0 : Fin 1) (i (1 : Fin 3)) (i (2 : Fin 3)))
  else k0_pay60 (k0_pay59 b) wo (ix3 (d := ![1, 128, 512]) (0 : Fin 1) (i (1 : Fin 3)) (i (2 : Fin 3)))

/-! ## From the memory at launch -/

section Mem

variable (m : (ℓ : Loc nD τ sig) → Buf (Elt F) ℓ)

/-- The staged copies of device `c`'s five arguments. -/
def inX (c : Dev nD) : Vec F S2x128x512 .f32 := (win0_0.blk (0 : Fin 1)).view.read (Elt F) (m ((c : Thread nD τ).loc main_arg0))
/-- The query weights that device `c` reads. -/
def inWq (c : Dev nD) : Vec F S512x256 .f32 := (win0_1.blk (0 : Fin 1)).view.read (Elt F) (m ((c : Thread nD τ).loc main_arg1))
/-- The keys that device `c` reads. -/
def inK (c : Dev nD) : Vec F S2x128x4x64 .f32 := (win0_2.blk (0 : Fin 1)).view.read (Elt F) (m ((c : Thread nD τ).loc main_arg2))
/-- The values that device `c` reads. -/
def inV (c : Dev nD) : Vec F S2x128x4x64 .f32 := (win0_3.blk (0 : Fin 1)).view.read (Elt F) (m ((c : Thread nD τ).loc main_arg3))
/-- The output weights that device `c` reads. -/
def inWo (c : Dev nD) : Vec F S256x512 .f32 := (win0_4.blk (0 : Fin 1)).view.read (Elt F) (m ((c : Thread nD τ).loc main_arg4))

/-- The first batch's first slab on device `c`, from the memory at the start. -/
def partAm (c : Dev nD) : Vec F S1x128x260 .bf16 := partA c (inX m c) (inWq m c) (inK m c) (inV m c)
/-- The second batch's first slab on device `c`, from the memory at the start. -/
def partBm (c : Dev nD) : Vec F S1x128x260 .bf16 := partB c (inX m c) (inWq m c) (inK m c) (inV m c)

/-- The slab of batch `b` (`false` the first) at stage `k` on device `c`. -/
def slabAt (b : Bool) (k : Fin 4) (c : Dev nD) : Vec F S1x128x260 .bf16 :=
  match b, k with
  | false, 0 => partAm m c
  | false, 1 => sA1 (partAm m) c
  | false, 2 => sA2 (partAm m) c
  | false, 3 => sA3 (partAm m) c
  | true, 0 => partBm m c
  | true, 1 => sB1 (partBm m) c
  | true, 2 => sB2 (partBm m) c
  | true, 3 => sB3 (partBm m) c

/-- What lands in slot `s` of batch `b` on device `c`. -/
def landed (b : Bool) (s : Fin 7) (c : Dev nD) : Vec F S1x128x260 .bf16 := slabAt m b (stage b s) (src s c)

/-- The result block on device `c`. -/
def outAt (c : Dev nD) : Vec F S2x128x512 .f32 := outOf (slabAt m false 3 c) (slabAt m true 3 c) (inWo m c)

end Mem

end Cert.Attn

end
-- ==== Proof.Slots.lean ====
/-
# The slabs, the landing slots and the semaphores

Batch `b` has a buffer of four slabs (one per stage), a buffer of seven landing slots (one per partner), and a send and a
receive semaphore per partner. Here they are named by batch, stage and slot; the kernel's own texts of them, at
literal numbers, are these by unfolding. A slab's slice and its two-dimensional form own the same elements.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.MemrefSat
public import Idealize.ShloMosaic.Lib.ViewIndex
public import Idealize.ShloMosaic.Lib.WritesUnit

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's accounts: one set of duties of every cell, named by slot. -/
abbrev UB : Type := URounds (GSem nD τ sig) (Fin 7)
/-- The ghost state: the machine's own and the exchange's. -/
abbrev UU : Type := UR sig nD τ × UB

local notation "𝕄" => MT nD τ sig Unit (Elt F) ℕ UU ℕ

/-- The machine's part of it. -/
abbrev EP : Emb (UR sig nD τ) (MT nD τ sig Unit (Elt F) ℕ UU ℕ) := embL
/-- The exchange's part of it. -/
abbrev ER : Emb UB (MT nD τ sig Unit (Elt F) ℕ UU ℕ) := embR

/-- No loop variants are needed. -/
abbrev 𝒱₀ : Variants := Variants.none

/-! ## Buffers by batch, stage and slot -/

/-- Batch `b`'s four slabs, its seven landing slots. -/
abbrev slabsM (b : Bool) : Memref sig .tc .vmem S4x128x260 .bf16 := match b with
  | false => Memref.whole cc0_scratch0 | true => Memref.whole cc0_scratch1
/-- A batch's landing buffer. -/
abbrev slotsM (b : Bool) : Memref sig .tc .vmem S7x128x260 .bf16 := match b with
  | false => Memref.whole cc0_scratch2 | true => Memref.whole cc0_scratch3

/-- A slab lies in its buffer. -/
theorem slab_inb : ∀ (k : Fin 4) (a : Fin S4x128x260.rank), (![k.val, 0, 0] : Fin 3 → ℕ) a + S1x128x260.size a ≤ S4x128x260.size a := by decide
/-- A slot lies in its buffer. -/
theorem slot_inb : ∀ (s : Fin 7) (a : Fin S7x128x260.rank), (![s.val, 0, 0] : Fin 3 → ℕ) a + S1x128x260.size a ≤ S7x128x260.size a := by decide

/-- A slab's place in its buffer. -/
abbrev slabR (k : Fin 4) : Rect S4x128x260 := Rect.unit (s := S4x128x260) ![k.val, 0, 0] S1x128x260.size (slab_inb k)
/-- A slot's place in its buffer. -/
abbrev slotR (s : Fin 7) : Rect S7x128x260 := Rect.unit (s := S7x128x260) ![s.val, 0, 0] S1x128x260.size (slot_inb s)

/-- The slab of stage `k`, as a one-slab slice and as a plain matrix; the landing slot of partner `s` likewise. -/
abbrev slab (b : Bool) (k : Fin 4) : Memref sig .tc .vmem S1x128x260 .bf16 := (slabsM b).slice (slabR k) (fun _ => rfl)
/-- A slab, as the copies read it. -/
abbrev slabQ (b : Bool) (k : Fin 4) : Memref sig .tc .vmem S128x260 .bf16 := (slab b k).squeeze S128x260 squeezes_S1x128x260_S128x260
/-- A landing slot. -/
abbrev slot (b : Bool) (s : Fin 7) : Memref sig .tc .vmem S1x128x260 .bf16 := (slotsM b).slice (slotR s) (fun _ => rfl)
/-- A landing slot, as the copies write it. -/
abbrev slotQ (b : Bool) (s : Fin 7) : Memref sig .tc .vmem S128x260 .bf16 := (slot b s).squeeze S128x260 squeezes_S1x128x260_S128x260

/-- The send and receive semaphores of batch `b`, partner `s`, in the pool of the launch. -/
def sendIx (b : Bool) (s : Fin 7) : DmaSem sig := ⟨6 + (if b then 14 else 0) + s.val, by cases b <;> revert s <;> decide⟩
/-- A slot's receive semaphore, by number. -/
def recvIx (b : Bool) (s : Fin 7) : DmaSem sig := ⟨13 + (if b then 14 else 0) + s.val, by cases b <;> revert s <;> decide⟩

/-- The runtime's barrier semaphore. -/
abbrev barS : Sem sig := (SemArray.scalar (sig.barrier 0 rfl) : Sems sig S_).sem

/-- A slot's send semaphore. -/
abbrev sendS (b : Bool) (s : Fin 7) : SemLoc sig := .dma (sendIx b s)
/-- A slot's receive semaphore. -/
abbrev recvS (b : Bool) (s : Fin 7) : SemLoc sig := .dma (recvIx b s)
/-- A device's barrier. -/
abbrev barCell (c : Dev nD) : GSem nD τ sig := ((c : Thread nD τ), .reg barS)
/-- A device's send semaphore. -/
abbrev sendCell (b : Bool) (s : Fin 7) (c : Dev nD) : GSem nD τ sig := ((c : Thread nD τ), sendS b s)
/-- A device's receive semaphore. -/
abbrev recvCell (b : Bool) (s : Fin 7) (c : Dev nD) : GSem nD τ sig := ((c : Thread nD τ), recvS b s)

/-- One slab's transfer credit. -/
abbrev N : ℕ := (slotQ false 0).view.dmaCredit
/-- A copy has a size. -/
theorem N_pos : 0 < N := View.dmaCredit_pos _ (by decide)
/-- A copy into a slot pays one copy's size. -/
theorem slot_credit (b : Bool) (s : Fin 7) : (slotQ b s).view.dmaCredit = N := by cases b <;> rfl
/-- A copy from a slab pays one copy's size. -/
theorem slab_credit (b : Bool) (k : Fin 4) : (slabQ b k).view.dmaCredit = N := by cases b <;> rfl
/-- A landing pays one copy's size. -/
theorem slot_amount (b : Bool) (s : Fin 7) (sm : SemLoc sig) (h : sm = recvS b s) : (slotQ b s).view.amount sm = N := by
  subst h; exact slot_credit b s

/-! ## Shares: the sender keeps half of a slab to read it while copies of it are on their way -/

/-- The share of a slab lent to the copy to partner `s`. -/
def lent (s : Fin 7) : PosShare TreeShare :=
  ![fullShare.right, fullShare.right.left, fullShare.right.right.left, fullShare.right.right.right,
    fullShare.right.left, fullShare.right.right.left, fullShare.right.right.right] s
/-- The share of a slab that the device keeps while copies read it. -/
abbrev kept : PosShare TreeShare := fullShare.left

section Shares

variable (c : Dev nD) {sh : Shape} {e : EltTy} (M : Memref sig .tc .vmem sh e) (X : sh.Idx → Elt F e)

/-- A slab is the part kept and the part lent to one copy. -/
theorem lend_one : (owns (c : Thread nD τ) M fullShare X : sProp 𝕄) ⊣⊢ iprop(owns (c : Thread nD τ) M kept X ∗ owns (c : Thread nD τ) M (lent 0) X) :=
  owns_halves (c : Thread nD τ) M fullShare X

/-- A slab splits into the part kept and three parts lent. -/
theorem lend_three : (owns (c : Thread nD τ) M fullShare X : sProp 𝕄)
    ⊢ iprop(owns (c : Thread nD τ) M kept X ∗ owns (c : Thread nD τ) M (lent 1) X ∗ owns (c : Thread nD τ) M (lent 2) X ∗ owns (c : Thread nD τ) M (lent 3) X) :=
  (owns_halves (c : Thread nD τ) M fullShare X).1.trans (sep_mono_right
    ((owns_halves (c : Thread nD τ) M fullShare.right X).1.trans (sep_mono_right (owns_halves (c : Thread nD τ) M fullShare.right.right X).1)))

/-- The part kept and three parts lent make the slab whole. -/
theorem unlend_three :
    iprop(owns (c : Thread nD τ) M kept X ∗ owns (c : Thread nD τ) M (lent 1) X ∗ owns (c : Thread nD τ) M (lent 2) X ∗ owns (c : Thread nD τ) M (lent 3) X)
      ⊢ (owns (c : Thread nD τ) M fullShare X : sProp 𝕄) :=
  (sep_mono_right ((sep_mono_right (owns_halves (c : Thread nD τ) M fullShare.right.right X).2).trans
    (owns_halves (c : Thread nD τ) M fullShare.right X).2)).trans (owns_halves (c : Thread nD τ) M fullShare X).2

/-- The shares lent across slots 4 to 6 are those of slots 1 to 3. -/
theorem lent_late : (lent 4 = lent 1) ∧ (lent 5 = lent 2) ∧ (lent 6 = lent 3) := ⟨rfl, rfl, rfl⟩

end Shares

/-! ## Reading and writing an owned memref -/

section Access

variable (c : Dev nD) {sh : Shape} {e : EltTy} {α : Type}

/-- A load of a whole slab-like rectangle of a buffer, from the ownership of that rectangle's slice. -/
theorem step_load {M : Memref sig .tc .vmem sh e} {r : Rect sh} (hr : ∀ a, r.stride a = 1) {q : PosShare TreeShare} (X : r.shape.Idx → Elt F e)
    {hl : M.view.LoadsAt r} {k : (r.shape.Idx → Elt F e) → Prog (TpuEff nD τ sig (Elt F) Λ₀ .tc) α} {Q : α → sProp 𝕄} :
    (owns (c : Thread nD τ) (M.slice r hr) q X : sProp 𝕄)
      ⊢ iprop((owns (c : Thread nD τ) (M.slice r hr) q X -∗ wp frame (wpE (defs₀ (F := F)) 𝒱₀ (c : Thread nD τ) none) Set.univ (k X) Q)
        -∗ wp frame (wpE (defs₀ (F := F)) 𝒱₀ (c : Thread nD τ) none) Set.univ (.op (.load M r.toLoadRect hl) k) Q) := by
  iintro H Hk
  ihave H' := (show owns (c : Thread nD τ) (M.slice r hr) q X
    ⊢ (iprop(∃ g, ⌜(M.slice r hr).view.read (Elt F) g = X⌝ ∗ (M.slice r hr).view.loc (c : Thread nD τ) ↦[(M.slice r hr).view.set]{q} g) : sProp 𝕄) from .rfl) $$ H
  icases H' with ⟨%g, %hg, H⟩
  iapply (wp_load_rect 𝒱₀ (c : Thread nD τ) none Set.univ (m := M) (r := r) (Finset.Subset.refl _)) $$ H
  iintro H
  have hX : (M.access r).read (Elt F) g = X := hg
  rw [hX]
  iapply Hk
  unfold owns
  iexists g
  isplitr; · ipureintro; exact hg
  iexact H

/-- A store to a whole slice, from its full ownership at any contents. -/
theorem step_store {M : Memref sig .tc .vmem sh e} {r : Rect sh} (hr : ∀ a, r.stride a = 1) (X w : r.shape.Idx → Elt F e)
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (owns (c : Thread nD τ) (M.slice r hr) fullShare X : sProp 𝕄)
      ⊢ iprop((owns (c : Thread nD τ) (M.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  iintro H Hk
  ihave H' := (show owns (c : Thread nD τ) (M.slice r hr) fullShare X
    ⊢ (iprop(∃ g, ⌜(M.slice r hr).view.read (Elt F) g = X⌝ ∗ (M.slice r hr).view.loc (c : Thread nD τ) ↦[(M.slice r hr).view.set]{fullShare} g) : sProp 𝕄) from .rfl) $$ H
  icases H' with ⟨%g, %hg, H⟩
  iapply (wp_store 𝒱₀ (c : Thread nD τ) none Set.univ (m := M) (r := r) (Mk := Finset.univ) (w := w) (hx := hx) (hm := hm)
    (S := (M.access r).set) (f := g) (Finset.Subset.refl _)) $$ H
  iintro H
  iapply Hk
  unfold owns
  iexists ((M.access r).write (Elt F) g w Finset.univ)
  isplitr; · ipureintro; exact View.read_write_univ g w
  iexact H

/-- A whole buffer after a list of stores to it, newest first: some old contents overwritten. -/
def written (M : Memref sig .tc .vmem sh e) (L : List (View.Piece (Elt F) sh e)) : sProp 𝕄 :=
  iprop(∃ f : Buf (Elt F) (M.view.loc (c : Thread nD τ)), M.view.loc (c : Thread nD τ) ↦{fullShare} M.view.writes (Elt F) f L)

/-- A load from such a buffer reads something; nothing here depends on what. -/
theorem step_peek {M : Memref sig .tc .vmem sh e} {r : LoadRect sh} {L : List (View.Piece (Elt F) sh e)}
    {hl : M.view.LoadsAt r} {k : (r.shape.Idx → Elt F e) → Prog (TpuEff nD τ sig (Elt F) Λ₀ .tc) α} {Q : α → sProp 𝕄} :
    (written c M L : sProp 𝕄)
      ⊢ iprop((∀ X, written c M L -∗ wp frame (wpE (defs₀ (F := F)) 𝒱₀ (c : Thread nD τ) none) Set.univ (k X) Q)
        -∗ wp frame (wpE (defs₀ (F := F)) 𝒱₀ (c : Thread nD τ) none) Set.univ (.op (.load M r hl) k) Q) := by
  unfold written
  iintro ⟨%f, H⟩ Hk
  iapply (wp_load 𝒱₀ (c : Thread nD τ) none Set.univ (m := M) (r := r) (Finset.subset_univ _)) $$ H
  iintro H
  iapply Hk
  iexists f; iexact H

/-- A store adds its piece. -/
theorem step_piece {M : Memref sig .tc .vmem sh e} {r : Rect sh} {L : List (View.Piece (Elt F) sh e)} (w : r.shape.Idx → Elt F e)
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (written c M L : sProp 𝕄)
      ⊢ iprop((written c M (⟨r, w⟩ :: L) -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold written
  iintro ⟨%f, H⟩ Hk
  iapply (wp_store 𝒱₀ (c : Thread nD τ) none Set.univ (m := M) (r := r) (Mk := Finset.univ) (w := w) (hx := hx) (hm := hm)
    (S := Finset.univ) (f := M.view.writes (Elt F) f L) (Finset.subset_univ _)) $$ H
  iintro H
  iapply Hk
  iexists f; iexact H

end Access

/-- A slab copied to a landing slot, both as plain matrices, is read back there as the slab. -/
theorem copy_read (b : Bool) (k : Fin 4) (s : Fin 7) (fd : (slot b s).view.ty.Contents (Elt F)) (fs : (slab b k).view.ty.Contents (Elt F)) :
    (slot b s).view.read (Elt F) ((slotQ b s).view.write (Elt F) fd ((slabQ b k).view.read (Elt F) fs) Finset.univ)
      = (slab b k).view.read (Elt F) fs := by
  funext x
  have h := View.read_write_reshape (v := (slot b s).view) (s' := S128x260) squeezes_S1x128x260_S128x260.numel_eq fd ((slabQ b k).view.read (Elt F) fs)
    ((Shape.reshapeEquiv squeezes_S1x128x260_S128x260.numel_eq).symm x)
  rw [Equiv.apply_symm_apply] at h
  refine h.trans ?_
  show (slab b k).view.read (Elt F) fs (Shape.reshapeEquiv _ ((Shape.reshapeEquiv _).symm x)) = _
  rw [Equiv.apply_symm_apply]

end Cert.Attn

end
-- ==== Proof.Protocol.lean ====
/-
# The protocol

Seven copies per batch leave each device and seven arrive, one across each slot. A device first raises the barrier
counter of its seven partners by one each and waits for seven on its own: a partner's unit says that its landing slots
for this device may be written, and hands them over. Then it sends the first slabs, and in each of the three stages waits
for what arrives across the stage's slots, adds it up and sends the sum on. A copy's landing pays the receiver's counter,
with the landing slot holding the sender's slab; its departure pays the sender's own, with the share of the slab lent to
it. A device waits only on counters of a lower level than everything it still owes: the barrier below the arrivals, and
the arrivals in the order in which both batches go through their stages.
-/
module

public import proofs.«01_k».proof.Proof.Slots

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

/-- Which transfer a semaphore of the pool belongs to: batch, whether it counts arrivals, slot. -/
def xfer (q : DmaSem sig) : Option (Bool × Bool × Fin 7) :=
  if q.val < 6 then none
  else some (decide (20 ≤ q.val), decide (7 ≤ (q.val - 6) % 14), ⟨(q.val - 6) % 7, Nat.mod_lt _ (by decide)⟩)

/-- Which copy a send semaphore belongs to. -/
theorem xfer_send : ∀ (b : Bool) (s : Fin 7), xfer (sendIx b s) = some (b, false, s) := by decide
/-- Which copy a receive semaphore belongs to. -/
theorem xfer_recv : ∀ (b : Bool) (s : Fin 7), xfer (recvIx b s) = some (b, true, s) := by decide

/-- The 29 cells of a device: the barrier's, then the pool's. -/
def csem (k : Fin 29) : SemLoc sig :=
  if h : k.val = 0 then .reg barS else .dma ⟨5 + k.val, by have := k.isLt; show _ < 34; omega⟩
/-- A device's semaphore, by its place among the 29. -/
abbrev kcell (ck : Dev nD × Fin 29) : GSem nD τ sig := ((ck.1 : Thread nD τ), csem ck.2)

/-- A send semaphore's place. -/
def sendK (b : Bool) (s : Fin 7) : Fin 29 := ⟨1 + (if b then 14 else 0) + s.val, by cases b <;> revert s <;> decide⟩
/-- A receive semaphore's place. -/
def recvK (b : Bool) (s : Fin 7) : Fin 29 := ⟨8 + (if b then 14 else 0) + s.val, by cases b <;> revert s <;> decide⟩

/-- Place 0 is the barrier. -/
theorem csem_zero : csem 0 = .reg barS := rfl
/-- The semaphore at a send place. -/
theorem csem_send : ∀ (b : Bool) (s : Fin 7), csem (sendK b s) = sendS b s := by decide
/-- The semaphore at a receive place. -/
theorem csem_recv : ∀ (b : Bool) (s : Fin 7), csem (recvK b s) = recvS b s := by decide
/-- A device's semaphore at a send place. -/
theorem kcell_send (b : Bool) (s : Fin 7) (c : Dev nD) : kcell (c, sendK b s) = sendCell b s c := by
  show ((c : Thread nD τ), csem (sendK b s)) = _; rw [csem_send]
/-- A device's semaphore at a receive place. -/
theorem kcell_recv (b : Bool) (s : Fin 7) (c : Dev nD) : kcell (c, recvK b s) = recvCell b s c := by
  show ((c : Thread nD τ), csem (recvK b s)) = _; rw [csem_recv]

/-! ## What each unit hands over -/

/-- A landing slot free to be written. -/
def free (b : Bool) (s : Fin 7) (c : Dev nD) : sProp 𝕄 := iprop(∃ X, owns (c : Thread nD τ) (slot b s) fullShare X)
/-- The share of a slab lent to its copy across slot `s`. -/
def lentSlab (b : Bool) (s : Fin 7) (c : Dev nD) : sProp 𝕄 :=
  owns (c : Thread nD τ) (slab b (stage b s)) (lent s) (slabAt m b (stage b s) c)
/-- A landing slot holding what was sent to it. -/
def arrived (b : Bool) (s : Fin 7) (c : Dev nD) : sProp 𝕄 := owns (c : Thread nD τ) (slot b s) fullShare (landed m b s c)

instance free_storable (b : Bool) (s : Fin 7) (c : Dev nD) : BI.Storable (upEmb : UEmb _ 𝕄) (free b s c : sProp 𝕄) := by unfold free; infer_instance
instance lentSlab_storable (b : Bool) (s : Fin 7) (c : Dev nD) : BI.Storable (upEmb : UEmb _ 𝕄) (lentSlab m b s c) := by unfold lentSlab; infer_instance
instance arrived_storable (b : Bool) (s : Fin 7) (c : Dev nD) : BI.Storable (upEmb : UEmb _ 𝕄) (arrived m b s c) := by unfold arrived; infer_instance

/-- The unit duty `t` of device `c`'s barrier is raised by the partner across slot `t`, and hands over its slots `t`. -/
def handed (c : Dev nD) (t : Fin 7) : sProp 𝕄 := iprop(free false t (peer t c) ∗ free true t (peer t c))

/-- Who pays onto a semaphore: seven onto the barrier, one onto each of the others. -/
def dutiesOf (sm : SemLoc sig) : Finset (Fin 7) := match sm with
  | .reg _ => Finset.univ
  | .dma q => match xfer q with
    | some _ => {0}
    | none => ∅

/-- What a payment hands over. -/
def payOf (c : Dev nD) (sm : SemLoc sig) (t : Fin 7) : sProp 𝕄 := match sm with
  | .reg _ => handed c t
  | .dma q => match xfer q with
    | some (b, false, s) => lentSlab m b s c
    | some (b, true, s) => arrived m b s c
    | none => iprop(emp)

instance payOf_storable (c : Dev nD) (sm : SemLoc sig) (t : Fin 7) : BI.Storable (upEmb : UEmb _ 𝕄) (payOf m c sm t) := by
  unfold payOf handed
  (repeat' split) <;> infer_instance

/-- One round per cell: seven units on a barrier cell, one slab's credit on a transfer cell. -/
def plan : Rounds.Schedule (GSem nD τ sig) (Fin 7) 𝕄 where
  duties g r := if r = 0 then dutiesOf g.2 else ∅
  unitless _ := False
  amount g _ _ := match g.2 with | .reg _ => 1 | .dma _ => N
  payload g _ d := payOf m g.1.1 g.2 d
  amount_pos g _ _ _ := by
    show 0 < (match g.2 with | .reg _ => 1 | .dma _ => N)
    split
    · exact Nat.one_pos
    · exact N_pos

instance plan_payload_storable (g : GSem nD τ sig) (r : ℕ) (d : Fin 7) :
    BI.Storable (upEmb : UEmb _ 𝕄) ((plan (F := F) m).payload g r d) := by
  show BI.Storable upEmb (payOf m g.1.1 g.2 d)
  infer_instance

section Plan

variable (b : Bool) (s : Fin 7) (c : Dev nD)

/-- The barrier is paid by all seven. -/
theorem duties_bar : (plan (F := F) m).duties (barCell c) 0 = Finset.univ := rfl
/-- A send semaphore is paid once. -/
theorem duties_send : (plan (F := F) m).duties (sendCell b s c) 0 = {0} := by
  show dutiesOf (sendS b s) = {0}
  unfold dutiesOf; simp only [xfer_send]
/-- A receive semaphore is paid once. -/
theorem duties_recv : (plan (F := F) m).duties (recvCell b s c) 0 = {0} := by
  show dutiesOf (recvS b s) = {0}
  unfold dutiesOf; simp only [xfer_recv]
/-- After the first round nothing is paid. -/
theorem duties_later (g : GSem nD τ sig) : ∀ r, 1 ≤ r → (plan (F := F) m).duties g r = ∅ :=
  fun r hr => if_neg (by omega)

/-- A signal is one unit. -/
theorem amount_bar (t : Fin 7) : (plan (F := F) m).amount (barCell c) 0 t = 1 := rfl
/-- A copy pays its size on the sender. -/
theorem amount_send (t : Fin 7) : (plan (F := F) m).amount (sendCell b s c) 0 t = N := rfl
/-- A copy pays its size on the receiver. -/
theorem amount_recv (t : Fin 7) : (plan (F := F) m).amount (recvCell b s c) 0 t = N := rfl

/-- The barrier's round is seven units. -/
theorem expect_bar : (plan (F := F) m).expect (barCell c) 0 = 7 := by
  unfold Schedule.expect Schedule.amountOf
  rw [duties_bar, Finset.sum_congr rfl fun t _ => amount_bar m c t, Finset.sum_const, Finset.card_univ, Fintype.card_fin, smul_eq_mul]
/-- A send semaphore's round is one copy. -/
theorem expect_send : (plan (F := F) m).expect (sendCell b s c) 0 = N := by
  unfold Schedule.expect Schedule.amountOf; rw [duties_send, Finset.sum_singleton, amount_send]
/-- A receive semaphore's round is one copy. -/
theorem expect_recv : (plan (F := F) m).expect (recvCell b s c) 0 = N := by
  unfold Schedule.expect Schedule.amountOf; rw [duties_recv, Finset.sum_singleton, amount_recv]

/-- A signal hands over the signaller's slots. -/
theorem payload_bar (t : Fin 7) : (plan (F := F) m).payload (barCell c) 0 t = handed c t := rfl
/-- A copy's departure gives the lent slab back. -/
theorem payload_send (t : Fin 7) : (plan (F := F) m).payload (sendCell b s c) 0 t = lentSlab m b s c := by
  show payOf m c (sendS b s) t = _
  unfold payOf; simp only [xfer_send]
/-- A copy's arrival hands over the filled slot. -/
theorem payload_recv (t : Fin 7) : (plan (F := F) m).payload (recvCell b s c) 0 t = arrived m b s c := by
  show payOf m c (recvS b s) t = _
  unfold payOf; simp only [xfer_recv]

/-- All that a send semaphore's round hands over. -/
theorem rest_send : bigSep ((plan (F := F) m).duties (sendCell b s c) 0 \ ∅) (fun t => (plan (F := F) m).payload (sendCell b s c) 0 t) = lentSlab m b s c := by
  rw [Finset.sdiff_empty, duties_send, bigSep_singleton, payload_send]
/-- All that a receive semaphore's round hands over. -/
theorem rest_recv : bigSep ((plan (F := F) m).duties (recvCell b s c) 0 \ ∅) (fun t => (plan (F := F) m).payload (recvCell b s c) 0 t) = arrived m b s c := by
  rw [Finset.sdiff_empty, duties_recv, bigSep_singleton, payload_recv]

end Plan

/-- Seven things, one by one. -/
theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- All that the barrier's round hands over. -/
theorem rest_bar (c : Dev nD) : bigSep ((plan (F := F) m).duties (barCell c) 0 \ ∅) (fun t => (plan (F := F) m).payload (barCell c) 0 t)
    = iprop(handed c 0 ∗ handed c 1 ∗ handed c 2 ∗ handed c 3 ∗ handed c 4 ∗ handed c 5 ∗ handed c 6) := by
  rw [Finset.sdiff_empty, duties_bar, bigSep_seven]
  simp only [payload_bar]

/-! ## What a device owes, in the order it pays -/

/-- What a device owes at the start, in the order in which it pays. -/
def dues (c : Dev nD) : List (GSem nD τ sig × ℕ) :=
  [(barCell (peer 0 c), 1), (barCell (peer 1 c), 1), (barCell (peer 2 c), 1), (barCell (peer 3 c), 1),
   (barCell (peer 4 c), 1), (barCell (peer 5 c), 1), (barCell (peer 6 c), 1),
   (recvCell false 1 (peer 1 c), N), (recvCell false 2 (peer 2 c), N), (recvCell false 3 (peer 3 c), N),
   (recvCell true 4 (peer 4 c), N), (recvCell true 5 (peer 5 c), N), (recvCell true 6 (peer 6 c), N),
   (recvCell false 4 (peer 4 c), N), (recvCell false 5 (peer 5 c), N), (recvCell false 6 (peer 6 c), N),
   (recvCell true 1 (peer 1 c), N), (recvCell true 2 (peer 2 c), N), (recvCell true 3 (peer 3 c), N),
   (recvCell false 0 (peer 0 c), N), (recvCell true 0 (peer 0 c), N)]

/-- A list of duties as a tally. -/
def tal : List (GSem nD τ sig × ℕ) → CellTallies nD τ sig Unit
  | [] => 0
  | p :: ps => tal ps + tallyAt p.1 () p.2

/-- A tally counts only what its list names. -/
theorem tal_pos {l : List (GSem nD τ sig × ℕ)} {g : GSem nD τ sig} {u : Unit} (h : 0 < tal l g u) : ∃ p ∈ l, p.1 = g := by
  induction l with
  | nil => exact absurd h (Nat.lt_irrefl 0)
  | cons p ps ih =>
    unfold tal at h
    rw [Pi.add_apply, Finsupp.add_apply, tallyAt_apply] at h
    by_cases hg : g = p.1 ∧ u = ()
    · exact ⟨p, List.mem_cons_self, hg.1.symm⟩
    · rw [if_neg hg, Nat.add_zero] at h
      obtain ⟨p', hp, e⟩ := ih h
      exact ⟨p', List.mem_cons_of_mem _ hp, e⟩

/-- The level of a counter: arrivals by stage and batch, the barrier below them, everything else below that. -/
def lvS (sm : SemLoc sig) : ℕ := match sm with
  | .reg _ => 1
  | .dma q => match xfer q with
    | some (b, true, s) => 2 + 2 * (stage b s).val + (if b then 1 else 0)
    | _ => 0
/-- The level of a semaphore. -/
def lv (g : GSem nD τ sig) (_ : Unit) : ℕ := lvS g.2
/-- The semaphores that have a level: those of the devices' main cores. -/
def L (g : GSem nD τ sig) : Finset Unit := if g.1.2 = .tc then {()} else ∅

/-- No level elsewhere. -/
theorem L_of_ne (g : GSem nD τ sig) (h : g.1.2 ≠ .tc) : L g = ∅ := if_neg h
/-- A level on every main core. -/
theorem L_tc (c : Dev nD) (sm : SemLoc sig) : L ((c : Thread nD τ), sm) = {()} := if_pos rfl

/-- Everything still owed is owed to a counter of level above `a`, of a core's own. -/
def Above (a : ℕ) (l : List (GSem nD τ sig × ℕ)) : Prop := ∀ p ∈ l, a < lvS p.1.2 ∧ p.1.1.2 = .tc

/-- Nothing owed is above any level. -/
theorem above_nil (a : ℕ) : Above a [] := fun p hp => absurd hp List.not_mem_nil
/-- One more duty above the level. -/
theorem above_cons {a : ℕ} {p : GSem nD τ sig × ℕ} {l : List (GSem nD τ sig × ℕ)} (h : a < lvS p.1.2) (ht : p.1.1.2 = .tc) (hl : Above a l) : Above a (p :: l) := by
  intro p' hp
  rcases List.mem_cons.mp hp with rfl | hp
  · exact ⟨h, ht⟩
  · exact hl p' hp
/-- What is above a level is above a lower one. -/
theorem Above.mono {a a' : ℕ} {l : List (GSem nD τ sig × ℕ)} (h : Above a l) (ha : a' ≤ a) : Above a' l :=
  fun p hp => ⟨lt_of_le_of_lt ha (h p hp).1, (h p hp).2⟩

/-- The levels, known to every device. -/
@[irreducible] def levels : sProp 𝕄 := levAts L lv
instance levels_persistent : BI.Persistent (levels : sProp 𝕄) := by unfold levels; infer_instance

/-- A wait is allowed below everything still owed. -/
theorem may_wait (c : Dev nD) (sm : SemLoc sig) (l : List (GSem nD τ sig × ℕ)) (h : Above (lvS sm) l) :
    (levels : sProp 𝕄) ⊢ MayWait (c : Thread nD τ) sm () (tal l) := by
  unfold levels
  exact MayOwe.of_cut (L := L) (lev := lv) (lvS sm) (fun p hp => by rw [Finset.mem_singleton.mp hp, L_tc]; exact Finset.mem_singleton_self _)
    (fun g u hg => by
      obtain ⟨p, hp, rfl⟩ := tal_pos hg
      unfold L; rw [if_pos (h p hp).2]; exact Finset.mem_singleton_self _)
    (fun p hp => by rw [Finset.mem_singleton.mp hp]; exact Nat.le_refl _)
    (fun g u hg => by
      obtain ⟨p, hp, rfl⟩ := tal_pos hg
      exact (h p hp).1)

/-- What device `c` still owes after its first `n` payments. -/
abbrev left (c : Dev nD) (n : ℕ) : List (GSem nD τ sig × ℕ) := (dues c).drop n

/-- `recvCell b s` counters may be waited on when this many payments are made. -/
theorem above_0 (c : Dev nD) : Above 0 (left c 0) := by
  show Above 0 (dues c)
  unfold dues
  repeat' first | exact above_nil _ | refine above_cons (Nat.le_of_ble_eq_true rfl) rfl ?_
/-- After the signals everything owed is above the barrier. -/
theorem above_7 (c : Dev nD) : Above 1 (left c 7) := by
  repeat' first | exact above_nil _ | refine above_cons (Nat.le_of_ble_eq_true rfl) rfl ?_
/-- After the first stage's copies what is owed is above its arrivals. -/
theorem above_13 (c : Dev nD) : Above 3 (left c 13) := by
  repeat' first | exact above_nil _ | refine above_cons (Nat.le_of_ble_eq_true rfl) rfl ?_
/-- After three copies of the second stage what is owed is still above the first stage's arrivals. -/
theorem above_16 (c : Dev nD) : Above 3 (left c 16) := by
  repeat' first | exact above_nil _ | refine above_cons (Nat.le_of_ble_eq_true rfl) rfl ?_
/-- After the second stage's copies what is owed is above its arrivals. -/
theorem above_19 (c : Dev nD) : Above 5 (left c 19) := by
  repeat' first | exact above_nil _ | refine above_cons (Nat.le_of_ble_eq_true rfl) rfl ?_
/-- With one copy left, what is owed is above the first batch's last arrival. -/
theorem above_20 (c : Dev nD) : Above 6 (left c 20) := by
  repeat' first | exact above_nil _ | refine above_cons (Nat.le_of_ble_eq_true rfl) rfl ?_
/-- With nothing left the last arrivals may be awaited. -/
theorem above_21 (c : Dev nD) : Above 7 (left c 21) := above_nil _

end Cert.Attn

end
-- ==== Proof.Steps.lean ====
/-
# One rule per operation

Each rule says what one communication of the kernel does to what its device holds: a unit raised on a partner's barrier,
the wait for seven of them, a copy sent, an arrival waited for, a departure waited for. A cell is closed as soon as its
one wait is done, so that its counter is known to be zero again at the end.
-/
module

public import proofs.«01_k».proof.Proof.Protocol

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 29 → ℕ)

/-- What every device knows: all cells run by the plan, all have begun, and the levels. -/
def records : sProp 𝕄 :=
  iprop((bigSep Finset.univ fun ck : Dev nD × Fin 29 => cellInv ER (plan m) (K ck) (kcell ck))
    ∗ (bigSep Finset.univ fun ck : Dev nD × Fin 29 => reached ER (kcell ck) 0) ∗ levels)

instance records_persistent : BI.Persistent (records m K) := by unfold records; infer_instance

/-- One semaphore's record out of all. -/
theorem inv_of_all (ck : Dev nD × Fin 29) :
    (bigSep Finset.univ fun ck : Dev nD × Fin 29 => (cellInv ER (plan m) (K ck) (kcell ck) : sProp 𝕄)) ⊢ cellInv ER (plan m) (K ck) (kcell ck) :=
  bigSep_elim (Finset.mem_univ ck)
/-- One semaphore's round has begun, out of all. -/
theorem begun_of_all (ck : Dev nD × Fin 29) :
    (bigSep Finset.univ fun ck : Dev nD × Fin 29 => (reached ER (kcell ck) 0 : sProp 𝕄)) ⊢ reached ER (kcell ck) 0 :=
  bigSep_elim (Finset.mem_univ ck)
/-- The records hold a semaphore's. -/
theorem know_inv (ck : Dev nD × Fin 29) : records m K ⊢ cellInv ER (plan m) (K ck) (kcell ck) := by
  unfold records; iintro ⟨H, -, -⟩
  iapply (inv_of_all m K ck); iexact H
/-- The records say that a semaphore's round has begun. -/
theorem know_begun (ck : Dev nD × Fin 29) : records m K ⊢ (reached ER (kcell ck) 0 : sProp 𝕄) := by
  unfold records; iintro ⟨-, H, -⟩
  iapply (begun_of_all (F := F) ck); iexact H
/-- The records hold the levels. -/
theorem know_levels : records m K ⊢ (levels : sProp 𝕄) := by
  unfold records; iintro ⟨-, -, H⟩; iexact H

section Kits

variable (b : Bool) (s : Fin 7) (c : Dev nD)

/-- What the records say of a send semaphore. -/
theorem know_send : records m K ⊢ iprop(cellInv ER (plan m) (K (c, sendK b s)) (sendCell b s c) ∗ reached ER (sendCell b s c) 0) := by
  rw [← kcell_send b s c]
  iintro #H
  isplitr; · iapply (know_inv m K (c, sendK b s)); iexact H
  iapply (know_begun m K (c, sendK b s)); iexact H
/-- What the records say of a receive semaphore. -/
theorem know_recv : records m K ⊢ iprop(cellInv ER (plan m) (K (c, recvK b s)) (recvCell b s c) ∗ reached ER (recvCell b s c) 0) := by
  rw [← kcell_recv b s c]
  iintro #H
  isplitr; · iapply (know_inv m K (c, recvK b s)); iexact H
  iapply (know_begun m K (c, recvK b s)); iexact H
/-- What the records say of a barrier. -/
theorem know_bar : records m K ⊢ iprop(cellInv ER (plan m) (K (c, 0)) (barCell c) ∗ reached ER (barCell c) 0) := by
  iintro #H
  isplitr; · iapply (know_inv m K (c, 0)); iexact H
  iapply (know_begun m K (c, 0)); iexact H

/-- What device `c` needs to send across slot `s`: the right to pay both ends, and its place on its own counter. -/
def sendKit : sProp 𝕄 :=
  iprop(dutyTok ER (sendCell b s c) 0 0 ∗ dutyTok ER (recvCell b s (peer s c)) 0 0 ∗ atPos ER (sendCell b s c) 0 ∅ 0)
/-- What it needs to wait for the arrival across slot `s`. -/
def recvKit : sProp 𝕄 := iprop(atPos ER (recvCell b s c) 0 ∅ 0 ∗ cred (tallyAt (recvCell b s c) () N))
/-- A copy under way: the credit to wait for its departure. -/
def underway : sProp 𝕄 := iprop(cred (tallyAt (sendCell b s c) () N) ∗ atPos ER (sendCell b s c) 0 ∅ 0)
/-- What it owes after `n` payments. -/
def Owed (n : ℕ) : sProp 𝕄 := iprop(∃ W, owes (c : Thread nD τ) (tal (left c n)) W)

end Kits

section Rules

variable (c : Dev nD) {α : Type}

/-- A unit raised on the barrier of the partner across slot `s`, with this device's landing slots for that partner. -/
theorem step_signal (s : Fin 7) (n : ℕ) {dst : Thread nD τ} {sem : Sem sig} {u : ℕ} (hd : dst = ((peer s c : Dev nD) : Thread nD τ)) (hs : sem = barS) (hu : u = 1)
    (hn : left c n = (barCell (peer s c), 1) :: left c (n + 1))
    {k : PUnit → Prog (TpuEff nD τ sig (Elt F) Λ₀ .tc) α} {Q : α → sProp 𝕄} :
    iprop(records m K ∗ Owed c n ∗ dutyTok ER (barCell (peer s c)) 0 (back s) ∗ free false (back s) c ∗ free true (back s) c)
      ⊢ iprop((Owed c (n + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal dst sem u) k) Q) := by
  subst hd; subst hs; subst hu
  unfold Owed
  rw [hn]
  iintro ⟨#HR, ⟨%W, HO⟩, Ht, H1, H2⟩ Hk
  ihave HB := (know_bar m K (peer s c)) $$ HR
  icases HB with ⟨#HI, #HG⟩
  iapply (Rounds.wp_signal 𝒱₀ ER (plan m) (c : Thread nD τ) none (dst := ((peer s c : Dev nD) : Thread nD τ)) (κ := K (peer s c, 0)) (r := 0)
      (d := back s) (by rw [duties_bar]; exact Finset.mem_univ _) (amount_bar m (peer s c) (back s)) () (tal (left c (n + 1))) rfl) $$ [HO Ht H1 H2]
  · isplitr; · iexact HI
    isplitl [HO]; · iexact HO
    isplitl [Ht]; · iexact Ht
    isplitl [H1 H2]
    · rw [payload_bar]; unfold handed; rw [peer_back]
      isplitl [H1]; · iexact H1
      iexact H2
    · iexact HG
  iintro HO
  iapply Hk
  iexists W; iexact HO

/-- The wait for the seven units: every landing slot this device will send to is free. -/
theorem step_barrier (n : ℕ) (hn : Above 1 (left c n)) {sem : Sem sig} {u : ℕ} (hs : sem = barS) (hu : u = 7)
    {k : PUnit → Prog (TpuEff nD τ sig (Elt F) Λ₀ .tc) α} {Q : α → sProp 𝕄} :
    iprop(records m K ∗ Owed c n ∗ atPos ER (barCell c) 0 ∅ 0 ∗ cred (tallyAt (barCell c) () 7))
      ⊢ iprop(((Owed c n ∗ semVal (barCell c) 0 ∗ handed c 0 ∗ handed c 1 ∗ handed c 2 ∗ handed c 3 ∗ handed c 4 ∗ handed c 5 ∗ handed c 6)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait sem u) k) Q) := by
  subst hs; subst hu
  have hM := (know_levels m K).trans (may_wait (F := F) c (.reg barS) (left c n) hn)
  unfold Owed
  generalize tal (left c n) = O at hM ⊢
  iintro ⟨#HR, ⟨%W, HO⟩, Hat, Hc⟩ Hk
  ihave HB := (know_bar m K c) $$ HR
  icases HB with ⟨#HI, -⟩
  iapply (Rounds.wp_wait_rest_token 𝒱₀ ER (plan m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply hM; iexact HR
    iexact Hat
  iintro ⟨HO, Hat, -, Hp⟩
  ihave Hp := (Entails.of_eq (rest_bar m c)) $$ Hp
  imod (Rounds.cell_close ER (plan m) (Set.mem_univ (K (c, 0))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- A slab of batch `b` sent across slot `s`. -/
theorem step_send (b : Bool) (s : Fin 7) (n : ℕ) {d : Dev nD} (hd : d = peer s c)
    (hn : left c n = (recvCell b s (peer s c), N) :: left c (n + 1))
    {src : Memref sig .tc .vmem S128x260 .bf16} {dst : Memref sig (Dev.tc d : Thread nD τ).2.kind .vmem S128x260 .bf16}
    (hsrc : src = slabQ b (stage b s)) (hdst : dst = slotQ b s)
    {sS sR : SemLoc sig} (hS : sS = sendS b s) (hR : sR = recvS b s) {hsc : dst.view.ref.isScScratch = false}
    {hx : src.view.WordExact} {hy : dst.view.WordExact}
    {hsem : DmaTarget.Typed .vmem sR (.remote (Dev.tc d : Thread nD τ) dst sS hsc)}
    {k : PUnit → Prog (TpuEff nD τ sig (Elt F) Λ₀ .tc) α} {Q : α → sProp 𝕄} :
    iprop(records m K ∗ lentSlab m b s c ∗ free b s (peer s c) ∗ Owed c n ∗ sendKit b s c)
      ⊢ iprop(((underway b s c ∗ Owed c (n + 1)) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc d : Thread nD τ) dst sS hsc) sR hx hy hsem) k) Q) := by
  subst hd; subst hsrc; subst hdst; subst hS; subst hR
  unfold Owed sendKit free lentSlab
  rw [hn]
  iintro ⟨#HR, Hs, ⟨%X, Hd⟩, ⟨%W, HO⟩, Ht1, Ht2, Hat⟩ Hk
  ihave HB := (know_send m K b s c) $$ HR
  icases HB with ⟨#HI1, #HG1⟩
  ihave HB := (know_recv m K b s (peer s c)) $$ HR
  icases HB with ⟨#HI2, #HG2⟩
  ihave Hs := (show owns (c : Thread nD τ) (slab b (stage b s)) (lent s) (slabAt m b (stage b s) c)
    ⊢ (iprop(∃ g, ⌜(slab b (stage b s)).view.read (Elt F) g = slabAt m b (stage b s) c⌝
        ∗ (slab b (stage b s)).view.loc (c : Thread nD τ) ↦[(slab b (stage b s)).view.set]{lent s} g) : sProp 𝕄) from .rfl) $$ Hs
  icases Hs with ⟨%fs, %hfs, Hs⟩
  ihave Hd := (show owns ((peer s c : Dev nD) : Thread nD τ) (slot b s) fullShare X
    ⊢ (iprop(∃ g, ⌜(slot b s).view.read (Elt F) g = X⌝
        ∗ (slot b s).view.loc ((peer s c : Dev nD) : Thread nD τ) ↦[(slot b s).view.set]{fullShare} g) : sProp 𝕄) from .rfl) $$ Hd
  icases Hd with ⟨%fd, -, Hd⟩
  have e1 : (slabQ b (stage b s)).view.set = (slab b (stage b s)).view.set := View.set_reshape _ _
  have e2 : (slotQ b s).view.set = (slot b s).view.set := View.set_reshape _ _
  iapply (Rounds.wp_send_pointsTo 𝒱₀ ER (plan m) (c : Thread nD τ) none (κ₁ := K (c, sendK b s)) (κ₂ := K (peer s c, recvK b s))
      (c' := ((peer s c : Dev nD) : Thread nD τ)) (src := slabQ b (stage b s)) (dst := slotQ b s) (q := lent s) (fs := fs)
      (r₁ := 0) (r₂ := 0) (d₁ := 0) (d₂ := 0) (fd := fd)
      (by rw [duties_send]; exact Finset.mem_singleton_self _) (by rw [duties_recv]; exact Finset.mem_singleton_self _)
      () () N (slot_amount b s _ rfl) (amount_send m b s c 0) (amount_recv m b s (peer s c) 0) (tal (left c (n + 1))) rfl (W := W)
      (by rw [payload_send, e1]; unfold lentSlab; rw [← hfs]; exact owns_intro (c : Thread nD τ) (slab b (stage b s)) (lent s) fs)
      (by
        rw [payload_recv, e2]; unfold arrived landed
        rw [show src s (peer s c) = c from peer_back s c, ← hfs, ← copy_read b (stage b s) s fd fs]
        exact owns_intro ((peer s c : Dev nD) : Thread nD τ) (slot b s) fullShare _)) $$ [Hs Hd HO Ht1 Ht2]
  · isplitr; · iexact HI1
    isplitr; · iexact HI2
    isplitl [Hs]; · rw [e1]; iexact Hs
    isplitl [Hd]; · rw [e2]; iexact Hd
    isplitl [HO]; · iexact HO
    isplitl [Ht1]; · iexact Ht1
    isplitr; · iexact HG1
    isplitl [Ht2]; · iexact Ht2
    iexact HG2
  iintro ⟨Hc, HO⟩
  iapply Hk
  unfold underway
  isplitl [Hc Hat]
  · isplitl [Hc]; · iexact Hc
    iexact Hat
  iexists W; iexact HO

/-- The wait for the arrival across slot `s`. -/
theorem step_recv (b : Bool) (s : Fin 7) (n : ℕ) (hn : Above (lvS (recvS b s)) (left c n))
    {sp sp' : Space} {sh : Shape} {e : EltTy} {src : Memref sig .tc sp sh e} {dst : Memref sig .tc sp' sh e} {sem : DmaSem sig}
    (hs : sem = recvIx b s) (hN : dst.view.dmaCredit = N) {hx : src.view.WordExact} {hy : dst.view.WordExact}
    {k : PUnit → Prog (TpuEff nD τ sig (Elt F) Λ₀ .tc) α} {Q : α → sProp 𝕄} :
    iprop(records m K ∗ Owed c n ∗ recvKit b s c)
      ⊢ iprop(((Owed c n ∗ arrived m b s c ∗ semVal (recvCell b s c) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hx hy) k) Q) := by
  subst hs
  have hM := (know_levels m K).trans (may_wait (F := F) c (recvS b s) (left c n) hn)
  unfold Owed recvKit
  generalize tal (left c n) = O at hM ⊢
  iintro ⟨#HR, ⟨%W, HO⟩, Hat, Hc⟩ Hk
  ihave HB := (know_recv m K b s c) $$ HR
  icases HB with ⟨#HI, -⟩
  iapply (Rounds.wp_wait_rest_token 𝒱₀ ER (plan m) (c : Thread nD τ) none (κ := K (c, recvK b s))
      (wpE_waitDma2_eq 𝒱₀ (c : Thread nD τ) none Set.univ) (Set.mem_univ _) () (O := O) (W := W) (R := 0) (m := 0) (T := ∅)
      (by rw [Nat.zero_add, hN]; exact (expect_recv m b s c).symm)) $$ [Hc HO Hat]
  · isplitr; · iexact HI
    isplitl [Hc]; · rw [hN]; iexact Hc
    isplitl [HO]; · iexact HO
    isplitr; · iapply hM; iexact HR
    iexact Hat
  iintro ⟨HO, Hat, -, Hp⟩
  ihave Hp := (Entails.of_eq (rest_recv m b s c)) $$ Hp
  imod (Rounds.cell_close ER (plan m) (Set.mem_univ (K (c, recvK b s))) (fun h => h) (R := 0 + 1) (duties_later m (recvCell b s c))) $$ [Hat] with Hz
  · isplitr; · iexact HI
    iexact Hat
  iapply Hk
  isplitl [HO]; · iexists _; iexact HO
  isplitl [Hp]; · iexact Hp
  iexact Hz

/-- The wait for the departure across slot `s`: the lent share is back. -/
theorem step_sent (b : Bool) (s : Fin 7)
    {sp sp' : Space} {sh : Shape} {e : EltTy} {src : Memref sig .tc sp sh e} {dst : Memref sig .tc sp' sh e} {sem : DmaSem sig}
    (hs : sem = sendIx b s) (hN : dst.view.dmaCredit = N) {hx : src.view.WordExact} {hy : dst.view.WordExact}
    {k : PUnit → Prog (TpuEff nD τ sig (Elt F) Λ₀ .tc) α} {Q : α → sProp 𝕄} :
    iprop(records m K ∗ Owed c 21 ∗ underway b s c)
      ⊢ iprop(((Owed c 21 ∗ lentSlab m b s c ∗ semVal (sendCell b s c) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hx hy) k) Q) := by
  subst hs
  unfold Owed underway
  rw [show tal (left c 21) = 0 from rfl]
  iintro ⟨#HR, ⟨%W, HO⟩, Hc, Hat⟩ Hk
  ihave HB := (know_send m K b s c) $$ HR
  icases HB with ⟨#HI, -⟩
  iapply (Rounds.wp_wait_rest_token 𝒱₀ ER (plan m) (c : Thread nD τ) none (κ := K (c, sendK b s))
      (wpE_waitDma2_eq 𝒱₀ (c : Thread nD τ) none Set.univ) (Set.mem_univ _) () (O := 0) (W := W) (R := 0) (m := 0) (T := ∅)
      (by rw [Nat.zero_add, hN]; exact (expect_send m b s c).symm)) $$ [Hc HO Hat]
  · isplitr; · iexact HI
    isplitl [Hc]; · rw [hN]; iexact Hc
    isplitl [HO]; · iexact HO
    isplitr
    · rw [MayWait_zero]; iempintro
    iexact Hat
  iintro ⟨HO, Hat, -, Hp⟩
  ihave Hp := (Entails.of_eq (rest_send m b s c)) $$ Hp
  imod (Rounds.cell_close ER (plan m) (Set.mem_univ (K (c, sendK b s))) (fun h => h) (R := 0 + 1) (duties_later m (sendCell b s c))) $$ [Hat] with Hz
  · isplitr; · iexact HI
    iexact Hat
  iapply Hk
  isplitl [HO]; · iexists _; iexact HO
  isplitl [Hp]; · iexact Hp
  iexact Hz

end Rules

end Cert.Attn

end
-- ==== Proof.Fund.lean ====
/-
# Setting the counters up

At the start every counter is zero and every account of the plan is open. Each counter's account goes into an invariant
all devices know, and the rights to pay are dealt to the devices that pay: the unit a device raises on its partner's
barrier, the arrival it causes at that partner, the departure it causes at home.
-/
module

public import proofs.«01_k».proof.Proof.Steps

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The transfer semaphores of the launch. -/
def osem (k : Fin 28) : SemLoc sig := .dma ⟨6 + k.val, by have := k.isLt; show _ < 34; omega⟩

/-- The body's own semaphores are the ones listed, once each. -/
theorem ownSemFacts : Pipeline.OwnSemFacts cfg0.spec osem := by decide

/-- The 29 semaphores are different ones. -/
theorem csem_injective : Function.Injective csem := by decide
/-- The semaphores of all the devices are different ones. -/
theorem kcell_injective : Function.Injective (kcell : Dev nD × Fin 29 → GSem nD τ sig) := fun x y h =>
  Prod.ext (congrArg (fun g : GSem nD τ sig => g.1.1) h) (csem_injective (congrArg Prod.snd h))
/-- Every semaphore of the exchange, on every device. -/
def planCells : Finset (GSem nD τ sig) := Finset.univ.map ⟨kcell, kcell_injective⟩

/-- The rights to pay into a device's own counters: per slot the barrier's unit, then departures and arrivals by batch. -/
def rightSem (j : Fin 7 × Fin 5) : SemLoc sig × Fin 7 := match j.2 with
  | 0 => (.reg barS, j.1) | 1 => (sendS false j.1, 0) | 2 => (recvS false j.1, 0) | 3 => (sendS true j.1, 0) | 4 => (recvS true j.1, 0)
/-- Five rights for each of the seven slots, all different. -/
theorem rightSem_injective : Function.Injective rightSem := by decide
/-- The right that a device and a slot's place name. -/
abbrev rightOf (cj : Dev nD × (Fin 7 × Fin 5)) : GSem nD τ sig × ℕ × Fin 7 := (((cj.1 : Thread nD τ), (rightSem cj.2).1), 0, (rightSem cj.2).2)
/-- The rights of all the devices are different ones. -/
theorem rightOf_injective : Function.Injective rightOf := fun x y h =>
  Prod.ext (congrArg (fun g : GSem nD τ sig × ℕ × Fin 7 => g.1.1.1) h)
    (rightSem_injective (Prod.ext (congrArg (fun g : GSem nD τ sig × ℕ × Fin 7 => g.1.2) h) (congrArg (fun g : GSem nD τ sig × ℕ × Fin 7 => g.2.2) h)))
/-- Every right to pay, on every device. -/
def planToks : Finset (GSem nD τ sig × ℕ × Fin 7) := Finset.univ.map ⟨rightOf, rightOf_injective⟩

/-- The ghost state at the start. -/
def u₀ : UU :=
  (initOf (Pipeline.cells cfgs cellOf_inj) (Pipeline.launchToks cfgs cellOf_inj), initOf planCells planToks)

/-- The rights to pay into device `c`'s own counters of slot `s`. -/
def minted (c : Dev nD) (s : Fin 7) : sProp 𝕄 :=
  iprop(dutyTok ER (barCell c) 0 s ∗ dutyTok ER (sendCell false s c) 0 0 ∗ dutyTok ER (recvCell false s c) 0 0
    ∗ dutyTok ER (sendCell true s c) 0 0 ∗ dutyTok ER (recvCell true s c) 0 0)

/-- The rights device `c` uses across slot `s`. -/
def dealt (c : Dev nD) (s : Fin 7) : sProp 𝕄 :=
  iprop(dutyTok ER (barCell (peer s c)) 0 (back s) ∗ dutyTok ER (sendCell false s c) 0 0 ∗ dutyTok ER (recvCell false s (peer s c)) 0 0
    ∗ dutyTok ER (sendCell true s c) 0 0 ∗ dutyTok ER (recvCell true s (peer s c)) 0 0)

/-- Device `c`'s places on its own counters of slot `s`. -/
def places (c : Dev nD) (s : Fin 7) : sProp 𝕄 :=
  iprop(atPos ER (sendCell false s c) 0 ∅ 0 ∗ atPos ER (recvCell false s c) 0 ∅ 0
    ∗ atPos ER (sendCell true s c) 0 ∅ 0 ∗ atPos ER (recvCell true s c) 0 ∅ 0)

/-- What a device starts with: the common knowledge, its places and the rights it uses. -/
def outfit (c : Dev nD) : sProp 𝕄 :=
  iprop((∃ K : Dev nD × Fin 29 → ℕ, (bigSep Finset.univ fun ck : Dev nD × Fin 29 => cellInv ER (plan m) (K ck) (kcell ck))
      ∗ bigSep Finset.univ fun ck : Dev nD × Fin 29 => reached ER (kcell ck) 0)
    ∗ atPos ER (barCell c) 0 ∅ 0 ∗ (bigSep Finset.univ fun s : Fin 7 => places c s) ∗ bigSep Finset.univ fun s : Fin 7 => dealt c s)

/-- What the start deals device `c`. -/
def seed (c : Dev nD) : sProp 𝕄 :=
  iprop((bigSep Finset.univ fun k : Fin 29 => roundState ER (plan m) (kcell (c, k)) 0)
    ∗ ((bigSep Finset.univ fun k : Fin 29 => atPos ER (kcell (c, k)) 0 ∅ 0) ∗ bigSep Finset.univ fun k : Fin 29 => reached ER (kcell (c, k)) 0)
    ∗ bigSep Finset.univ fun s : Fin 7 => minted c s)

/-- Five things, one by one. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What holds for every semaphore, device by device. -/
theorem over_cells (Φ : GSem nD τ sig → sProp 𝕄) :
    bigSep planCells Φ = bigSep Finset.univ fun c : Dev nD => bigSep Finset.univ fun k : Fin 29 => Φ (kcell (c, k)) := by
  unfold planCells; rw [bigSep_map, bigSep_univ_prod]; rfl
/-- The rights, device by device and slot by slot. -/
theorem over_toks :
    bigSep planToks (fun x => (dutyTok ER x.1 x.2.1 x.2.2 : sProp 𝕄)) = bigSep Finset.univ fun c : Dev nD => bigSep Finset.univ fun s : Fin 7 => minted c s := by
  unfold planToks; rw [bigSep_map, bigSep_univ_prod]
  refine bigSep_congr fun c _ => ?_
  rw [bigSep_univ_prod]
  exact bigSep_congr fun s _ => by unfold minted; rw [bigSep_five]; rfl

/-- The start's ghost state gives every device its positions and rights. -/
theorem fund_plan : BI.own (ER (initOf planCells planToks)) ⊢ (|==> bigSep Finset.univ (seed m) : sProp 𝕄) := by
  iintro HX
  imod (Rounds.fund ER (plan m) planCells planToks) $$ HX with ⟨Hst, Hr, Hat, Htok⟩
  imodintro
  ihave Hst := (Entails.of_eq (over_cells fun g => roundState ER (plan m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold seed; simp only [bigSep_sep']
  isplitl [Hst]; · iexact Hst
  isplitl [Hat Hr]
  · isplitl [Hat] <;> iassumption
  iexact Htok

/-! ## The counters at zero -/

/-- A device's counters one by one: its barrier, then the transfers of either batch. -/
theorem bigSep_counters (Φ : Fin 29 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28) :=
  bigSep_univ_eq_bigSepL [0, 1, 2, 3, 4, 5, 6, 7, 8, 9, 10, 11, 12, 13, 14, 15, 16, 17, 18, 19, 20, 21, 22, 23, 24, 25, 26, 27, 28] (by decide) (by decide) Φ

/-- The body's own semaphores at zero, listed. -/
theorem ownSems0_eq (c : Dev nD) : (Pipeline.ownSems0 (Ix := Unit) (Name := ℕ) (U := UU) (Lvl := ℕ) (Val := Elt F) (τ := τ) osem c : sProp 𝕄)
    = iprop(semVal (sendCell false 0 c) 0 ∗ semVal (sendCell false 1 c) 0 ∗ semVal (sendCell false 2 c) 0 ∗ semVal (sendCell false 3 c) 0 ∗ semVal (sendCell false 4 c) 0 ∗ semVal (sendCell false 5 c) 0 ∗ semVal (sendCell false 6 c) 0 ∗ semVal (recvCell false 0 c) 0 ∗ semVal (recvCell false 1 c) 0 ∗ semVal (recvCell false 2 c) 0 ∗ semVal (recvCell false 3 c) 0 ∗ semVal (recvCell false 4 c) 0 ∗ semVal (recvCell false 5 c) 0 ∗ semVal (recvCell false 6 c) 0 ∗ semVal (sendCell true 0 c) 0 ∗ semVal (sendCell true 1 c) 0 ∗ semVal (sendCell true 2 c) 0 ∗ semVal (sendCell true 3 c) 0 ∗ semVal (sendCell true 4 c) 0 ∗ semVal (sendCell true 5 c) 0 ∗ semVal (sendCell true 6 c) 0 ∗ semVal (recvCell true 0 c) 0 ∗ semVal (recvCell true 1 c) 0 ∗ semVal (recvCell true 2 c) 0 ∗ semVal (recvCell true 3 c) 0 ∗ semVal (recvCell true 4 c) 0 ∗ semVal (recvCell true 5 c) 0 ∗ semVal (recvCell true 6 c) 0) := by
  rw [Pipeline.ownSems0_eq_of_list c osem [0, 1, 2, 3, 4, 5, 6, 7, 8, 9, 10, 11, 12, 13, 14, 15, 16, 17, 18, 19, 20, 21, 22, 23, 24, 25, 26, 27] (by decide) (by decide)]; rfl
/-- The one semaphore outside the body, the barrier, at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All 29 semaphores of a device at zero. -/
theorem counters_zero (c : Dev nD) :
    iprop(Pipeline.ownSems0 (Ix := Unit) (Name := ℕ) (U := UU) (Lvl := ℕ) (Val := Elt F) (τ := τ) osem c ∗ unscopedSems0 c)
      ⊢ (bigSep Finset.univ fun k : Fin 29 => semVal (kcell (c, k)) 0 : sProp 𝕄) := by
  rw [ownSems0_eq, unscopedSems0_eq, bigSep_counters]
  exact Laws.sep_symm

/-- A device's 29 positions: the barrier's, and each slot's. -/
theorem places_of_all (c : Dev nD) :
    (bigSep Finset.univ fun k : Fin 29 => atPos ER (kcell (c, k)) 0 ∅ 0 : sProp 𝕄)
      ⊢ iprop(atPos ER (barCell c) 0 ∅ 0 ∗ bigSep Finset.univ fun s : Fin 7 => places c s) := by
  rw [bigSep_counters, bigSep_seven]
  unfold places
  iintro ⟨HB, Hs00, Hs01, Hs02, Hs03, Hs04, Hs05, Hs06, Hr00, Hr01, Hr02, Hr03, Hr04, Hr05, Hr06, Hs10, Hs11, Hs12, Hs13, Hs14, Hs15, Hs16, Hr10, Hr11, Hr12, Hr13, Hr14, Hr15, Hr16⟩
  isplitl [HB]; · iexact HB
  isplitl [Hs00 Hr00 Hs10 Hr10]
  · isplitl [Hs00]; · iexact Hs00
    isplitl [Hr00]; · iexact Hr00
    isplitl [Hs10]; · iexact Hs10
    iexact Hr10
  isplitl [Hs01 Hr01 Hs11 Hr11]
  · isplitl [Hs01]; · iexact Hs01
    isplitl [Hr01]; · iexact Hr01
    isplitl [Hs11]; · iexact Hs11
    iexact Hr11
  isplitl [Hs02 Hr02 Hs12 Hr12]
  · isplitl [Hs02]; · iexact Hs02
    isplitl [Hr02]; · iexact Hr02
    isplitl [Hs12]; · iexact Hs12
    iexact Hr12
  isplitl [Hs03 Hr03 Hs13 Hr13]
  · isplitl [Hs03]; · iexact Hs03
    isplitl [Hr03]; · iexact Hr03
    isplitl [Hs13]; · iexact Hs13
    iexact Hr13
  isplitl [Hs04 Hr04 Hs14 Hr14]
  · isplitl [Hs04]; · iexact Hs04
    isplitl [Hr04]; · iexact Hr04
    isplitl [Hs14]; · iexact Hs14
    iexact Hr14
  isplitl [Hs05 Hr05 Hs15 Hr15]
  · isplitl [Hs05]; · iexact Hs05
    isplitl [Hr05]; · iexact Hr05
    isplitl [Hs15]; · iexact Hs15
    iexact Hr15
  isplitl [Hs06]; · iexact Hs06
  isplitl [Hr06]; · iexact Hr06
  isplitl [Hs16]; · iexact Hs16
  iexact Hr16

/-- Every counter's account goes into an invariant. -/
theorem core_alloc (c : Dev nD) :
    iprop(Pipeline.ownSems0 (Ix := Unit) (Name := ℕ) (U := UU) (Lvl := ℕ) (Val := Elt F) (τ := τ) osem c ∗ unscopedSems0 c ∗ seed m c)
      ⊢ |={Set.univ}=> iprop((bigSep Finset.univ fun k => iprop(∃ κ : ℕ, cellInv ER (plan m) κ (kcell (c, k))))
          ∗ (bigSep Finset.univ fun k : Fin 29 => reached ER (kcell (c, k)) 0)
          ∗ (atPos ER (barCell c) 0 ∅ 0 ∗ bigSep Finset.univ fun s : Fin 7 => places c s)
          ∗ bigSep Finset.univ fun s : Fin 7 => minted c s) := by
  unfold seed
  iintro ⟨Hos, Hus, Hst, ⟨Hat, Hr⟩, Htok⟩
  ihave Hv := (counters_zero (F := F) c) $$ [Hos Hus]
  · isplitl [Hos] <;> iassumption
  imod (show iprop((bigSep Finset.univ fun k : Fin 29 => semVal (kcell (c, k)) 0) ∗ bigSep Finset.univ fun k : Fin 29 => roundState ER (plan m) (kcell (c, k)) 0)
      ⊢ (|={Set.univ}=> bigSep Finset.univ fun k => iprop(∃ κ : ℕ, cellInv ER (plan m) κ (kcell (c, k))) : sProp 𝕄) from by
        rw [← bigSep_sep']
        exact (bigSep_mono fun k _ => (Rounds.body_intro ER (plan m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iapply (places_of_all (F := F) c); iexact Hat
  iexact Htok

/-! ## Dealing the rights -/

/-- One slot's rights, over all devices: each barrier unit and each arrival moves to the device across that slot. -/
theorem deal_arrivals (b : Bool) (s : Fin 7) :
    (bigSep Finset.univ fun c : Dev nD => (dutyTok ER (recvCell b s c) 0 0 : sProp 𝕄))
      = bigSep Finset.univ fun c : Dev nD => dutyTok ER (recvCell b s (peer s c)) 0 0 :=
  bigSep_univ_equiv (peerEquiv s) (fun c : Dev nD => (dutyTok ER (recvCell b s c) 0 0 : sProp 𝕄))
/-- The barrier's rights, by owner or by the neighbour who pays. -/
theorem deal_units (s : Fin 7) :
    (bigSep Finset.univ fun c : Dev nD => (dutyTok ER (barCell c) 0 (back s) : sProp 𝕄))
      = bigSep Finset.univ fun c : Dev nD => dutyTok ER (barCell (peer s c)) 0 (back s) :=
  bigSep_univ_equiv (peerEquiv s) (fun c : Dev nD => (dutyTok ER (barCell c) 0 (back s) : sProp 𝕄))

/-- The barrier's units listed by the slot they are paid across. -/
theorem units_back (c : Dev nD) :
    (bigSep Finset.univ fun s : Fin 7 => (dutyTok ER (barCell c) 0 s : sProp 𝕄)) = bigSep Finset.univ fun s : Fin 7 => dutyTok ER (barCell c) 0 (back s) :=
  bigSep_univ_equiv (⟨back, back, back_back, back_back⟩ : Fin 7 ≃ Fin 7) (fun s : Fin 7 => (dutyTok ER (barCell c) 0 s : sProp 𝕄))

/-- Devices and slots in either order. -/
theorem swap (Φ : Dev nD → Fin 7 → sProp 𝕄) :
    (bigSep Finset.univ fun c : Dev nD => bigSep Finset.univ fun s : Fin 7 => Φ c s)
      = bigSep Finset.univ fun s : Fin 7 => bigSep Finset.univ fun c : Dev nD => Φ c s := by
  rw [bigSep_seven]
  simp only [bigSep_seven, bigSep_sep']

/-- The rights as created become the rights as each device uses them. -/
theorem deal :
    (bigSep Finset.univ fun c : Dev nD => bigSep Finset.univ fun s : Fin 7 => (minted c s : sProp 𝕄))
      ⊢ bigSep Finset.univ fun c : Dev nD => bigSep Finset.univ fun s : Fin 7 => dealt c s := by
  have h1 : (bigSep Finset.univ fun c : Dev nD => bigSep Finset.univ fun s : Fin 7 => (minted c s : sProp 𝕄))
      = bigSep Finset.univ fun c : Dev nD => bigSep Finset.univ fun s : Fin 7 =>
        iprop(dutyTok ER (barCell c) 0 (back s) ∗ dutyTok ER (sendCell false s c) 0 0 ∗ dutyTok ER (recvCell false s c) 0 0
          ∗ dutyTok ER (sendCell true s c) 0 0 ∗ dutyTok ER (recvCell true s c) 0 0) := by
    refine bigSep_congr fun c _ => ?_
    unfold minted
    rw [bigSep_sep', bigSep_sep', units_back]
    simp only [bigSep_sep']
  rw [h1, swap, swap]
  refine Entails.of_eq (bigSep_congr fun s _ => ?_)
  unfold dealt
  simp only [bigSep_sep']
  rw [deal_units, deal_arrivals, deal_arrivals]

/-- A fact that stays true may be used for every item of a collection. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The semaphores' records go to everyone, the positions and rights to each device. -/
theorem regroup :
    (bigSep Finset.univ fun c : Dev nD => iprop((bigSep Finset.univ fun k => iprop(∃ κ : ℕ, cellInv ER (plan m) κ (kcell (c, k))))
          ∗ (bigSep Finset.univ fun k : Fin 29 => reached ER (kcell (c, k)) 0)
          ∗ (atPos ER (barCell c) 0 ∅ 0 ∗ bigSep Finset.univ fun s : Fin 7 => places c s)
          ∗ bigSep Finset.univ fun s : Fin 7 => minted c s) : sProp 𝕄)
      ⊢ bigSep Finset.univ (outfit m) := by
  rw [bigSep_sep', bigSep_sep', bigSep_sep', ← bigSep_univ_prod (fun ck : Dev nD × Fin 29 => iprop(∃ κ : ℕ, cellInv ER (plan m) κ (kcell ck))),
    ← bigSep_univ_prod (fun ck : Dev nD × Fin 29 => (reached ER (kcell ck) 0 : sProp 𝕄))]
  iintro ⟨HI, #HR, Hat, Htok⟩
  ihave HK := (BI.bigSep_exists_pi Finset.univ (fun (ck : Dev nD × Fin 29) (κ : ℕ) => (cellInv ER (plan m) κ (kcell ck) : sProp 𝕄))) $$ HI
  icases HK with ⟨%K, #HI⟩
  ihave Htk := (deal (F := F)) $$ Htok
  iapply (with_all (R := iprop((bigSep Finset.univ fun ck : Dev nD × Fin 29 => (cellInv ER (plan m) (K ck) (kcell ck) : sProp 𝕄))
      ∗ bigSep Finset.univ fun ck : Dev nD × Fin 29 => reached ER (kcell ck) 0))
    (Φ := fun c => iprop((atPos ER (barCell c) 0 ∅ 0 ∗ bigSep Finset.univ fun s : Fin 7 => places c s) ∗ bigSep Finset.univ fun s : Fin 7 => dealt c s))
    fun c _ => show _ ⊢ outfit m c from by
      unfold outfit
      iintro ⟨⟨#HI, #HR⟩, ⟨Ha, Hp⟩, Hd⟩
      isplitr
      · iexists K
        isplitr; · iexact HI
        iexact HR
      isplitl [Ha]; · iexact Ha
      isplitl [Hp] <;> iassumption)
  isplitr
  · isplitr; · iexact HI
    iexact HR
  · iapply (Entails.of_eq (bigSep_sep' Finset.univ (fun c : Dev nD => iprop(atPos ER (barCell c) 0 ∅ 0 ∗ bigSep Finset.univ fun s : Fin 7 => places c s))
      (fun c : Dev nD => (bigSep Finset.univ fun s : Fin 7 => dealt c s : sProp 𝕄))).symm)
    isplitl [Hat]; · iexact Hat
    iexact Htk

/-- All devices' counters at once. -/
theorem glob : (bigSep Finset.univ fun c => iprop(Pipeline.ownSems0 (Ix := Unit) (Name := ℕ) (U := UU) (Lvl := ℕ) (Val := Elt F) (τ := τ) osem c ∗ unscopedSems0 c ∗ seed m c) : sProp 𝕄)
    ⊢ |={Set.univ}=> bigSep Finset.univ (outfit m) :=
  ((bigSep_mono fun c _ => core_alloc m c).trans (bigSep_fupd _ _)).trans (BI.fupd_mono (regroup m))

end Cert.Attn

end
-- ==== Proof.Pieces.lean ====
/-
# Whole buffers and their parts

A batch's slab buffer is its four slabs, its landing buffer its seven slots; the first slab is stored in eight pieces, the
result block in two. Here the buffers come apart and go together again, and the stored pieces are read as one value.
-/
module

public import proofs.«01_k».proof.Proof.Protocol

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The pieces of the first slab -/

/-- The eight stores to a batch's first slab, the last one first. -/
abbrev pieces (n0 n1 n2 n3 : Vec F S1x128x64 .bf16) (d0 d1 d2 d3 : Vec F S1x128x1 .bf16) : List (View.Piece (Elt F) S4x128x260 .bf16) :=
  [⟨Rect.unit (s := S4x128x260) ![0, 0, 259] S1x128x1.size inb_S4x128x260_S1x128x1_0_0_259, d3⟩,
   ⟨Rect.unit (s := S4x128x260) ![0, 0, 192] S1x128x64.size inb_S4x128x260_S1x128x64_0_0_192, n3⟩,
   ⟨Rect.unit (s := S4x128x260) ![0, 0, 258] S1x128x1.size inb_S4x128x260_S1x128x1_0_0_258, d2⟩,
   ⟨Rect.unit (s := S4x128x260) ![0, 0, 128] S1x128x64.size inb_S4x128x260_S1x128x64_0_0_128, n2⟩,
   ⟨Rect.unit (s := S4x128x260) ![0, 0, 257] S1x128x1.size inb_S4x128x260_S1x128x1_0_0_257, d1⟩,
   ⟨Rect.unit (s := S4x128x260) ![0, 0, 64] S1x128x64.size inb_S4x128x260_S1x128x64_0_0_64, n1⟩,
   ⟨Rect.unit (s := S4x128x260) ![0, 0, 256] S1x128x1.size inb_S4x128x260_S1x128x1_0_0_256, d0⟩,
   ⟨Rect.unit (s := S4x128x260) ![0, 0, 0] S1x128x64.size inb_S4x128x260_S1x128x64_0_0_0, n0⟩]

section Reads

variable (v : View sig .tc .vmem S4x128x260 .bf16) (f : v.ty.Contents (Elt F)) {o W : ℕ}
  (inb : ∀ a, (![0, 0, o] : Fin 3 → ℕ) a + (![1, 128, W] : Fin 3 → ℕ) a ≤ S4x128x260.size a)
  (w : (Rect.unit (s := S4x128x260) ![0, 0, o] ![1, 128, W] inb).shape.Idx → Elt F .bf16) (L : List (View.Piece (Elt F) S4x128x260 .bf16))
  (y : S4x128x260.Idx)

/-- A column outside the newest piece is read from the rest. -/
theorem read_past (h : (y (2 : Fin 3)).val < o ∨ o + W ≤ (y (2 : Fin 3)).val) :
    v.read (Elt F) (v.writes (Elt F) f (⟨Rect.unit (s := S4x128x260) ![0, 0, o] ![1, 128, W] inb, w⟩ :: L)) y = v.read (Elt F) (v.writes (Elt F) f L) y :=
  View.read_writes_cons_unit_of_not_mem v f inb w L y rfl (2 : Fin 3) h

/-- A column inside it is the piece's. -/
theorem read_here (r : Fin 128) (k : Fin W) (h0 : (y (0 : Fin 3)).val = 0) (h1 : (y (1 : Fin 3)).val = r.val) (h2 : (y (2 : Fin 3)).val = o + k.val) :
    v.read (Elt F) (v.writes (Elt F) f (⟨Rect.unit (s := S4x128x260) ![0, 0, o] ![1, 128, W] inb, w⟩ :: L)) y
      = w (ix3 (d := ![1, 128, W]) (0 : Fin 1) r k) :=
  View.read_writes_cons_unit_of_mem v f inb w L y (ix3 (d := ![1, 128, W]) (0 : Fin 1) r k) rfl (fun a => by
    have key : ∀ a : Fin 3, (y a).val = (![0, 0, o] : Fin 3 → ℕ) a + (ix3 (d := ![1, 128, W]) (0 : Fin 1) r k a).val := fun a =>
      match a with
      | 0 => h0
      | 1 => h1.trans (Nat.zero_add r.val).symm
      | 2 => h2
    exact key a)

end Reads

/-- Where an entry of a part lies in the whole. -/
theorem emb_unit_val {s : Shape} (off size : Fin s.rank → ℕ) (inb : ∀ a, off a + size a ≤ s.size a) (i : (Rect.unit off size inb).shape.Idx) (a : Fin s.rank) :
    ((Rect.unit off size inb).emb i a).val = off a + (i a).val := by
  show off a + 1 * (i a).val = _
  omega

/-- Slab 0 after the eight stores, read back. -/
theorem read_pieces (b : Bool) (f : (slabsM b).view.ty.Contents (Elt F)) (n0 n1 n2 n3 : Vec F S1x128x64 .bf16) (d0 d1 d2 d3 : Vec F S1x128x1 .bf16) :
    (slab b 0).view.read (Elt F) ((slabsM b).view.writes (Elt F) f (pieces n0 n1 n2 n3 d0 d1 d2 d3)) = slabOf n0 n1 n2 n3 d0 d1 d2 d3 := by
  funext i
  have hy0 : ((slabR 0).emb i (0 : Fin 3)).val = 0 := by
    have h : (i (0 : Fin 3)).val < 1 := (i (0 : Fin 3)).isLt
    rw [emb_unit_val]
    show 0 + (i (0 : Fin 3)).val = 0
    omega
  have hy1 : ((slabR 0).emb i (1 : Fin 3)).val = (i (1 : Fin 3)).val := by
    rw [emb_unit_val]
    show 0 + (i (1 : Fin 3)).val = _
    omega
  have hy2 : ((slabR 0).emb i (2 : Fin 3)).val = (i (2 : Fin 3)).val := by
    rw [emb_unit_val]
    show 0 + (i (2 : Fin 3)).val = _
    omega
  have hk : (i (2 : Fin 3)).val < 260 := (i (2 : Fin 3)).isLt
  show (slabsM b).view.read (Elt F) ((slabsM b).view.writes (Elt F) f (pieces n0 n1 n2 n3 d0 d1 d2 d3)) ((slabR 0).emb i) = _
  generalize (slabR 0).emb i = y at hy0 hy1 hy2 ⊢
  generalize (slabsM b).view = v at f ⊢
  unfold slabOf
  dsimp only
  split
  · rename_i h
    refine (read_past v f _ d3 _ y (by omega)).trans <| (read_past v f _ n3 _ y (by omega)).trans <| (read_past v f _ d2 _ y (by omega)).trans <|
      (read_past v f _ n2 _ y (by omega)).trans <| (read_past v f _ d1 _ y (by omega)).trans <| (read_past v f _ n1 _ y (by omega)).trans <|
      (read_past v f _ d0 _ y (by omega)).trans (read_here v f _ n0 _ y (i (1 : Fin 3)) _ hy0 hy1 ?_)
    show _ = 0 + _ % 64
    omega
  split
  · rename_i h
    refine (read_past v f _ d3 _ y (by omega)).trans <| (read_past v f _ n3 _ y (by omega)).trans <| (read_past v f _ d2 _ y (by omega)).trans <|
      (read_past v f _ n2 _ y (by omega)).trans <| (read_past v f _ d1 _ y (by omega)).trans (read_here v f _ n1 _ y (i (1 : Fin 3)) _ hy0 hy1 ?_)
    show _ = 64 + _ % 64
    omega
  split
  · rename_i h
    refine (read_past v f _ d3 _ y (by omega)).trans <| (read_past v f _ n3 _ y (by omega)).trans <| (read_past v f _ d2 _ y (by omega)).trans
      (read_here v f _ n2 _ y (i (1 : Fin 3)) _ hy0 hy1 ?_)
    show _ = 128 + _ % 64
    omega
  split
  · rename_i h
    refine (read_past v f _ d3 _ y (by omega)).trans (read_here v f _ n3 _ y (i (1 : Fin 3)) _ hy0 hy1 ?_)
    show _ = 192 + _ % 64
    omega
  split
  · rename_i h
    refine (read_past v f _ d3 _ y (by omega)).trans <| (read_past v f _ n3 _ y (by omega)).trans <| (read_past v f _ d2 _ y (by omega)).trans <|
      (read_past v f _ n2 _ y (by omega)).trans <| (read_past v f _ d1 _ y (by omega)).trans <| (read_past v f _ n1 _ y (by omega)).trans
      (read_here v f _ d0 _ y (i (1 : Fin 3)) (0 : Fin 1) hy0 hy1 ?_)
    exact hy2.trans h
  split
  · rename_i h
    refine (read_past v f _ d3 _ y (by omega)).trans <| (read_past v f _ n3 _ y (by omega)).trans <| (read_past v f _ d2 _ y (by omega)).trans <|
      (read_past v f _ n2 _ y (by omega)).trans (read_here v f _ d1 _ y (i (1 : Fin 3)) (0 : Fin 1) hy0 hy1 ?_)
    exact hy2.trans h
  split
  · rename_i h
    refine (read_past v f _ d3 _ y (by omega)).trans <| (read_past v f _ n3 _ y (by omega)).trans
      (read_here v f _ d2 _ y (i (1 : Fin 3)) (0 : Fin 1) hy0 hy1 ?_)
    exact hy2.trans h
  · refine read_here v f _ d3 _ y (i (1 : Fin 3)) (0 : Fin 1) hy0 hy1 ?_
    show _ = 259 + 0
    omega

/-! ## A buffer and its parts -/

section Parts

variable (c : Dev nD)

/-- A slab at some contents. -/
def blank (b : Bool) (k : Fin 4) (c : Dev nD) : sProp 𝕄 := iprop(∃ X, owns (c : Thread nD τ) (slab b k) fullShare X)

/-- Two slabs do not overlap. -/
theorem slab_disj : ∀ k k' : Fin 4, k ≠ k' → Disjoint (slabR k).set (slabR k').set := fun k k' h =>
  Rect.unit_disjoint (a := (0 : Fin 3)) (by
    show k.val + 1 ≤ k'.val ∨ k'.val + 1 ≤ k.val
    have : k.val ≠ k'.val := fun e => h (Fin.ext e)
    omega)
/-- Two slots do not overlap. -/
theorem slot_disj : ∀ s s' : Fin 7, s ≠ s' → Disjoint (slotR s).set (slotR s').set := fun k k' h =>
  Rect.unit_disjoint (a := (0 : Fin 3)) (by
    show k.val + 1 ≤ k'.val ∨ k'.val + 1 ≤ k.val
    have : k.val ≠ k'.val := fun e => h (Fin.ext e)
    omega)

/-- The four slabs are the whole buffer. -/
theorem slab_cover : (Finset.univ : Finset (Fin 4)).biUnion (fun k => (slabR k).set) = Finset.univ := by
  refine Finset.eq_univ_of_forall fun y => Finset.mem_biUnion.mpr ⟨(y (0 : Fin 3) : Fin 4), Finset.mem_univ _, ?_⟩
  rw [Rect.mem_set_unit]
  intro a
  match a with
  | 0 => exact ⟨le_refl _, Nat.lt_succ_self _⟩
  | 1 => exact ⟨Nat.zero_le _, by show (y (1 : Fin 3)).val < 0 + 128; have : (y (1 : Fin 3)).val < 128 := (y (1 : Fin 3)).isLt; omega⟩
  | 2 => exact ⟨Nat.zero_le _, by show (y (2 : Fin 3)).val < 0 + 260; have : (y (2 : Fin 3)).val < 260 := (y (2 : Fin 3)).isLt; omega⟩
/-- The seven slots are the whole buffer. -/
theorem slot_cover : (Finset.univ : Finset (Fin 7)).biUnion (fun k => (slotR k).set) = Finset.univ := by
  refine Finset.eq_univ_of_forall fun y => Finset.mem_biUnion.mpr ⟨(y (0 : Fin 3) : Fin 7), Finset.mem_univ _, ?_⟩
  rw [Rect.mem_set_unit]
  intro a
  match a with
  | 0 => exact ⟨le_refl _, Nat.lt_succ_self _⟩
  | 1 => exact ⟨Nat.zero_le _, by show (y (1 : Fin 3)).val < 0 + 128; have : (y (1 : Fin 3)).val < 128 := (y (1 : Fin 3)).isLt; omega⟩
  | 2 => exact ⟨Nat.zero_le _, by show (y (2 : Fin 3)).val < 0 + 260; have : (y (2 : Fin 3)).val < 260 := (y (2 : Fin 3)).isLt; omega⟩

/-- A buffer of matrices is its matrices, each at some contents, both ways. -/
theorem apart {T : Type} [Fintype T] [DecidableEq T] {sh : Shape} {e : EltTy} (M : Memref sig .tc .vmem sh e) (hM : M.view.set = Finset.univ)
    (r : T → Rect sh) (hr : ∀ t a, (r t).stride a = 1) (hd : ∀ t t', t ≠ t' → Disjoint (r t).set (r t').set)
    (hcov : (Finset.univ : Finset T).biUnion (fun t => (r t).set) = Finset.univ) (L : List (View.Piece (Elt F) sh e)) :
    (written c M L : sProp 𝕄) ⊢ iprop(∃ f : Buf (Elt F) (M.view.loc (c : Thread nD τ)),
      bigSep Finset.univ fun t => owns (c : Thread nD τ) (M.slice (r t) (hr t)) fullShare ((M.slice (r t) (hr t)).view.read (Elt F) (M.view.writes (Elt F) f L))) := by
  unfold written
  iintro ⟨%f, H⟩
  iexists f
  have h := pointsTo_rects (Ix := Unit) (Name := ℕ) (U := UU) (Lvl := ℕ) (c : Thread nD τ) M fullShare r hr hd hcov (M.view.writes (Elt F) f L)
  rw [hM] at h
  iapply (Entails.of_eq h); iexact H

/-- Parts that are apart and cover a buffer make it whole again. -/
theorem together {T : Type} [Fintype T] [DecidableEq T] {sh : Shape} {e : EltTy} (M : Memref sig .tc .vmem sh e) (hM : M.view.set = Finset.univ)
    (r : T → Rect sh) (hr : ∀ t a, (r t).stride a = 1) (hd : ∀ t t', t ≠ t' → Disjoint (r t).set (r t').set)
    (hcov : (Finset.univ : Finset T).biUnion (fun t => (r t).set) = Finset.univ) :
    bigSep Finset.univ (fun t => iprop(∃ X, owns (c : Thread nD τ) (M.slice (r t) (hr t)) fullShare X))
      ⊢ (iprop(∃ f : Buf (Elt F) (M.view.loc (c : Thread nD τ)), M.view.loc (c : Thread nD τ) ↦{fullShare} f) : sProp 𝕄) := by
  have h : bigSep Finset.univ (fun t => iprop(∃ X, owns (c : Thread nD τ) (M.slice (r t) (hr t)) fullShare X))
      ⊢ (iprop(∃ X, owns (c : Thread nD τ) M fullShare X) : sProp 𝕄) :=
    ((bigSep_mono fun t _ => (ownsSat_true (c : Thread nD τ) (M.slice (r t) (hr t)) fullShare).2).trans
      (ownsSat_of_rects (c : Thread nD τ) M fullShare r hr hd hcov (fun _ _ => True))).trans
      (ownsSat_any (c : Thread nD τ) M fullShare)
  refine h.trans ?_
  iintro ⟨%X, H⟩
  ihave H' := (show owns (c : Thread nD τ) M fullShare X
    ⊢ (iprop(∃ g, ⌜M.view.read (Elt F) g = X⌝ ∗ M.view.loc (c : Thread nD τ) ↦[M.view.set]{fullShare} g) : sProp 𝕄) from .rfl) $$ H
  icases H' with ⟨%g, -, H⟩
  rw [hM]
  iexists g; iexact H

/-- Four things, one by one. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The slab buffer is a whole buffer. -/
theorem slabsM_set (b : Bool) : (slabsM b).view.set = Finset.univ := by cases b <;> exact View.set_whole _
/-- The slot buffer is a whole buffer. -/
theorem slotsM_set (b : Bool) : (slotsM b).view.set = Finset.univ := by cases b <;> exact View.set_whole _

/-- After the eight stores: the first slab holds what they make together, the other slabs something. -/
theorem slabs_apart (b : Bool) (n0 n1 n2 n3 : Vec F S1x128x64 .bf16) (d0 d1 d2 d3 : Vec F S1x128x1 .bf16) :
    (written c (slabsM b) (pieces n0 n1 n2 n3 d0 d1 d2 d3) : sProp 𝕄)
      ⊢ iprop(owns (c : Thread nD τ) (slab b 0) fullShare (slabOf n0 n1 n2 n3 d0 d1 d2 d3) ∗ blank b 1 c ∗ blank b 2 c ∗ blank b 3 c) := by
  refine (apart c (slabsM b) (slabsM_set b) slabR (fun _ _ => rfl) slab_disj slab_cover _).trans (exists_elim fun f => ?_)
  rw [bigSep_four, read_pieces b f]
  iintro ⟨H0, H1, H2, H3⟩
  isplitl [H0]; · iexact H0
  isplitl [H1]; · unfold blank; iexists _; iexact H1
  isplitl [H2]; · unfold blank; iexists _; iexact H2
  unfold blank; iexists _; iexact H3

/-- The slot buffer is its seven free slots. -/
theorem slots_apart (b : Bool) :
    (written c (slotsM b) [] : sProp 𝕄) ⊢ iprop(free b 0 c ∗ free b 1 c ∗ free b 2 c ∗ free b 3 c ∗ free b 4 c ∗ free b 5 c ∗ free b 6 c) := by
  refine (apart c (slotsM b) (slotsM_set b) slotR (fun _ _ => rfl) slot_disj slot_cover _).trans (exists_elim fun f => ?_)
  rw [bigSep_seven]
  iintro ⟨H0, H1, H2, H3, H4, H5, H6⟩
  unfold free
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

/-- Four slabs make the slab buffer. -/
theorem slabs_together (b : Bool) :
    (iprop(blank b 0 c ∗ blank b 1 c ∗ blank b 2 c ∗ blank b 3 c) : sProp 𝕄)
      ⊢ iprop(∃ f : Buf (Elt F) ((slabsM b).view.loc (c : Thread nD τ)), (slabsM b).view.loc (c : Thread nD τ) ↦{fullShare} f) := by
  have h := together (F := F) c (slabsM b) (slabsM_set b) slabR (fun _ _ => rfl) slab_disj slab_cover
  rw [bigSep_four] at h
  exact h

/-- Seven slots make the slot buffer. -/
theorem slots_together (b : Bool) :
    (iprop(free b 0 c ∗ free b 1 c ∗ free b 2 c ∗ free b 3 c ∗ free b 4 c ∗ free b 5 c ∗ free b 6 c) : sProp 𝕄)
      ⊢ iprop(∃ f : Buf (Elt F) ((slotsM b).view.loc (c : Thread nD τ)), (slotsM b).view.loc (c : Thread nD τ) ↦{fullShare} f) := by
  have h := together (F := F) c (slotsM b) (slotsM_set b) slotR (fun _ _ => rfl) slot_disj slot_cover
  rw [bigSep_seven] at h
  exact h

end Parts

/-! ## The result block -/

/-- The two stores to the result block, the last one first. -/
abbrev outPieces (w0 w1 : Vec F S1x128x512 .f32) : List (View.Piece (Elt F) S2x128x512 .f32) :=
  [⟨Rect.unit (s := S2x128x512) ![1, 0, 0] S1x128x512.size inb_S2x128x512_S1x128x512_1_0_0, w1⟩,
   ⟨Rect.unit (s := S2x128x512) ![0, 0, 0] S1x128x512.size inb_S2x128x512_S1x128x512_0_0_0, w0⟩]

/-- The result block after its two stores, read back. -/
theorem read_out (v : View sig .tc .vmem S2x128x512 .f32) (f : v.ty.Contents (Elt F)) (a b : Vec F S1x128x260 .bf16) (wo : Vec F S256x512 .f32) :
    v.read (Elt F) (v.writes (Elt F) f (outPieces (k0_pay57 (k0_pay56 a wo)) (k0_pay60 (k0_pay59 b) wo))) = outOf a b wo := by
  funext i
  have h0 : (i (0 : Fin 3)).val < 2 := (i (0 : Fin 3)).isLt
  unfold outOf
  split
  · rename_i h
    refine (View.read_writes_cons_unit_of_not_mem v f _ _ _ i rfl (0 : Fin 3) (Or.inl (by rw [h]; exact Nat.one_pos))).trans ?_
    refine View.read_writes_cons_unit_of_mem v f _ _ _ i (ix3 (d := ![1, 128, 512]) (0 : Fin 1) (i (1 : Fin 3)) (i (2 : Fin 3))) rfl (fun a => ?_)
    have key : ∀ a : Fin 3, (i a).val = (![0, 0, 0] : Fin 3 → ℕ) a + (ix3 (d := ![1, 128, 512]) (0 : Fin 1) (i (1 : Fin 3)) (i (2 : Fin 3)) a).val := fun a =>
      match a with
      | 0 => h
      | 1 => (Nat.zero_add _).symm
      | 2 => (Nat.zero_add _).symm
    exact key a
  · rename_i h
    refine View.read_writes_cons_unit_of_mem v f _ _ _ i (ix3 (d := ![1, 128, 512]) (0 : Fin 1) (i (1 : Fin 3)) (i (2 : Fin 3))) rfl (fun a => ?_)
    have key : ∀ a : Fin 3, (i a).val = (![1, 0, 0] : Fin 3 → ℕ) a + (ix3 (d := ![1, 128, 512]) (0 : Fin 1) (i (1 : Fin 3)) (i (2 : Fin 3)) a).val := fun a =>
      match a with
      | 0 => by show (i (0 : Fin 3)).val = 1 + 0; omega
      | 1 => (Nat.zero_add _).symm
      | 2 => (Nat.zero_add _).symm
    exact key a

end Cert.Attn

end
-- ==== Proof.Extra.lean ====
/-
# Whole-block loads, and the later slabs by name
-/
module

public import proofs.«01_k».proof.Proof.Pieces
public import Idealize.ShloMosaic.Lib.VecWindow

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A load of all of a memref reads what it is owned at. -/
theorem step_full (c : Dev nD) {sh : Shape} {e : EltTy} {α : Type} {M : Memref sig .tc .vmem sh e} {q : PosShare TreeShare} (X : sh.Idx → Elt F e)
    {off : Fin sh.rank → ℕ} {inb : ∀ a, off a + sh.size a ≤ sh.size a} {hl : M.view.LoadsAt (Rect.unit off sh.size inb).toLoadRect}
    {k : (sh.Idx → Elt F e) → Prog (TpuEff nD τ sig (Elt F) Λ₀ .tc) α} {Q : α → sProp 𝕄} :
    (owns (c : Thread nD τ) M q X : sProp 𝕄)
      ⊢ iprop((owns (c : Thread nD τ) M q X -∗ wp frame (wpE (defs₀ (F := F)) 𝒱₀ (c : Thread nD τ) none) Set.univ (k X) Q)
        -∗ wp frame (wpE (defs₀ (F := F)) 𝒱₀ (c : Thread nD τ) none) Set.univ (.op (.load M (Rect.unit off sh.size inb).toLoadRect hl) k) Q) := by
  iintro H Hk
  ihave H' := (show owns (c : Thread nD τ) M q X
    ⊢ (iprop(∃ g, ⌜M.view.read (Elt F) g = X⌝ ∗ M.view.loc (c : Thread nD τ) ↦[M.view.set]{q} g) : sProp 𝕄) from .rfl) $$ H
  icases H' with ⟨%g, %hg, H⟩
  iapply (wp_load 𝒱₀ (c : Thread nD τ) none Set.univ (m := M) (r := (Rect.unit off sh.size inb).toLoadRect) (S := M.view.set)
    (View.setOn_subset_set _ _)) $$ H
  iintro H
  rw [View.readAt_full, hg]
  iapply Hk
  unfold owns
  iexists g
  isplitr; · ipureintro; exact hg
  iexact H

variable (m : (ℓ : Loc nD τ sig) → Buf (Elt F) ℓ) (c : Dev nD)

/-! Each later slab, as its store writes it. -/

/-- First batch: what stage 1 computes from its slab and the arrived ones is the next slab. -/
theorem next_a1 : k0_pay47 (k0_pay46 (slabAt m false 0 c) (landed m false 1 c)) (landed m false 2 c) (landed m false 3 c) = slabAt m false 1 c := rfl
/-- First batch: what stage 2 computes from its slab and the arrived ones is the next slab. -/
theorem next_a2 : k0_pay52 (k0_pay51 (slabAt m false 1 c) (landed m false 4 c)) (landed m false 5 c) (landed m false 6 c) = slabAt m false 2 c := rfl
/-- First batch: what stage 3 computes from its slab and the arrived ones is the next slab. -/
theorem next_a3 : k0_pay55 (slabAt m false 2 c) (landed m false 0 c) = slabAt m false 3 c := rfl
/-- Second batch: what stage 1 computes from its slab and the arrived ones is the next slab. -/
theorem next_b1 : k0_pay50 (k0_pay49 (k0_pay48 (slabAt m true 0 c)) (landed m true 4 c) (landed m true 5 c)) (landed m true 6 c) = slabAt m true 1 c := rfl
/-- Second batch: what stage 2 computes from its slab and the arrived ones is the next slab. -/
theorem next_b2 : k0_pay54 (k0_pay53 (slabAt m true 1 c) (landed m true 1 c)) (landed m true 2 c) (landed m true 3 c) = slabAt m true 2 c := rfl
/-- Second batch: what stage 3 computes from its slab and the arrived ones is the next slab. -/
theorem next_b3 : k0_pay58 (slabAt m true 2 c) (landed m true 0 c) = slabAt m true 3 c := rfl

/-! Each first slab, from the eight stores. -/

/-- The eight stores of the first batch's partial results make its first slab. -/
theorem first_a : (written c (slabsM false) [⟨Rect.unit (s := S4x128x260) ![0, 0, 259] S1x128x1.size inb_S4x128x260_S1x128x1_0_0_259, k0_pay27 (maskOf c) (k0_pay10 (k0_pay1 (inX m c) (inWq m c))) (k0_pay11 (k0_pay2 (inK m c)))⟩, ⟨Rect.unit (s := S4x128x260) ![0, 0, 192] S1x128x64.size inb_S4x128x260_S1x128x64_0_0_192, k0_pay26 (maskOf c) (k0_pay10 (k0_pay1 (inX m c) (inWq m c))) (k0_pay11 (k0_pay2 (inK m c))) (k0_pay12 (k0_pay3 (inV m c)))⟩, ⟨Rect.unit (s := S4x128x260) ![0, 0, 258] S1x128x1.size inb_S4x128x260_S1x128x1_0_0_258, k0_pay24 (maskOf c) (k0_pay21 (k0_pay10 (k0_pay1 (inX m c) (inWq m c))) (k0_pay11 (k0_pay2 (inK m c)))) (Scalar.ofBits .f32 0#32)⟩, ⟨Rect.unit (s := S4x128x260) ![0, 0, 128] S1x128x64.size inb_S4x128x260_S1x128x64_0_0_128, k0_pay23 (maskOf c) (k0_pay12 (k0_pay3 (inV m c))) (k0_pay21 (k0_pay10 (k0_pay1 (inX m c) (inWq m c))) (k0_pay11 (k0_pay2 (inK m c)))) (Scalar.ofBits .f32 0#32)⟩, ⟨Rect.unit (s := S4x128x260) ![0, 0, 257] S1x128x1.size inb_S4x128x260_S1x128x1_0_0_257, k0_pay20 (maskOf c) (k0_pay10 (k0_pay1 (inX m c) (inWq m c))) (k0_pay11 (k0_pay2 (inK m c)))⟩, ⟨Rect.unit (s := S4x128x260) ![0, 0, 64] S1x128x64.size inb_S4x128x260_S1x128x64_0_0_64, k0_pay19 (maskOf c) (k0_pay10 (k0_pay1 (inX m c) (inWq m c))) (k0_pay11 (k0_pay2 (inK m c))) (k0_pay12 (k0_pay3 (inV m c)))⟩, ⟨Rect.unit (s := S4x128x260) ![0, 0, 256] S1x128x1.size inb_S4x128x260_S1x128x1_0_0_256, k0_pay17 (k0_pay14 (k0_pay1 (inX m c) (inWq m c)) (k0_pay2 (inK m c)) k0_pay4 (Scalar.muli (devWord c) 2#32) k0_pay5 k0_pay6 k0_pay7 k0_pay8)⟩, ⟨Rect.unit (s := S4x128x260) ![0, 0, 0] S1x128x64.size inb_S4x128x260_S1x128x64_0_0_0, k0_pay16 (k0_pay13 (k0_pay1 (inX m c) (inWq m c)) (k0_pay2 (inK m c)) k0_pay4 (Scalar.muli (devWord c) 2#32) k0_pay5 k0_pay6 k0_pay7 k0_pay8) (k0_pay15 (k0_pay3 (inV m c))) (constant S128x64 .f32 0x00000000#32)⟩] : sProp 𝕄)
    ⊢ iprop(owns (c : Thread nD τ) (slab false 0) fullShare (slabAt m false 0 c) ∗ blank false 1 c ∗ blank false 2 c ∗ blank false 3 c) :=
  slabs_apart c false _ _ _ _ _ _ _ _

/-- The eight stores of the second batch's partial results make its first slab. -/
theorem first_b : (written c (slabsM true) [⟨Rect.unit (s := S4x128x260) ![0, 0, 259] S1x128x1.size inb_S4x128x260_S1x128x1_0_0_259, k0_pay45 (k0_pay43 (maskOf c) (k0_pay28 (k0_pay1 (inX m c) (inWq m c))) (k0_pay29 (k0_pay2 (inK m c))))⟩, ⟨Rect.unit (s := S4x128x260) ![0, 0, 192] S1x128x64.size inb_S4x128x260_S1x128x64_0_0_192, k0_pay44 (k0_pay30 (k0_pay3 (inV m c))) (k0_pay42 (maskOf c) (k0_pay28 (k0_pay1 (inX m c) (inWq m c))) (k0_pay29 (k0_pay2 (inK m c))))⟩, ⟨Rect.unit (s := S4x128x260) ![0, 0, 258] S1x128x1.size inb_S4x128x260_S1x128x1_0_0_258, k0_pay41 (maskOf c) (k0_pay28 (k0_pay1 (inX m c) (inWq m c))) (k0_pay29 (k0_pay2 (inK m c)))⟩, ⟨Rect.unit (s := S4x128x260) ![0, 0, 128] S1x128x64.size inb_S4x128x260_S1x128x64_0_0_128, k0_pay40 (maskOf c) (k0_pay28 (k0_pay1 (inX m c) (inWq m c))) (k0_pay29 (k0_pay2 (inK m c))) (k0_pay30 (k0_pay3 (inV m c)))⟩, ⟨Rect.unit (s := S4x128x260) ![0, 0, 257] S1x128x1.size inb_S4x128x260_S1x128x1_0_0_257, k0_pay38 (k0_pay35 (k0_pay1 (inX m c) (inWq m c)) (k0_pay2 (inK m c)) (maskOf c))⟩, ⟨Rect.unit (s := S4x128x260) ![0, 0, 64] S1x128x64.size inb_S4x128x260_S1x128x64_0_0_64, k0_pay37 (k0_pay36 (k0_pay1 (inX m c) (inWq m c)) (k0_pay2 (inK m c)) (k0_pay3 (inV m c)) (maskOf c))⟩, ⟨Rect.unit (s := S4x128x260) ![0, 0, 256] S1x128x1.size inb_S4x128x260_S1x128x1_0_0_256, k0_pay33 (k0_pay1 (inX m c) (inWq m c)) (k0_pay2 (inK m c)) (maskOf c)⟩, ⟨Rect.unit (s := S4x128x260) ![0, 0, 0] S1x128x64.size inb_S4x128x260_S1x128x64_0_0_0, k0_pay32 (k0_pay1 (inX m c) (inWq m c)) (k0_pay2 (inK m c)) (k0_pay3 (inV m c)) (maskOf c)⟩] : sProp 𝕄)
    ⊢ iprop(owns (c : Thread nD τ) (slab true 0) fullShare (slabAt m true 0 c) ∗ blank true 1 c ∗ blank true 2 c ∗ blank true 3 c) :=
  slabs_apart c true _ _ _ _ _ _ _ _

/-! A slab lent to the partners of one group. -/

/-- First batch, slab 0: the whole is the part kept and the part lent to each copy of that stage. -/
theorem lend_a0 : (owns (c : Thread nD τ) (slab false 0) fullShare (slabAt m false 0 c) : sProp 𝕄)
    ⊣⊢ iprop(owns (c : Thread nD τ) (slab false 0) kept (slabAt m false 0 c) ∗ lentSlab m false 1 c ∗ lentSlab m false 2 c ∗ lentSlab m false 3 c) :=
  ⟨lend_three c (slab false 0) (slabAt m false 0 c), unlend_three c (slab false 0) (slabAt m false 0 c)⟩
/-- First batch, slab 1: the whole is the part kept and the part lent to each copy of that stage. -/
theorem lend_a1 : (owns (c : Thread nD τ) (slab false 1) fullShare (slabAt m false 1 c) : sProp 𝕄)
    ⊣⊢ iprop(owns (c : Thread nD τ) (slab false 1) kept (slabAt m false 1 c) ∗ lentSlab m false 4 c ∗ lentSlab m false 5 c ∗ lentSlab m false 6 c) :=
  ⟨lend_three c (slab false 1) (slabAt m false 1 c), unlend_three c (slab false 1) (slabAt m false 1 c)⟩
/-- Second batch, slab 0: the whole is the part kept and the part lent to each copy of that stage. -/
theorem lend_b0 : (owns (c : Thread nD τ) (slab true 0) fullShare (slabAt m true 0 c) : sProp 𝕄)
    ⊣⊢ iprop(owns (c : Thread nD τ) (slab true 0) kept (slabAt m true 0 c) ∗ lentSlab m true 4 c ∗ lentSlab m true 5 c ∗ lentSlab m true 6 c) :=
  ⟨lend_three c (slab true 0) (slabAt m true 0 c), unlend_three c (slab true 0) (slabAt m true 0 c)⟩
/-- Second batch, slab 1: the whole is the part kept and the part lent to each copy of that stage. -/
theorem lend_b1 : (owns (c : Thread nD τ) (slab true 1) fullShare (slabAt m true 1 c) : sProp 𝕄)
    ⊣⊢ iprop(owns (c : Thread nD τ) (slab true 1) kept (slabAt m true 1 c) ∗ lentSlab m true 1 c ∗ lentSlab m true 2 c ∗ lentSlab m true 3 c) :=
  ⟨lend_three c (slab true 1) (slabAt m true 1 c), unlend_three c (slab true 1) (slabAt m true 1 c)⟩
/-- First batch, slab 2: the whole is the part kept and the part lent to each copy of that stage. -/
theorem lend_a2 : (owns (c : Thread nD τ) (slab false 2) fullShare (slabAt m false 2 c) : sProp 𝕄)
    ⊣⊢ iprop(owns (c : Thread nD τ) (slab false 2) kept (slabAt m false 2 c) ∗ lentSlab m false 0 c) :=
  lend_one c (slab false 2) (slabAt m false 2 c)
/-- Second batch, slab 2: the whole is the part kept and the part lent to each copy of that stage. -/
theorem lend_b2 : (owns (c : Thread nD τ) (slab true 2) fullShare (slabAt m true 2 c) : sProp 𝕄)
    ⊣⊢ iprop(owns (c : Thread nD τ) (slab true 2) kept (slabAt m true 2 c) ∗ lentSlab m true 0 c) :=
  lend_one c (slab true 2) (slabAt m true 2 c)

/-- A load of what has arrived. -/
theorem step_arrived (b : Bool) (s : Fin 7) {α : Type} {hl : (slotsM b).view.LoadsAt (slotR s)}
    {k : ((slotR s).shape.Idx → Elt F .bf16) → Prog (TpuEff nD τ sig (Elt F) Λ₀ .tc) α} {Q : α → sProp 𝕄} :
    (arrived m b s c : sProp 𝕄)
      ⊢ iprop((arrived m b s c -∗ wp frame (wpE (defs₀ (F := F)) 𝒱₀ (c : Thread nD τ) none) Set.univ (k (landed m b s c)) Q)
        -∗ wp frame (wpE (defs₀ (F := F)) 𝒱₀ (c : Thread nD τ) none) Set.univ (.op (.load (slotsM b) (slotR s).toLoadRect hl) k) Q) :=
  step_load c (M := slotsM b) (r := slotR s) (fun _ => rfl) (q := fullShare) (landed m b s c)

end Cert.Attn

end
-- ==== Proof.RunA.lean ====
/-
# The kernel, part by part: signals and the first batch
-/
module

public import proofs.«01_k».proof.Proof.Steps
public import proofs.«01_k».proof.Proof.Pieces
public import proofs.«01_k».proof.Proof.Extra

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 29 → ℕ) (c : Dev nD)

/-- The fifth part of the body, written as its operations in order. -/
theorem shape_part5 (d : Dev nD) (v19 v29 v68 v149 v150 : BitVec 32) (v151 v152 : BitVec 1) :
    ∃ a b e, k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d v19 v29 v68 v149 v150 v151 v152
      = (do semSignalWord (⟨k0_dev1 d, k0_dev1_lt d⟩ : Dev nD) (SemArray.scalar (sig.barrier 0 rfl) : Sems sig S_).sem 1#32; pure ⟨a, b, e, SemArray.scalar (sig.barrier 0 rfl), 1#32⟩) :=
  ⟨_, _, _, rfl⟩

/-- The first signal. -/
theorem run_part5 (v19 v29 v68 v149 v150 : BitVec 32) (v151 v152 : BitVec 1) {Q : (Σ' (v159 : BitVec 32) (v172 : BitVec 32) (v185 : BitVec 32) (v186 : Sems sig S_), BitVec 32) → sProp 𝕄} :
    iprop(records m K
      ∗ Owed c 0
      ∗ dutyTok ER (barCell (peer 0 c)) 0 (back 0)
      ∗ free false 0 c
      ∗ free true 0 c)
      ⊢ iprop((∀ a b d, iprop(Owed c 1) -∗ Q ⟨a, b, d, SemArray.scalar (sig.barrier 0 rfl), 1#32⟩)
        -∗ wp frame (wpE (defs₀ (F := F)) 𝒱₀ (c : Thread nD τ) none) Set.univ
          (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v19 v29 v68 v149 v150 v151 v152) Q) := by
  obtain ⟨a, b, d, h⟩ := shape_part5 (F := F) c v19 v29 v68 v149 v150 v151 v152
  rw [h]
  simp only [semSignalWord, semWaitWord, Prog.lift, Prog.bind_op, Prog.bind_ret, Prog.pure_eq_ret]
  iintro ⟨#HR, HO, HBt0, HFr00, HFr10⟩ Hk
  iapply (step_signal m K c 0 0 (congrArg (fun d : Dev nD => (d : Thread nD τ)) (dev1_peer c)) rfl rfl rfl) $$ [HO HBt0 HFr00 HFr10]
  · isplitr; · iexact HR
    isplitl [HO]; · iexact HO
    isplitl [HBt0]; · iexact HBt0
    isplitl [HFr00]; · iexact HFr00
    iexact HFr10
  iintro HO
  rw [wp_ret]; imodintro
  ispecialize Hk $$ %a %b %d
  iapply Hk
  iexact HO

/-- The other six signals, then the four blocks are read. -/
theorem run_part6 (v94 v120 v146 v159 v172 v185 v1 : BitVec 32) {Q : (Σ' (v206 : FVec F S256x256 .f32) (v209 : FVec F S2x128x256 .f32), FVec F S2x128x256 .f32) → sProp 𝕄} :
    iprop(records m K
      ∗ Owed c 1
      ∗ dutyTok ER (barCell (peer 1 c)) 0 (back 1)
      ∗ free false 3 c
      ∗ free true 3 c
      ∗ dutyTok ER (barCell (peer 2 c)) 0 (back 2)
      ∗ free false 2 c
      ∗ free true 2 c
      ∗ dutyTok ER (barCell (peer 3 c)) 0 (back 3)
      ∗ free false 1 c
      ∗ free true 1 c
      ∗ dutyTok ER (barCell (peer 4 c)) 0 (back 4)
      ∗ free false 6 c
      ∗ free true 6 c
      ∗ dutyTok ER (barCell (peer 5 c)) 0 (back 5)
      ∗ free false 5 c
      ∗ free true 5 c
      ∗ dutyTok ER (barCell (peer 6 c)) 0 (back 6)
      ∗ free false 4 c
      ∗ free true 4 c
      ∗ owns (c : Thread nD τ) (Memref.whole cc0_stg0_0) fullShare (inX m c)
      ∗ owns (c : Thread nD τ) (Memref.whole cc0_stg1_0) fullShare (inWq m c)
      ∗ owns (c : Thread nD τ) (Memref.whole cc0_stg2_0) fullShare (inK m c)
      ∗ owns (c : Thread nD τ) (Memref.whole cc0_stg3_0) fullShare (inV m c))
      ⊢ iprop((iprop(Owed c 7
        ∗ owns (c : Thread nD τ) (Memref.whole cc0_stg0_0) fullShare (inX m c)
        ∗ owns (c : Thread nD τ) (Memref.whole cc0_stg1_0) fullShare (inWq m c)
        ∗ owns (c : Thread nD τ) (Memref.whole cc0_stg2_0) fullShare (inK m c)
        ∗ owns (c : Thread nD τ) (Memref.whole cc0_stg3_0) fullShare (inV m c)) -∗ Q ⟨(k0_pay1 (inX m c) (inWq m c)), (k0_pay2 (inK m c)), (k0_pay3 (inV m c))⟩)
        -∗ wp frame (wpE (defs₀ (F := F)) 𝒱₀ (c : Thread nD τ) none) Set.univ
          (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v94 v120 v146 v159 v172 v185 (SemArray.scalar (sig.barrier 0 rfl)) v1) Q) := by
  simp only [k0_part6_eq_skeleton]; unfold k0_part6_skel
  simp only [semSignalWord, semWaitWord, Prog.lift, Prog.bind_op, Prog.bind_ret, Prog.pure_eq_ret]
  iintro ⟨#HR, HO, HBt1, HFr03, HFr13, HBt2, HFr02, HFr12, HBt3, HFr01, HFr11, HBt4, HFr06, HFr16, HBt5, HFr05, HFr15, HBt6, HFr04, HFr14, HIX, HIWq, HIKk, HIVv⟩ Hk
  iapply (step_signal m K c 1 1 (congrArg (fun d : Dev nD => (d : Thread nD τ)) (dev2_peer c)) rfl rfl rfl) $$ [HO HBt1 HFr03 HFr13]
  · isplitr; · iexact HR
    isplitl [HO]; · iexact HO
    isplitl [HBt1]; · iexact HBt1
    isplitl [HFr03]; · iexact HFr03
    iexact HFr13
  iintro HO
  iapply (step_signal m K c 2 2 (congrArg (fun d : Dev nD => (d : Thread nD τ)) (dev3_peer c)) rfl rfl rfl) $$ [HO HBt2 HFr02 HFr12]
  · isplitr; · iexact HR
    isplitl [HO]; · iexact HO
    isplitl [HBt2]; · iexact HBt2
    isplitl [HFr02]; · iexact HFr02
    iexact HFr12
  iintro HO
  iapply (step_signal m K c 3 3 (congrArg (fun d : Dev nD => (d : Thread nD τ)) (dev4_peer c)) rfl rfl rfl) $$ [HO HBt3 HFr01 HFr11]
  · isplitr; · iexact HR
    isplitl [HO]; · iexact HO
    isplitl [HBt3]; · iexact HBt3
    isplitl [HFr01]; · iexact HFr01
    iexact HFr11
  iintro HO
  iapply (step_signal m K c 4 4 (congrArg (fun d : Dev nD => (d : Thread nD τ)) (dev5_peer c)) rfl rfl rfl) $$ [HO HBt4 HFr06 HFr16]
  · isplitr; · iexact HR
    isplitl [HO]; · iexact HO
    isplitl [HBt4]; · iexact HBt4
    isplitl [HFr06]; · iexact HFr06
    iexact HFr16
  iintro HO
  iapply (step_signal m K c 5 5 (congrArg (fun d : Dev nD => (d : Thread nD τ)) (dev6_peer c)) rfl rfl rfl) $$ [HO HBt5 HFr05 HFr15]
  · isplitr; · iexact HR
    isplitl [HO]; · iexact HO
    isplitl [HBt5]; · iexact HBt5
    isplitl [HFr05]; · iexact HFr05
    iexact HFr15
  iintro HO
  iapply (step_signal m K c 6 6 (congrArg (fun d : Dev nD => (d : Thread nD τ)) (dev7_peer c)) rfl rfl rfl) $$ [HO HBt6 HFr04 HFr14]
  · isplitr; · iexact HR
    isplitl [HO]; · iexact HO
    isplitl [HBt6]; · iexact HBt6
    isplitl [HFr04]; · iexact HFr04
    iexact HFr14
  iintro HO
  iapply (step_full c (M := Memref.whole cc0_stg0_0) (q := fullShare) (inX m c)) $$ [HIX]
  · iexact HIX
  iintro HIX
  iapply (step_full c (M := Memref.whole cc0_stg1_0) (q := fullShare) (inWq m c)) $$ [HIWq]
  · iexact HIWq
  iintro HIWq
  iapply (step_full c (M := Memref.whole cc0_stg2_0) (q := fullShare) (inK m c)) $$ [HIKk]
  · iexact HIKk
  iintro HIKk
  iapply (step_full c (M := Memref.whole cc0_stg3_0) (q := fullShare) (inV m c)) $$ [HIVv]
  · iexact HIVv
  iintro HIVv
  rw [wp_ret]; imodintro
  iapply Hk
  isplitl [HO]; · iexact HO
  isplitl [HIX]; · iexact HIX
  isplitl [HIWq]; · iexact HIWq
  isplitl [HIKk]; · iexact HIKk
  iexact HIVv

/-- The first batch, heads 0 and 1, stored. -/
theorem run_part9  {Q : (Σ' (v340 : FVec F S128x128 .f32), F .f32) → sProp 𝕄} :
    iprop(written c (slabsM false) [])
      ⊢ iprop((iprop(written c (slabsM false) [⟨Rect.unit (s := S4x128x260) ![0, 0, 257] S1x128x1.size inb_S4x128x260_S1x128x1_0_0_257, k0_pay20 (maskOf c) (k0_pay10 (k0_pay1 (inX m c) (inWq m c))) (k0_pay11 (k0_pay2 (inK m c)))⟩, ⟨Rect.unit (s := S4x128x260) ![0, 0, 64] S1x128x64.size inb_S4x128x260_S1x128x64_0_0_64, k0_pay19 (maskOf c) (k0_pay10 (k0_pay1 (inX m c) (inWq m c))) (k0_pay11 (k0_pay2 (inK m c))) (k0_pay12 (k0_pay3 (inV m c)))⟩, ⟨Rect.unit (s := S4x128x260) ![0, 0, 256] S1x128x1.size inb_S4x128x260_S1x128x1_0_0_256, k0_pay17 (k0_pay14 (k0_pay1 (inX m c) (inWq m c)) (k0_pay2 (inK m c)) k0_pay4 (Scalar.muli (devWord c) 2#32) k0_pay5 k0_pay6 k0_pay7 k0_pay8)⟩, ⟨Rect.unit (s := S4x128x260) ![0, 0, 0] S1x128x64.size inb_S4x128x260_S1x128x64_0_0_0, k0_pay16 (k0_pay13 (k0_pay1 (inX m c) (inWq m c)) (k0_pay2 (inK m c)) k0_pay4 (Scalar.muli (devWord c) 2#32) k0_pay5 k0_pay6 k0_pay7 k0_pay8) (k0_pay15 (k0_pay3 (inV m c))) (constant S128x64 .f32 0x00000000#32)⟩]) -∗ Q ⟨(k0_pay21 (k0_pay10 (k0_pay1 (inX m c) (inWq m c))) (k0_pay11 (k0_pay2 (inK m c)))), (Scalar.ofBits .f32 0#32)⟩)
        -∗ wp frame (wpE (defs₀ (F := F)) 𝒱₀ (c : Thread nD τ) none) Set.univ
          (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (maskOf c) (k0_pay10 (k0_pay1 (inX m c) (inWq m c))) (k0_pay11 (k0_pay2 (inK m c))) (k0_pay12 (k0_pay3 (inV m c))) (k0_pay13 (k0_pay1 (inX m c) (inWq m c)) (k0_pay2 (inK m c)) k0_pay4 (Scalar.muli (devWord c) 2#32) k0_pay5 k0_pay6 k0_pay7 k0_pay8) (k0_pay14 (k0_pay1 (inX m c) (inWq m c)) (k0_pay2 (inK m c)) k0_pay4 (Scalar.muli (devWord c) 2#32) k0_pay5 k0_pay6 k0_pay7 k0_pay8) (k0_pay15 (k0_pay3 (inV m c))) (constant S128x64 .f32 0x00000000#32)) Q) := by
  simp only [k0_part9_eq_skeleton]; unfold k0_part9_skel
  simp only [semSignalWord, semWaitWord, Prog.lift, Prog.bind_op, Prog.bind_ret, Prog.pure_eq_ret]
  iintro HW0 Hk
  iapply (step_peek c) $$ HW0
  iintro %_ HW0
  iapply (step_piece c _) $$ HW0
  iintro HW0
  iapply (step_peek c) $$ HW0
  iintro %_ HW0
  iapply (step_piece c _) $$ HW0
  iintro HW0
  iapply (step_peek c) $$ HW0
  iintro %_ HW0
  iapply (step_piece c _) $$ HW0
  iintro HW0
  iapply (step_peek c) $$ HW0
  iintro %_ HW0
  iapply (step_piece c _) $$ HW0
  iintro HW0
  rw [wp_ret]; imodintro
  iapply Hk
  iexact HW0

/-- Heads 2 and 3 stored, then the wait for the seven partners. -/
theorem run_part10  {Q : (PUnit) → sProp 𝕄} :
    iprop(records m K
      ∗ written c (slabsM false) [⟨Rect.unit (s := S4x128x260) ![0, 0, 257] S1x128x1.size inb_S4x128x260_S1x128x1_0_0_257, k0_pay20 (maskOf c) (k0_pay10 (k0_pay1 (inX m c) (inWq m c))) (k0_pay11 (k0_pay2 (inK m c)))⟩, ⟨Rect.unit (s := S4x128x260) ![0, 0, 64] S1x128x64.size inb_S4x128x260_S1x128x64_0_0_64, k0_pay19 (maskOf c) (k0_pay10 (k0_pay1 (inX m c) (inWq m c))) (k0_pay11 (k0_pay2 (inK m c))) (k0_pay12 (k0_pay3 (inV m c)))⟩, ⟨Rect.unit (s := S4x128x260) ![0, 0, 256] S1x128x1.size inb_S4x128x260_S1x128x1_0_0_256, k0_pay17 (k0_pay14 (k0_pay1 (inX m c) (inWq m c)) (k0_pay2 (inK m c)) k0_pay4 (Scalar.muli (devWord c) 2#32) k0_pay5 k0_pay6 k0_pay7 k0_pay8)⟩, ⟨Rect.unit (s := S4x128x260) ![0, 0, 0] S1x128x64.size inb_S4x128x260_S1x128x64_0_0_0, k0_pay16 (k0_pay13 (k0_pay1 (inX m c) (inWq m c)) (k0_pay2 (inK m c)) k0_pay4 (Scalar.muli (devWord c) 2#32) k0_pay5 k0_pay6 k0_pay7 k0_pay8) (k0_pay15 (k0_pay3 (inV m c))) (constant S128x64 .f32 0x00000000#32)⟩]
      ∗ Owed c 7
      ∗ atPos ER (barCell c) 0 ∅ 0
      ∗ cred (tallyAt (barCell c) () 7))
      ⊢ iprop((iprop(written c (slabsM false) [⟨Rect.unit (s := S4x128x260) ![0, 0, 259] S1x128x1.size inb_S4x128x260_S1x128x1_0_0_259, k0_pay27 (maskOf c) (k0_pay10 (k0_pay1 (inX m c) (inWq m c))) (k0_pay11 (k0_pay2 (inK m c)))⟩, ⟨Rect.unit (s := S4x128x260) ![0, 0, 192] S1x128x64.size inb_S4x128x260_S1x128x64_0_0_192, k0_pay26 (maskOf c) (k0_pay10 (k0_pay1 (inX m c) (inWq m c))) (k0_pay11 (k0_pay2 (inK m c))) (k0_pay12 (k0_pay3 (inV m c)))⟩, ⟨Rect.unit (s := S4x128x260) ![0, 0, 258] S1x128x1.size inb_S4x128x260_S1x128x1_0_0_258, k0_pay24 (maskOf c) (k0_pay21 (k0_pay10 (k0_pay1 (inX m c) (inWq m c))) (k0_pay11 (k0_pay2 (inK m c)))) (Scalar.ofBits .f32 0#32)⟩, ⟨Rect.unit (s := S4x128x260) ![0, 0, 128] S1x128x64.size inb_S4x128x260_S1x128x64_0_0_128, k0_pay23 (maskOf c) (k0_pay12 (k0_pay3 (inV m c))) (k0_pay21 (k0_pay10 (k0_pay1 (inX m c) (inWq m c))) (k0_pay11 (k0_pay2 (inK m c)))) (Scalar.ofBits .f32 0#32)⟩, ⟨Rect.unit (s := S4x128x260) ![0, 0, 257] S1x128x1.size inb_S4x128x260_S1x128x1_0_0_257, k0_pay20 (maskOf c) (k0_pay10 (k0_pay1 (inX m c) (inWq m c))) (k0_pay11 (k0_pay2 (inK m c)))⟩, ⟨Rect.unit (s := S4x128x260) ![0, 0, 64] S1x128x64.size inb_S4x128x260_S1x128x64_0_0_64, k0_pay19 (maskOf c) (k0_pay10 (k0_pay1 (inX m c) (inWq m c))) (k0_pay11 (k0_pay2 (inK m c))) (k0_pay12 (k0_pay3 (inV m c)))⟩, ⟨Rect.unit (s := S4x128x260) ![0, 0, 256] S1x128x1.size inb_S4x128x260_S1x128x1_0_0_256, k0_pay17 (k0_pay14 (k0_pay1 (inX m c) (inWq m c)) (k0_pay2 (inK m c)) k0_pay4 (Scalar.muli (devWord c) 2#32) k0_pay5 k0_pay6 k0_pay7 k0_pay8)⟩, ⟨Rect.unit (s := S4x128x260) ![0, 0, 0] S1x128x64.size inb_S4x128x260_S1x128x64_0_0_0, k0_pay16 (k0_pay13 (k0_pay1 (inX m c) (inWq m c)) (k0_pay2 (inK m c)) k0_pay4 (Scalar.muli (devWord c) 2#32) k0_pay5 k0_pay6 k0_pay7 k0_pay8) (k0_pay15 (k0_pay3 (inV m c))) (constant S128x64 .f32 0x00000000#32)⟩]
        ∗ Owed c 7
        ∗ semVal (barCell c) 0
        ∗ free false 0 (peer 0 c)
        ∗ free true 0 (peer 0 c)
        ∗ free false 1 (peer 1 c)
        ∗ free true 1 (peer 1 c)
        ∗ free false 2 (peer 2 c)
        ∗ free true 2 (peer 2 c)
        ∗ free false 3 (peer 3 c)
        ∗ free true 3 (peer 3 c)
        ∗ free false 4 (peer 4 c)
        ∗ free true 4 (peer 4 c)
        ∗ free false 5 (peer 5 c)
        ∗ free true 5 (peer 5 c)
        ∗ free false 6 (peer 6 c)
        ∗ free true 6 (peer 6 c)) -∗ Q ⟨⟩)
        -∗ wp frame (wpE (defs₀ (F := F)) 𝒱₀ (c : Thread nD τ) none) Set.univ
          (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (SemArray.scalar (sig.barrier 0 rfl)) (maskOf c) (k0_pay10 (k0_pay1 (inX m c) (inWq m c))) (k0_pay11 (k0_pay2 (inK m c))) (k0_pay12 (k0_pay3 (inV m c))) (k0_pay21 (k0_pay10 (k0_pay1 (inX m c) (inWq m c))) (k0_pay11 (k0_pay2 (inK m c)))) (Scalar.ofBits .f32 0#32)) Q) := by
  simp only [k0_part10_eq_skeleton]; unfold k0_part10_skel
  simp only [semSignalWord, semWaitWord, Prog.lift, Prog.bind_op, Prog.bind_ret, Prog.pure_eq_ret]
  iintro ⟨#HR, HW0, HO, HBp, HBc⟩ Hk
  iapply (step_peek c) $$ HW0
  iintro %_ HW0
  iapply (step_piece c _) $$ HW0
  iintro HW0
  iapply (step_peek c) $$ HW0
  iintro %_ HW0
  iapply (step_piece c _) $$ HW0
  iintro HW0
  iapply (step_peek c) $$ HW0
  iintro %_ HW0
  iapply (step_piece c _) $$ HW0
  iintro HW0
  iapply (step_peek c) $$ HW0
  iintro %_ HW0
  iapply (step_piece c _) $$ HW0
  iintro HW0
  iapply (step_barrier m K c 7 (above_7 c) rfl rfl) $$ [HO HBp HBc]
  · isplitr; · iexact HR
    isplitl [HO]; · iexact HO
    isplitl [HBp]; · iexact HBp
    iexact HBc
  iintro ⟨HO, HZb, HX0, HX1, HX2, HX3, HX4, HX5, HX6⟩
  unfold handed
  icases HX0 with ⟨HG00, HG10⟩
  icases HX1 with ⟨HG01, HG11⟩
  icases HX2 with ⟨HG02, HG12⟩
  icases HX3 with ⟨HG03, HG13⟩
  icases HX4 with ⟨HG04, HG14⟩
  icases HX5 with ⟨HG05, HG15⟩
  icases HX6 with ⟨HG06, HG16⟩
  rw [wp_ret]; imodintro
  iapply Hk
  isplitl [HW0]; · iexact HW0
  isplitl [HO]; · iexact HO
  isplitl [HZb]; · iexact HZb
  isplitl [HG00]; · iexact HG00
  isplitl [HG10]; · iexact HG10
  isplitl [HG01]; · iexact HG01
  isplitl [HG11]; · iexact HG11
  isplitl [HG02]; · iexact HG02
  isplitl [HG12]; · iexact HG12
  isplitl [HG03]; · iexact HG03
  isplitl [HG13]; · iexact HG13
  isplitl [HG04]; · iexact HG04
  isplitl [HG14]; · iexact HG14
  isplitl [HG05]; · iexact HG05
  isplitl [HG15]; · iexact HG15
  isplitl [HG06]; · iexact HG06
  iexact HG16

/-- The first slab sent to two partners. -/
theorem run_part11 (v94 v120 v146 : BitVec 32) {Q : (PUnit) → sProp 𝕄} :
    iprop(records m K
      ∗ written c (slabsM false) [⟨Rect.unit (s := S4x128x260) ![0, 0, 259] S1x128x1.size inb_S4x128x260_S1x128x1_0_0_259, k0_pay27 (maskOf c) (k0_pay10 (k0_pay1 (inX m c) (inWq m c))) (k0_pay11 (k0_pay2 (inK m c)))⟩, ⟨Rect.unit (s := S4x128x260) ![0, 0, 192] S1x128x64.size inb_S4x128x260_S1x128x64_0_0_192, k0_pay26 (maskOf c) (k0_pay10 (k0_pay1 (inX m c) (inWq m c))) (k0_pay11 (k0_pay2 (inK m c))) (k0_pay12 (k0_pay3 (inV m c)))⟩, ⟨Rect.unit (s := S4x128x260) ![0, 0, 258] S1x128x1.size inb_S4x128x260_S1x128x1_0_0_258, k0_pay24 (maskOf c) (k0_pay21 (k0_pay10 (k0_pay1 (inX m c) (inWq m c))) (k0_pay11 (k0_pay2 (inK m c)))) (Scalar.ofBits .f32 0#32)⟩, ⟨Rect.unit (s := S4x128x260) ![0, 0, 128] S1x128x64.size inb_S4x128x260_S1x128x64_0_0_128, k0_pay23 (maskOf c) (k0_pay12 (k0_pay3 (inV m c))) (k0_pay21 (k0_pay10 (k0_pay1 (inX m c) (inWq m c))) (k0_pay11 (k0_pay2 (inK m c)))) (Scalar.ofBits .f32 0#32)⟩, ⟨Rect.unit (s := S4x128x260) ![0, 0, 257] S1x128x1.size inb_S4x128x260_S1x128x1_0_0_257, k0_pay20 (maskOf c) (k0_pay10 (k0_pay1 (inX m c) (inWq m c))) (k0_pay11 (k0_pay2 (inK m c)))⟩, ⟨Rect.unit (s := S4x128x260) ![0, 0, 64] S1x128x64.size inb_S4x128x260_S1x128x64_0_0_64, k0_pay19 (maskOf c) (k0_pay10 (k0_pay1 (inX m c) (inWq m c))) (k0_pay11 (k0_pay2 (inK m c))) (k0_pay12 (k0_pay3 (inV m c)))⟩, ⟨Rect.unit (s := S4x128x260) ![0, 0, 256] S1x128x1.size inb_S4x128x260_S1x128x1_0_0_256, k0_pay17 (k0_pay14 (k0_pay1 (inX m c) (inWq m c)) (k0_pay2 (inK m c)) k0_pay4 (Scalar.muli (devWord c) 2#32) k0_pay5 k0_pay6 k0_pay7 k0_pay8)⟩, ⟨Rect.unit (s := S4x128x260) ![0, 0, 0] S1x128x64.size inb_S4x128x260_S1x128x64_0_0_0, k0_pay16 (k0_pay13 (k0_pay1 (inX m c) (inWq m c)) (k0_pay2 (inK m c)) k0_pay4 (Scalar.muli (devWord c) 2#32) k0_pay5 k0_pay6 k0_pay7 k0_pay8) (k0_pay15 (k0_pay3 (inV m c))) (constant S128x64 .f32 0x00000000#32)⟩]
      ∗ free false 1 (peer 1 c)
      ∗ Owed c 7
      ∗ sendKit false 1 c
      ∗ free false 2 (peer 2 c)
      ∗ sendKit false 2 c)
      ⊢ iprop((iprop(blank false 1 c
        ∗ blank false 2 c
        ∗ blank false 3 c
        ∗ owns (c : Thread nD τ) (slab false 0) kept (slabAt m false 0 c)
        ∗ lentSlab m false 3 c
        ∗ underway false 1 c
        ∗ Owed c 9
        ∗ underway false 2 c) -∗ Q ⟨⟩)
        -∗ wp frame (wpE (defs₀ (F := F)) 𝒱₀ (c : Thread nD τ) none) Set.univ
          (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v94 v120 v146) Q) := by
  simp only [k0_part11_eq_skeleton]; unfold k0_part11_skel
  simp only [semSignalWord, semWaitWord, Prog.lift, Prog.bind_op, Prog.bind_ret, Prog.pure_eq_ret]
  iintro ⟨#HR, HW0, HG01, HO, HSk01, HG02, HSk02⟩ Hk
  ihave HW0 := (first_a m c) $$ HW0
  icases HW0 with ⟨HS00, HS01, HS02, HS03⟩
  ihave HS00 := (lend_a0 m c).1 $$ HS00
  icases HS00 with ⟨HS00, HL01, HL02, HL03⟩
  iapply (step_send m K c false 1 7 (dev8_peer c) rfl rfl rfl rfl rfl) $$ [HL01 HG01 HO HSk01]
  · isplitr; · iexact HR
    isplitl [HL01]; · iexact HL01
    isplitl [HG01]; · iexact HG01
    isplitl [HO]; · iexact HO
    iexact HSk01
  iintro ⟨HU01, HO⟩
  iapply (step_send m K c false 2 8 (dev9_peer c) rfl rfl rfl rfl rfl) $$ [HL02 HG02 HO HSk02]
  · isplitr; · iexact HR
    isplitl [HL02]; · iexact HL02
    isplitl [HG02]; · iexact HG02
    isplitl [HO]; · iexact HO
    iexact HSk02
  iintro ⟨HU02, HO⟩
  rw [wp_ret]; imodintro
  iapply Hk
  isplitl [HS01]; · iexact HS01
  isplitl [HS02]; · iexact HS02
  isplitl [HS03]; · iexact HS03
  isplitl [HS00]; · iexact HS00
  isplitl [HL03]; · iexact HL03
  isplitl [HU01]; · iexact HU01
  isplitl [HO]; · iexact HO
  iexact HU02

/-- and to the third; the second batch, head 0. -/
theorem run_part12  {Q : (Σ' (v405 : FVec F S128x256 .f32) (v407 : FVec F S128x256 .f32) (v409 : FVec F S128x256 .f32) (v438 : FVec F S128 .f32), FVec F S128x64 .bf16) → sProp 𝕄} :
    iprop(records m K
      ∗ lentSlab m false 3 c
      ∗ free false 3 (peer 3 c)
      ∗ Owed c 9
      ∗ sendKit false 3 c
      ∗ written c (slabsM true) [])
      ⊢ iprop((iprop(Owed c 10
        ∗ underway false 3 c
        ∗ written c (slabsM true) [⟨Rect.unit (s := S4x128x260) ![0, 0, 256] S1x128x1.size inb_S4x128x260_S1x128x1_0_0_256, k0_pay33 (k0_pay1 (inX m c) (inWq m c)) (k0_pay2 (inK m c)) (maskOf c)⟩, ⟨Rect.unit (s := S4x128x260) ![0, 0, 0] S1x128x64.size inb_S4x128x260_S1x128x64_0_0_0, k0_pay32 (k0_pay1 (inX m c) (inWq m c)) (k0_pay2 (inK m c)) (k0_pay3 (inV m c)) (maskOf c)⟩]) -∗ Q ⟨(k0_pay28 (k0_pay1 (inX m c) (inWq m c))), (k0_pay29 (k0_pay2 (inK m c))), (k0_pay30 (k0_pay3 (inV m c))), (k0_pay35 (k0_pay1 (inX m c) (inWq m c)) (k0_pay2 (inK m c)) (maskOf c)), (k0_pay36 (k0_pay1 (inX m c) (inWq m c)) (k0_pay2 (inK m c)) (k0_pay3 (inV m c)) (maskOf c))⟩)
        -∗ wp frame (wpE (defs₀ (F := F)) 𝒱₀ (c : Thread nD τ) none) Set.univ
          (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (k0_pay1 (inX m c) (inWq m c)) (k0_pay2 (inK m c)) (k0_pay3 (inV m c)) (maskOf c)) Q) := by
  simp only [k0_part12_eq_skeleton]; unfold k0_part12_skel
  simp only [semSignalWord, semWaitWord, Prog.lift, Prog.bind_op, Prog.bind_ret, Prog.pure_eq_ret]
  iintro ⟨#HR, HL03, HG03, HO, HSk03, HW1⟩ Hk
  iapply (step_send m K c false 3 9 (dev10_peer c) rfl rfl rfl rfl rfl) $$ [HL03 HG03 HO HSk03]
  · isplitr; · iexact HR
    isplitl [HL03]; · iexact HL03
    isplitl [HG03]; · iexact HG03
    isplitl [HO]; · iexact HO
    iexact HSk03
  iintro ⟨HU03, HO⟩
  iapply (step_peek c) $$ HW1
  iintro %_ HW1
  iapply (step_piece c _) $$ HW1
  iintro HW1
  iapply (step_peek c) $$ HW1
  iintro %_ HW1
  iapply (step_piece c _) $$ HW1
  iintro HW1
  rw [wp_ret]; imodintro
  iapply Hk
  isplitl [HO]; · iexact HO
  isplitl [HU03]; · iexact HU03
  iexact HW1

end Cert.Attn

end
-- ==== Proof.RunB.lean ====
/-
# The kernel, part by part: the second batch and the first exchange
-/
module

public import proofs.«01_k».proof.Proof.Steps
public import proofs.«01_k».proof.Proof.Pieces
public import proofs.«01_k».proof.Proof.Extra

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 29 → ℕ) (c : Dev nD)

/-- The second batch, heads 1 and 2. -/
theorem run_part13  {Q : (Σ' (v477 : FVec F S128x128 .f32), FVec F S128 .f32) → sProp 𝕄} :
    iprop(written c (slabsM true) [⟨Rect.unit (s := S4x128x260) ![0, 0, 256] S1x128x1.size inb_S4x128x260_S1x128x1_0_0_256, k0_pay33 (k0_pay1 (inX m c) (inWq m c)) (k0_pay2 (inK m c)) (maskOf c)⟩, ⟨Rect.unit (s := S4x128x260) ![0, 0, 0] S1x128x64.size inb_S4x128x260_S1x128x64_0_0_0, k0_pay32 (k0_pay1 (inX m c) (inWq m c)) (k0_pay2 (inK m c)) (k0_pay3 (inV m c)) (maskOf c)⟩])
      ⊢ iprop((iprop(written c (slabsM true) [⟨Rect.unit (s := S4x128x260) ![0, 0, 258] S1x128x1.size inb_S4x128x260_S1x128x1_0_0_258, k0_pay41 (maskOf c) (k0_pay28 (k0_pay1 (inX m c) (inWq m c))) (k0_pay29 (k0_pay2 (inK m c)))⟩, ⟨Rect.unit (s := S4x128x260) ![0, 0, 128] S1x128x64.size inb_S4x128x260_S1x128x64_0_0_128, k0_pay40 (maskOf c) (k0_pay28 (k0_pay1 (inX m c) (inWq m c))) (k0_pay29 (k0_pay2 (inK m c))) (k0_pay30 (k0_pay3 (inV m c)))⟩, ⟨Rect.unit (s := S4x128x260) ![0, 0, 257] S1x128x1.size inb_S4x128x260_S1x128x1_0_0_257, k0_pay38 (k0_pay35 (k0_pay1 (inX m c) (inWq m c)) (k0_pay2 (inK m c)) (maskOf c))⟩, ⟨Rect.unit (s := S4x128x260) ![0, 0, 64] S1x128x64.size inb_S4x128x260_S1x128x64_0_0_64, k0_pay37 (k0_pay36 (k0_pay1 (inX m c) (inWq m c)) (k0_pay2 (inK m c)) (k0_pay3 (inV m c)) (maskOf c))⟩, ⟨Rect.unit (s := S4x128x260) ![0, 0, 256] S1x128x1.size inb_S4x128x260_S1x128x1_0_0_256, k0_pay33 (k0_pay1 (inX m c) (inWq m c)) (k0_pay2 (inK m c)) (maskOf c)⟩, ⟨Rect.unit (s := S4x128x260) ![0, 0, 0] S1x128x64.size inb_S4x128x260_S1x128x64_0_0_0, k0_pay32 (k0_pay1 (inX m c) (inWq m c)) (k0_pay2 (inK m c)) (k0_pay3 (inV m c)) (maskOf c)⟩]) -∗ Q ⟨(k0_pay42 (maskOf c) (k0_pay28 (k0_pay1 (inX m c) (inWq m c))) (k0_pay29 (k0_pay2 (inK m c)))), (k0_pay43 (maskOf c) (k0_pay28 (k0_pay1 (inX m c) (inWq m c))) (k0_pay29 (k0_pay2 (inK m c))))⟩)
        -∗ wp frame (wpE (defs₀ (F := F)) 𝒱₀ (c : Thread nD τ) none) Set.univ
          (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (maskOf c) (k0_pay28 (k0_pay1 (inX m c) (inWq m c))) (k0_pay29 (k0_pay2 (inK m c))) (k0_pay30 (k0_pay3 (inV m c))) (k0_pay35 (k0_pay1 (inX m c) (inWq m c)) (k0_pay2 (inK m c)) (maskOf c)) (k0_pay36 (k0_pay1 (inX m c) (inWq m c)) (k0_pay2 (inK m c)) (k0_pay3 (inV m c)) (maskOf c))) Q) := by
  simp only [k0_part13_eq_skeleton]; unfold k0_part13_skel
  simp only [semSignalWord, semWaitWord, Prog.lift, Prog.bind_op, Prog.bind_ret, Prog.pure_eq_ret]
  iintro HW1 Hk
  iapply (step_peek c) $$ HW1
  iintro %_ HW1
  iapply (step_piece c _) $$ HW1
  iintro HW1
  iapply (step_peek c) $$ HW1
  iintro %_ HW1
  iapply (step_piece c _) $$ HW1
  iintro HW1
  iapply (step_peek c) $$ HW1
  iintro %_ HW1
  iapply (step_piece c _) $$ HW1
  iintro HW1
  iapply (step_peek c) $$ HW1
  iintro %_ HW1
  iapply (step_piece c _) $$ HW1
  iintro HW1
  rw [wp_ret]; imodintro
  iapply Hk
  iexact HW1

/-- Head 3, then its slab sent to a partner. -/
theorem run_part14 (v159 v172 : BitVec 32) {Q : (PUnit) → sProp 𝕄} :
    iprop(records m K
      ∗ written c (slabsM true) [⟨Rect.unit (s := S4x128x260) ![0, 0, 258] S1x128x1.size inb_S4x128x260_S1x128x1_0_0_258, k0_pay41 (maskOf c) (k0_pay28 (k0_pay1 (inX m c) (inWq m c))) (k0_pay29 (k0_pay2 (inK m c)))⟩, ⟨Rect.unit (s := S4x128x260) ![0, 0, 128] S1x128x64.size inb_S4x128x260_S1x128x64_0_0_128, k0_pay40 (maskOf c) (k0_pay28 (k0_pay1 (inX m c) (inWq m c))) (k0_pay29 (k0_pay2 (inK m c))) (k0_pay30 (k0_pay3 (inV m c)))⟩, ⟨Rect.unit (s := S4x128x260) ![0, 0, 257] S1x128x1.size inb_S4x128x260_S1x128x1_0_0_257, k0_pay38 (k0_pay35 (k0_pay1 (inX m c) (inWq m c)) (k0_pay2 (inK m c)) (maskOf c))⟩, ⟨Rect.unit (s := S4x128x260) ![0, 0, 64] S1x128x64.size inb_S4x128x260_S1x128x64_0_0_64, k0_pay37 (k0_pay36 (k0_pay1 (inX m c) (inWq m c)) (k0_pay2 (inK m c)) (k0_pay3 (inV m c)) (maskOf c))⟩, ⟨Rect.unit (s := S4x128x260) ![0, 0, 256] S1x128x1.size inb_S4x128x260_S1x128x1_0_0_256, k0_pay33 (k0_pay1 (inX m c) (inWq m c)) (k0_pay2 (inK m c)) (maskOf c)⟩, ⟨Rect.unit (s := S4x128x260) ![0, 0, 0] S1x128x64.size inb_S4x128x260_S1x128x64_0_0_0, k0_pay32 (k0_pay1 (inX m c) (inWq m c)) (k0_pay2 (inK m c)) (k0_pay3 (inV m c)) (maskOf c)⟩]
      ∗ free true 4 (peer 4 c)
      ∗ Owed c 10
      ∗ sendKit true 4 c)
      ⊢ iprop((iprop(blank true 1 c
        ∗ blank true 2 c
        ∗ blank true 3 c
        ∗ owns (c : Thread nD τ) (slab true 0) kept (slabAt m true 0 c)
        ∗ lentSlab m true 5 c
        ∗ lentSlab m true 6 c
        ∗ Owed c 11
        ∗ underway true 4 c) -∗ Q ⟨⟩)
        -∗ wp frame (wpE (defs₀ (F := F)) 𝒱₀ (c : Thread nD τ) none) Set.univ
          (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v159 v172 (k0_pay30 (k0_pay3 (inV m c))) (k0_pay42 (maskOf c) (k0_pay28 (k0_pay1 (inX m c) (inWq m c))) (k0_pay29 (k0_pay2 (inK m c)))) (k0_pay43 (maskOf c) (k0_pay28 (k0_pay1 (inX m c) (inWq m c))) (k0_pay29 (k0_pay2 (inK m c))))) Q) := by
  simp only [k0_part14_eq_skeleton]; unfold k0_part14_skel
  simp only [semSignalWord, semWaitWord, Prog.lift, Prog.bind_op, Prog.bind_ret, Prog.pure_eq_ret]
  iintro ⟨#HR, HW1, HG14, HO, HSk14⟩ Hk
  iapply (step_peek c) $$ HW1
  iintro %_ HW1
  iapply (step_piece c _) $$ HW1
  iintro HW1
  iapply (step_peek c) $$ HW1
  iintro %_ HW1
  iapply (step_piece c _) $$ HW1
  iintro HW1
  ihave HW1 := (first_b m c) $$ HW1
  icases HW1 with ⟨HS10, HS11, HS12, HS13⟩
  ihave HS10 := (lend_b0 m c).1 $$ HS10
  icases HS10 with ⟨HS10, HL14, HL15, HL16⟩
  iapply (step_send m K c true 4 10 (dev11_peer c) rfl rfl rfl rfl rfl) $$ [HL14 HG14 HO HSk14]
  · isplitr; · iexact HR
    isplitl [HL14]; · iexact HL14
    isplitl [HG14]; · iexact HG14
    isplitl [HO]; · iexact HO
    iexact HSk14
  iintro ⟨HU14, HO⟩
  rw [wp_ret]; imodintro
  iapply Hk
  isplitl [HS11]; · iexact HS11
  isplitl [HS12]; · iexact HS12
  isplitl [HS13]; · iexact HS13
  isplitl [HS10]; · iexact HS10
  isplitl [HL15]; · iexact HL15
  isplitl [HL16]; · iexact HL16
  isplitl [HO]; · iexact HO
  iexact HU14

/-- and to two more; the first arrival of the first batch. -/
theorem run_part15 (v94 v120 v185 : BitVec 32) {Q : (Σ' (v532 : FVec F S128x260 .bf16) (v533 : BitVec 32), BitVec 32) → sProp 𝕄} :
    iprop(records m K
      ∗ lentSlab m true 5 c
      ∗ free true 5 (peer 5 c)
      ∗ Owed c 11
      ∗ sendKit true 5 c
      ∗ lentSlab m true 6 c
      ∗ free true 6 (peer 6 c)
      ∗ sendKit true 6 c
      ∗ owns (c : Thread nD τ) (slab false 0) kept (slabAt m false 0 c)
      ∗ recvKit false 1 c)
      ⊢ iprop((∀ w, iprop(underway true 5 c
        ∗ underway true 6 c
        ∗ owns (c : Thread nD τ) (slab false 0) kept (slabAt m false 0 c)
        ∗ Owed c 13
        ∗ semVal (recvCell false 1 c) 0
        ∗ arrived m false 1 c) -∗ Q ⟨(k0_pay46 (slabAt m false 0 c) (landed m false 1 c)), w, 0#32⟩)
        -∗ wp frame (wpE (defs₀ (F := F)) 𝒱₀ (c : Thread nD τ) none) Set.univ
          (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v94 v120 v185) Q) := by
  simp only [k0_part15_eq_skeleton]; unfold k0_part15_skel
  simp only [semSignalWord, semWaitWord, Prog.lift, Prog.bind_op, Prog.bind_ret, Prog.pure_eq_ret]
  iintro ⟨#HR, HL15, HG15, HO, HSk15, HL16, HG16, HSk16, HS00, HRk01⟩ Hk
  iapply (step_send m K c true 5 11 (dev12_peer c) rfl rfl rfl rfl rfl) $$ [HL15 HG15 HO HSk15]
  · isplitr; · iexact HR
    isplitl [HL15]; · iexact HL15
    isplitl [HG15]; · iexact HG15
    isplitl [HO]; · iexact HO
    iexact HSk15
  iintro ⟨HU15, HO⟩
  iapply (step_send m K c true 6 12 (dev13_peer c) rfl rfl rfl rfl rfl) $$ [HL16 HG16 HO HSk16]
  · isplitr; · iexact HR
    isplitl [HL16]; · iexact HL16
    isplitl [HG16]; · iexact HG16
    isplitl [HO]; · iexact HO
    iexact HSk16
  iintro ⟨HU16, HO⟩
  iapply (step_load c (M := slabsM false) (r := slabR 0) (fun _ => rfl) (q := kept) (slabAt m false 0 c)) $$ [HS00]
  · iexact HS00
  iintro HS00
  iapply (step_recv m K c false 1 13 ((above_13 c).mono (Nat.le_of_ble_eq_true rfl)) (src := slabQ false 0) (dst := slotQ false 1) rfl (slot_credit false 1)) $$ [HO HRk01]
  · isplitr; · iexact HR
    isplitl [HO]; · iexact HO
    iexact HRk01
  iintro ⟨HO, HA01, HZr01⟩
  iapply (step_arrived m c false 1) $$ [HA01]
  · iexact HA01
  iintro HA01
  rw [wp_ret]; imodintro
  ispecialize Hk $$ %_
  iapply Hk
  isplitl [HU15]; · iexact HU15
  isplitl [HU16]; · iexact HU16
  isplitl [HS00]; · iexact HS00
  isplitl [HO]; · iexact HO
  isplitl [HZr01]; · iexact HZr01
  iexact HA01

/-- Two more arrivals; the second slab of the first batch is stored. -/
theorem run_part16 (v146 v159 v533 v0 : BitVec 32) {Q : (PUnit) → sProp 𝕄} :
    iprop(records m K
      ∗ Owed c 13
      ∗ recvKit false 2 c
      ∗ recvKit false 3 c
      ∗ blank false 1 c)
      ⊢ iprop((iprop(semVal (recvCell false 2 c) 0
        ∗ arrived m false 2 c
        ∗ Owed c 13
        ∗ semVal (recvCell false 3 c) 0
        ∗ arrived m false 3 c
        ∗ owns (c : Thread nD τ) (slab false 1) fullShare (slabAt m false 1 c)) -∗ Q ⟨⟩)
        -∗ wp frame (wpE (defs₀ (F := F)) 𝒱₀ (c : Thread nD τ) none) Set.univ
          (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v146 v159 (k0_pay46 (slabAt m false 0 c) (landed m false 1 c)) v533 v0) Q) := by
  simp only [k0_part16_eq_skeleton]; unfold k0_part16_skel
  simp only [semSignalWord, semWaitWord, Prog.lift, Prog.bind_op, Prog.bind_ret, Prog.pure_eq_ret]
  iintro ⟨#HR, HO, HRk02, HRk03, HS01⟩ Hk
  iapply (step_recv m K c false 2 13 ((above_13 c).mono (Nat.le_of_ble_eq_true rfl)) (src := slabQ false 0) (dst := slotQ false 2) rfl (slot_credit false 2)) $$ [HO HRk02]
  · isplitr; · iexact HR
    isplitl [HO]; · iexact HO
    iexact HRk02
  iintro ⟨HO, HA02, HZr02⟩
  iapply (step_arrived m c false 2) $$ [HA02]
  · iexact HA02
  iintro HA02
  iapply (step_recv m K c false 3 13 ((above_13 c).mono (Nat.le_of_ble_eq_true rfl)) (src := slabQ false 0) (dst := slotQ false 3) rfl (slot_credit false 3)) $$ [HO HRk03]
  · isplitr; · iexact HR
    isplitl [HO]; · iexact HO
    iexact HRk03
  iintro ⟨HO, HA03, HZr03⟩
  iapply (step_arrived m c false 3) $$ [HA03]
  · iexact HA03
  iintro HA03
  unfold blank
  icases HS01 with ⟨%o01, HS01⟩
  iapply (step_load c (M := slabsM false) (r := slabR 1) (fun _ => rfl) (q := fullShare) o01) $$ [HS01]
  · iexact HS01
  iintro HS01
  iapply (step_store c (M := slabsM false) (r := slabR 1) (fun _ => rfl) o01 (k0_pay47 (k0_pay46 (slabAt m false 0 c) (landed m false 1 c)) (landed m false 2 c) (landed m false 3 c))) $$ [HS01]
  · iexact HS01
  iintro HS01
  ihave HS01 := (Entails.of_eq (congrArg (fun w => owns (c : Thread nD τ) (slab false 1) fullShare w) (next_a1 m c))) $$ HS01
  rw [wp_ret]; imodintro
  iapply Hk
  isplitl [HZr02]; · iexact HZr02
  isplitl [HA02]; · iexact HA02
  isplitl [HO]; · iexact HO
  isplitl [HZr03]; · iexact HZr03
  isplitl [HA03]; · iexact HA03
  iexact HS01

/-- and sent to three partners. -/
theorem run_part17 (v172 v185 : BitVec 32) {Q : (FVec F S128x260 .bf16) → sProp 𝕄} :
    iprop(records m K
      ∗ owns (c : Thread nD τ) (slab false 1) fullShare (slabAt m false 1 c)
      ∗ free false 4 (peer 4 c)
      ∗ Owed c 13
      ∗ sendKit false 4 c
      ∗ free false 5 (peer 5 c)
      ∗ sendKit false 5 c
      ∗ free false 6 (peer 6 c)
      ∗ sendKit false 6 c
      ∗ owns (c : Thread nD τ) (slab true 0) kept (slabAt m true 0 c))
      ⊢ iprop((iprop(owns (c : Thread nD τ) (slab false 1) kept (slabAt m false 1 c)
        ∗ underway false 4 c
        ∗ underway false 5 c
        ∗ Owed c 16
        ∗ underway false 6 c
        ∗ owns (c : Thread nD τ) (slab true 0) kept (slabAt m true 0 c)) -∗ Q (k0_pay48 (slabAt m true 0 c)))
        -∗ wp frame (wpE (defs₀ (F := F)) 𝒱₀ (c : Thread nD τ) none) Set.univ
          (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v172 v185) Q) := by
  simp only [k0_part17_eq_skeleton]; unfold k0_part17_skel
  simp only [semSignalWord, semWaitWord, Prog.lift, Prog.bind_op, Prog.bind_ret, Prog.pure_eq_ret]
  iintro ⟨#HR, HS01, HG04, HO, HSk04, HG05, HSk05, HG06, HSk06, HS10⟩ Hk
  ihave HS01 := (lend_a1 m c).1 $$ HS01
  icases HS01 with ⟨HS01, HL04, HL05, HL06⟩
  iapply (step_send m K c false 4 13 (dev14_peer c) rfl rfl rfl rfl rfl) $$ [HL04 HG04 HO HSk04]
  · isplitr; · iexact HR
    isplitl [HL04]; · iexact HL04
    isplitl [HG04]; · iexact HG04
    isplitl [HO]; · iexact HO
    iexact HSk04
  iintro ⟨HU04, HO⟩
  iapply (step_send m K c false 5 14 (dev15_peer c) rfl rfl rfl rfl rfl) $$ [HL05 HG05 HO HSk05]
  · isplitr; · iexact HR
    isplitl [HL05]; · iexact HL05
    isplitl [HG05]; · iexact HG05
    isplitl [HO]; · iexact HO
    iexact HSk05
  iintro ⟨HU05, HO⟩
  iapply (step_send m K c false 6 15 (dev16_peer c) rfl rfl rfl rfl rfl) $$ [HL06 HG06 HO HSk06]
  · isplitr; · iexact HR
    isplitl [HL06]; · iexact HL06
    isplitl [HG06]; · iexact HG06
    isplitl [HO]; · iexact HO
    iexact HSk06
  iintro ⟨HU06, HO⟩
  iapply (step_load c (M := slabsM true) (r := slabR 0) (fun _ => rfl) (q := kept) (slabAt m true 0 c)) $$ [HS10]
  · iexact HS10
  iintro HS10
  rw [wp_ret]; imodintro
  iapply Hk
  isplitl [HS01]; · iexact HS01
  isplitl [HU04]; · iexact HU04
  isplitl [HU05]; · iexact HU05
  isplitl [HO]; · iexact HO
  isplitl [HU06]; · iexact HU06
  iexact HS10

/-- Two arrivals of the second batch. -/
theorem run_part18 (v159 v172 v185 : BitVec 32) {Q : (FVec F S128x260 .bf16) → sProp 𝕄} :
    iprop(records m K
      ∗ Owed c 16
      ∗ recvKit true 4 c
      ∗ recvKit true 5 c)
      ⊢ iprop((iprop(semVal (recvCell true 4 c) 0
        ∗ arrived m true 4 c
        ∗ Owed c 16
        ∗ semVal (recvCell true 5 c) 0
        ∗ arrived m true 5 c) -∗ Q (k0_pay49 (k0_pay48 (slabAt m true 0 c)) (landed m true 4 c) (landed m true 5 c)))
        -∗ wp frame (wpE (defs₀ (F := F)) 𝒱₀ (c : Thread nD τ) none) Set.univ
          (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v159 v172 v185 (k0_pay48 (slabAt m true 0 c))) Q) := by
  simp only [k0_part18_eq_skeleton]; unfold k0_part18_skel
  simp only [semSignalWord, semWaitWord, Prog.lift, Prog.bind_op, Prog.bind_ret, Prog.pure_eq_ret]
  iintro ⟨#HR, HO, HRk14, HRk15⟩ Hk
  iapply (step_recv m K c true 4 16 ((above_16 c).mono (Nat.le_of_ble_eq_true rfl)) (src := slabQ true 0) (dst := slotQ true 4) rfl (slot_credit true 4)) $$ [HO HRk14]
  · isplitr; · iexact HR
    isplitl [HO]; · iexact HO
    iexact HRk14
  iintro ⟨HO, HA14, HZr14⟩
  iapply (step_arrived m c true 4) $$ [HA14]
  · iexact HA14
  iintro HA14
  iapply (step_recv m K c true 5 16 ((above_16 c).mono (Nat.le_of_ble_eq_true rfl)) (src := slabQ true 0) (dst := slotQ true 5) rfl (slot_credit true 5)) $$ [HO HRk15]
  · isplitr; · iexact HR
    isplitl [HO]; · iexact HO
    iexact HRk15
  iintro ⟨HO, HA15, HZr15⟩
  iapply (step_arrived m c true 5) $$ [HA15]
  · iexact HA15
  iintro HA15
  rw [wp_ret]; imodintro
  iapply Hk
  isplitl [HZr14]; · iexact HZr14
  isplitl [HA14]; · iexact HA14
  isplitl [HO]; · iexact HO
  isplitl [HZr15]; · iexact HZr15
  iexact HA15

end Cert.Attn

end
-- ==== Proof.RunC.lean ====
/-
# The kernel, part by part: the second and third exchanges
-/
module

public import proofs.«01_k».proof.Proof.Steps
public import proofs.«01_k».proof.Proof.Pieces
public import proofs.«01_k».proof.Proof.Extra

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 29 → ℕ) (c : Dev nD)

/-- The third; its second slab is stored and sent to a partner. -/
theorem run_part19 (v94 v120 : BitVec 32) {Q : (PUnit) → sProp 𝕄} :
    iprop(records m K
      ∗ Owed c 16
      ∗ recvKit true 6 c
      ∗ blank true 1 c
      ∗ free true 1 (peer 1 c)
      ∗ sendKit true 1 c)
      ⊢ iprop((iprop(semVal (recvCell true 6 c) 0
        ∗ arrived m true 6 c
        ∗ owns (c : Thread nD τ) (slab true 1) kept (slabAt m true 1 c)
        ∗ lentSlab m true 2 c
        ∗ lentSlab m true 3 c
        ∗ Owed c 17
        ∗ underway true 1 c) -∗ Q ⟨⟩)
        -∗ wp frame (wpE (defs₀ (F := F)) 𝒱₀ (c : Thread nD τ) none) Set.univ
          (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v94 v120 (k0_pay49 (k0_pay48 (slabAt m true 0 c)) (landed m true 4 c) (landed m true 5 c))) Q) := by
  simp only [k0_part19_eq_skeleton]; unfold k0_part19_skel
  simp only [semSignalWord, semWaitWord, Prog.lift, Prog.bind_op, Prog.bind_ret, Prog.pure_eq_ret]
  iintro ⟨#HR, HO, HRk16, HS11, HG11, HSk11⟩ Hk
  iapply (step_recv m K c true 6 16 ((above_16 c).mono (Nat.le_of_ble_eq_true rfl)) (src := slabQ true 0) (dst := slotQ true 6) rfl (slot_credit true 6)) $$ [HO HRk16]
  · isplitr; · iexact HR
    isplitl [HO]; · iexact HO
    iexact HRk16
  iintro ⟨HO, HA16, HZr16⟩
  iapply (step_arrived m c true 6) $$ [HA16]
  · iexact HA16
  iintro HA16
  unfold blank
  icases HS11 with ⟨%o11, HS11⟩
  iapply (step_load c (M := slabsM true) (r := slabR 1) (fun _ => rfl) (q := fullShare) o11) $$ [HS11]
  · iexact HS11
  iintro HS11
  iapply (step_store c (M := slabsM true) (r := slabR 1) (fun _ => rfl) o11 (k0_pay50 (k0_pay49 (k0_pay48 (slabAt m true 0 c)) (landed m true 4 c) (landed m true 5 c)) (landed m true 6 c))) $$ [HS11]
  · iexact HS11
  iintro HS11
  ihave HS11 := (Entails.of_eq (congrArg (fun w => owns (c : Thread nD τ) (slab true 1) fullShare w) (next_b1 m c))) $$ HS11
  ihave HS11 := (lend_b1 m c).1 $$ HS11
  icases HS11 with ⟨HS11, HL11, HL12, HL13⟩
  iapply (step_send m K c true 1 16 (dev17_peer c) rfl rfl rfl rfl rfl) $$ [HL11 HG11 HO HSk11]
  · isplitr; · iexact HR
    isplitl [HL11]; · iexact HL11
    isplitl [HG11]; · iexact HG11
    isplitl [HO]; · iexact HO
    iexact HSk11
  iintro ⟨HU11, HO⟩
  rw [wp_ret]; imodintro
  iapply Hk
  isplitl [HZr16]; · iexact HZr16
  isplitl [HA16]; · iexact HA16
  isplitl [HS11]; · iexact HS11
  isplitl [HL12]; · iexact HL12
  isplitl [HL13]; · iexact HL13
  isplitl [HO]; · iexact HO
  iexact HU11

/-- and to two more; an arrival of the first batch. -/
theorem run_part20 (v146 v159 v172 : BitVec 32) {Q : (Σ' (v668 : FVec F S128x260 .bf16) (v669 : BitVec 32), BitVec 32) → sProp 𝕄} :
    iprop(records m K
      ∗ lentSlab m true 2 c
      ∗ free true 2 (peer 2 c)
      ∗ Owed c 17
      ∗ sendKit true 2 c
      ∗ lentSlab m true 3 c
      ∗ free true 3 (peer 3 c)
      ∗ sendKit true 3 c
      ∗ owns (c : Thread nD τ) (slab false 1) kept (slabAt m false 1 c)
      ∗ recvKit false 4 c)
      ⊢ iprop((∀ w, iprop(underway true 2 c
        ∗ underway true 3 c
        ∗ owns (c : Thread nD τ) (slab false 1) kept (slabAt m false 1 c)
        ∗ Owed c 19
        ∗ semVal (recvCell false 4 c) 0
        ∗ arrived m false 4 c) -∗ Q ⟨(k0_pay51 (slabAt m false 1 c) (landed m false 4 c)), w, 0#32⟩)
        -∗ wp frame (wpE (defs₀ (F := F)) 𝒱₀ (c : Thread nD τ) none) Set.univ
          (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v146 v159 v172) Q) := by
  simp only [k0_part20_eq_skeleton]; unfold k0_part20_skel
  simp only [semSignalWord, semWaitWord, Prog.lift, Prog.bind_op, Prog.bind_ret, Prog.pure_eq_ret]
  iintro ⟨#HR, HL12, HG12, HO, HSk12, HL13, HG13, HSk13, HS01, HRk04⟩ Hk
  iapply (step_send m K c true 2 17 (dev18_peer c) rfl rfl rfl rfl rfl) $$ [HL12 HG12 HO HSk12]
  · isplitr; · iexact HR
    isplitl [HL12]; · iexact HL12
    isplitl [HG12]; · iexact HG12
    isplitl [HO]; · iexact HO
    iexact HSk12
  iintro ⟨HU12, HO⟩
  iapply (step_send m K c true 3 18 (dev19_peer c) rfl rfl rfl rfl rfl) $$ [HL13 HG13 HO HSk13]
  · isplitr; · iexact HR
    isplitl [HL13]; · iexact HL13
    isplitl [HG13]; · iexact HG13
    isplitl [HO]; · iexact HO
    iexact HSk13
  iintro ⟨HU13, HO⟩
  iapply (step_load c (M := slabsM false) (r := slabR 1) (fun _ => rfl) (q := kept) (slabAt m false 1 c)) $$ [HS01]
  · iexact HS01
  iintro HS01
  iapply (step_recv m K c false 4 19 ((above_19 c).mono (Nat.le_of_ble_eq_true rfl)) (src := slabQ false 1) (dst := slotQ false 4) rfl (slot_credit false 4)) $$ [HO HRk04]
  · isplitr; · iexact HR
    isplitl [HO]; · iexact HO
    iexact HRk04
  iintro ⟨HO, HA04, HZr04⟩
  iapply (step_arrived m c false 4) $$ [HA04]
  · iexact HA04
  iintro HA04
  rw [wp_ret]; imodintro
  ispecialize Hk $$ %_
  iapply Hk
  isplitl [HU12]; · iexact HU12
  isplitl [HU13]; · iexact HU13
  isplitl [HS01]; · iexact HS01
  isplitl [HO]; · iexact HO
  isplitl [HZr04]; · iexact HZr04
  iexact HA04

/-- Two more; the third slab of the first batch is stored. -/
theorem run_part21 (v68 v185 v669 v0 : BitVec 32) {Q : (PUnit) → sProp 𝕄} :
    iprop(records m K
      ∗ Owed c 19
      ∗ recvKit false 5 c
      ∗ recvKit false 6 c
      ∗ blank false 2 c)
      ⊢ iprop((iprop(semVal (recvCell false 5 c) 0
        ∗ arrived m false 5 c
        ∗ Owed c 19
        ∗ semVal (recvCell false 6 c) 0
        ∗ arrived m false 6 c
        ∗ owns (c : Thread nD τ) (slab false 2) fullShare (slabAt m false 2 c)) -∗ Q ⟨⟩)
        -∗ wp frame (wpE (defs₀ (F := F)) 𝒱₀ (c : Thread nD τ) none) Set.univ
          (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v68 v185 (k0_pay51 (slabAt m false 1 c) (landed m false 4 c)) v669 v0) Q) := by
  simp only [k0_part21_eq_skeleton]; unfold k0_part21_skel
  simp only [semSignalWord, semWaitWord, Prog.lift, Prog.bind_op, Prog.bind_ret, Prog.pure_eq_ret]
  iintro ⟨#HR, HO, HRk05, HRk06, HS02⟩ Hk
  iapply (step_recv m K c false 5 19 ((above_19 c).mono (Nat.le_of_ble_eq_true rfl)) (src := slabQ false 1) (dst := slotQ false 5) rfl (slot_credit false 5)) $$ [HO HRk05]
  · isplitr; · iexact HR
    isplitl [HO]; · iexact HO
    iexact HRk05
  iintro ⟨HO, HA05, HZr05⟩
  iapply (step_arrived m c false 5) $$ [HA05]
  · iexact HA05
  iintro HA05
  iapply (step_recv m K c false 6 19 ((above_19 c).mono (Nat.le_of_ble_eq_true rfl)) (src := slabQ false 1) (dst := slotQ false 6) rfl (slot_credit false 6)) $$ [HO HRk06]
  · isplitr; · iexact HR
    isplitl [HO]; · iexact HO
    iexact HRk06
  iintro ⟨HO, HA06, HZr06⟩
  iapply (step_arrived m c false 6) $$ [HA06]
  · iexact HA06
  iintro HA06
  unfold blank
  icases HS02 with ⟨%o02, HS02⟩
  iapply (step_load c (M := slabsM false) (r := slabR 2) (fun _ => rfl) (q := fullShare) o02) $$ [HS02]
  · iexact HS02
  iintro HS02
  iapply (step_store c (M := slabsM false) (r := slabR 2) (fun _ => rfl) o02 (k0_pay52 (k0_pay51 (slabAt m false 1 c) (landed m false 4 c)) (landed m false 5 c) (landed m false 6 c))) $$ [HS02]
  · iexact HS02
  iintro HS02
  ihave HS02 := (Entails.of_eq (congrArg (fun w => owns (c : Thread nD τ) (slab false 2) fullShare w) (next_a2 m c))) $$ HS02
  rw [wp_ret]; imodintro
  iapply Hk
  isplitl [HZr05]; · iexact HZr05
  isplitl [HA05]; · iexact HA05
  isplitl [HO]; · iexact HO
  isplitl [HZr06]; · iexact HZr06
  isplitl [HA06]; · iexact HA06
  iexact HS02

/-- and sent; arrivals of the second batch. -/
theorem run_part22 (v94 v120 : BitVec 32) {Q : (FVec F S128x260 .bf16) → sProp 𝕄} :
    iprop(records m K
      ∗ owns (c : Thread nD τ) (slab false 2) fullShare (slabAt m false 2 c)
      ∗ free false 0 (peer 0 c)
      ∗ Owed c 19
      ∗ sendKit false 0 c
      ∗ owns (c : Thread nD τ) (slab true 1) kept (slabAt m true 1 c)
      ∗ recvKit true 1 c
      ∗ recvKit true 2 c)
      ⊢ iprop((iprop(owns (c : Thread nD τ) (slab false 2) kept (slabAt m false 2 c)
        ∗ underway false 0 c
        ∗ owns (c : Thread nD τ) (slab true 1) kept (slabAt m true 1 c)
        ∗ semVal (recvCell true 1 c) 0
        ∗ arrived m true 1 c
        ∗ Owed c 20
        ∗ arrived m true 2 c
        ∗ semVal (recvCell true 2 c) 0) -∗ Q (k0_pay53 (slabAt m true 1 c) (landed m true 1 c)))
        -∗ wp frame (wpE (defs₀ (F := F)) 𝒱₀ (c : Thread nD τ) none) Set.univ
          (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v94 v120) Q) := by
  simp only [k0_part22_eq_skeleton]; unfold k0_part22_skel
  simp only [semSignalWord, semWaitWord, Prog.lift, Prog.bind_op, Prog.bind_ret, Prog.pure_eq_ret]
  iintro ⟨#HR, HS02, HG00, HO, HSk00, HS11, HRk11, HRk12⟩ Hk
  ihave HS02 := (lend_a2 m c).1 $$ HS02
  icases HS02 with ⟨HS02, HL00⟩
  iapply (step_send m K c false 0 19 (dev20_peer c) rfl rfl rfl rfl rfl) $$ [HL00 HG00 HO HSk00]
  · isplitr; · iexact HR
    isplitl [HL00]; · iexact HL00
    isplitl [HG00]; · iexact HG00
    isplitl [HO]; · iexact HO
    iexact HSk00
  iintro ⟨HU00, HO⟩
  iapply (step_load c (M := slabsM true) (r := slabR 1) (fun _ => rfl) (q := kept) (slabAt m true 1 c)) $$ [HS11]
  · iexact HS11
  iintro HS11
  iapply (step_recv m K c true 1 20 ((above_20 c).mono (Nat.le_of_ble_eq_true rfl)) (src := slabQ true 1) (dst := slotQ true 1) rfl (slot_credit true 1)) $$ [HO HRk11]
  · isplitr; · iexact HR
    isplitl [HO]; · iexact HO
    iexact HRk11
  iintro ⟨HO, HA11, HZr11⟩
  iapply (step_arrived m c true 1) $$ [HA11]
  · iexact HA11
  iintro HA11
  iapply (step_recv m K c true 2 20 ((above_20 c).mono (Nat.le_of_ble_eq_true rfl)) (src := slabQ true 1) (dst := slotQ true 2) rfl (slot_credit true 2)) $$ [HO HRk12]
  · isplitr; · iexact HR
    isplitl [HO]; · iexact HO
    iexact HRk12
  iintro ⟨HO, HA12, HZr12⟩
  rw [wp_ret]; imodintro
  iapply Hk
  isplitl [HS02]; · iexact HS02
  isplitl [HU00]; · iexact HU00
  isplitl [HS11]; · iexact HS11
  isplitl [HZr11]; · iexact HZr11
  isplitl [HA11]; · iexact HA11
  isplitl [HO]; · iexact HO
  isplitl [HA12]; · iexact HA12
  iexact HZr12

/-- The last of them; its third slab is stored and sent. -/
theorem run_part23 (v68 v146 : BitVec 32) {Q : (PUnit) → sProp 𝕄} :
    iprop(records m K
      ∗ arrived m true 2 c
      ∗ Owed c 20
      ∗ recvKit true 3 c
      ∗ blank true 2 c
      ∗ free true 0 (peer 0 c)
      ∗ sendKit true 0 c)
      ⊢ iprop((iprop(arrived m true 2 c
        ∗ semVal (recvCell true 3 c) 0
        ∗ arrived m true 3 c
        ∗ owns (c : Thread nD τ) (slab true 2) kept (slabAt m true 2 c)
        ∗ Owed c 21
        ∗ underway true 0 c) -∗ Q ⟨⟩)
        -∗ wp frame (wpE (defs₀ (F := F)) 𝒱₀ (c : Thread nD τ) none) Set.univ
          (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v68 v146 (k0_pay53 (slabAt m true 1 c) (landed m true 1 c))) Q) := by
  simp only [k0_part23_eq_skeleton]; unfold k0_part23_skel
  simp only [semSignalWord, semWaitWord, Prog.lift, Prog.bind_op, Prog.bind_ret, Prog.pure_eq_ret]
  iintro ⟨#HR, HA12, HO, HRk13, HS12, HG10, HSk10⟩ Hk
  iapply (step_arrived m c true 2) $$ [HA12]
  · iexact HA12
  iintro HA12
  iapply (step_recv m K c true 3 20 ((above_20 c).mono (Nat.le_of_ble_eq_true rfl)) (src := slabQ true 1) (dst := slotQ true 3) rfl (slot_credit true 3)) $$ [HO HRk13]
  · isplitr; · iexact HR
    isplitl [HO]; · iexact HO
    iexact HRk13
  iintro ⟨HO, HA13, HZr13⟩
  iapply (step_arrived m c true 3) $$ [HA13]
  · iexact HA13
  iintro HA13
  unfold blank
  icases HS12 with ⟨%o12, HS12⟩
  iapply (step_load c (M := slabsM true) (r := slabR 2) (fun _ => rfl) (q := fullShare) o12) $$ [HS12]
  · iexact HS12
  iintro HS12
  iapply (step_store c (M := slabsM true) (r := slabR 2) (fun _ => rfl) o12 (k0_pay54 (k0_pay53 (slabAt m true 1 c) (landed m true 1 c)) (landed m true 2 c) (landed m true 3 c))) $$ [HS12]
  · iexact HS12
  iintro HS12
  ihave HS12 := (Entails.of_eq (congrArg (fun w => owns (c : Thread nD τ) (slab true 2) fullShare w) (next_b2 m c))) $$ HS12
  ihave HS12 := (lend_b2 m c).1 $$ HS12
  icases HS12 with ⟨HS12, HL10⟩
  iapply (step_send m K c true 0 20 (dev21_peer c) rfl rfl rfl rfl rfl) $$ [HL10 HG10 HO HSk10]
  · isplitr; · iexact HR
    isplitl [HL10]; · iexact HL10
    isplitl [HG10]; · iexact HG10
    isplitl [HO]; · iexact HO
    iexact HSk10
  iintro ⟨HU10, HO⟩
  rw [wp_ret]; imodintro
  iapply Hk
  isplitl [HA12]; · iexact HA12
  isplitl [HZr13]; · iexact HZr13
  isplitl [HA13]; · iexact HA13
  isplitl [HS12]; · iexact HS12
  isplitl [HO]; · iexact HO
  iexact HU10

end Cert.Attn

end
-- ==== Proof.RunD.lean ====
/-
# The kernel, part by part: the results and the departures
-/
module

public import proofs.«01_k».proof.Proof.Steps
public import proofs.«01_k».proof.Proof.Pieces
public import proofs.«01_k».proof.Proof.Extra

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 29 → ℕ) (c : Dev nD)

/-- The last arrival of the first batch; its final slab and result rows. -/
theorem run_part24 (v68 : BitVec 32) {Q : (FVec F S128x512 .f32) → sProp 𝕄} :
    iprop(records m K
      ∗ owns (c : Thread nD τ) (slab false 2) kept (slabAt m false 2 c)
      ∗ Owed c 21
      ∗ recvKit false 0 c
      ∗ blank false 3 c
      ∗ owns (c : Thread nD τ) (Memref.whole cc0_stg4_0) fullShare (inWo m c))
      ⊢ iprop((iprop(owns (c : Thread nD τ) (slab false 2) kept (slabAt m false 2 c)
        ∗ Owed c 21
        ∗ semVal (recvCell false 0 c) 0
        ∗ arrived m false 0 c
        ∗ owns (c : Thread nD τ) (slab false 3) fullShare (slabAt m false 3 c)
        ∗ owns (c : Thread nD τ) (Memref.whole cc0_stg4_0) fullShare (inWo m c)) -∗ Q (k0_pay56 (slabAt m false 3 c) (inWo m c)))
        -∗ wp frame (wpE (defs₀ (F := F)) 𝒱₀ (c : Thread nD τ) none) Set.univ
          (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v68) Q) := by
  simp only [k0_part24_eq_skeleton]; unfold k0_part24_skel
  simp only [semSignalWord, semWaitWord, Prog.lift, Prog.bind_op, Prog.bind_ret, Prog.pure_eq_ret]
  iintro ⟨#HR, HS02, HO, HRk00, HS03, HIWo⟩ Hk
  iapply (step_load c (M := slabsM false) (r := slabR 2) (fun _ => rfl) (q := kept) (slabAt m false 2 c)) $$ [HS02]
  · iexact HS02
  iintro HS02
  iapply (step_recv m K c false 0 21 ((above_21 c).mono (Nat.le_of_ble_eq_true rfl)) (src := slabQ false 2) (dst := slotQ false 0) rfl (slot_credit false 0)) $$ [HO HRk00]
  · isplitr; · iexact HR
    isplitl [HO]; · iexact HO
    iexact HRk00
  iintro ⟨HO, HA00, HZr00⟩
  iapply (step_arrived m c false 0) $$ [HA00]
  · iexact HA00
  iintro HA00
  unfold blank
  icases HS03 with ⟨%o03, HS03⟩
  iapply (step_load c (M := slabsM false) (r := slabR 3) (fun _ => rfl) (q := fullShare) o03) $$ [HS03]
  · iexact HS03
  iintro HS03
  iapply (step_store c (M := slabsM false) (r := slabR 3) (fun _ => rfl) o03 (k0_pay55 (slabAt m false 2 c) (landed m false 0 c))) $$ [HS03]
  · iexact HS03
  iintro HS03
  ihave HS03 := (Entails.of_eq (congrArg (fun w => owns (c : Thread nD τ) (slab false 3) fullShare w) (next_a3 m c))) $$ HS03
  iapply (step_load c (M := slabsM false) (r := slabR 3) (fun _ => rfl) (q := fullShare) (slabAt m false 3 c)) $$ [HS03]
  · iexact HS03
  iintro HS03
  iapply (step_full c (M := Memref.whole cc0_stg4_0) (q := fullShare) (inWo m c)) $$ [HIWo]
  · iexact HIWo
  iintro HIWo
  rw [wp_ret]; imodintro
  iapply Hk
  isplitl [HS02]; · iexact HS02
  isplitl [HO]; · iexact HO
  isplitl [HZr00]; · iexact HZr00
  isplitl [HA00]; · iexact HA00
  isplitl [HS03]; · iexact HS03
  iexact HIWo

/-- The same of the second batch. -/
theorem run_part25 (v68 : BitVec 32) {Q : (FVec F S128x256 .f32) → sProp 𝕄} :
    iprop(records m K
      ∗ written c (Memref.whole cc0_stg5_0) []
      ∗ owns (c : Thread nD τ) (slab true 2) kept (slabAt m true 2 c)
      ∗ Owed c 21
      ∗ recvKit true 0 c
      ∗ blank true 3 c)
      ⊢ iprop((iprop(written c (Memref.whole cc0_stg5_0) [⟨Rect.unit (s := S2x128x512) ![0, 0, 0] S1x128x512.size inb_S2x128x512_S1x128x512_0_0_0, k0_pay57 (k0_pay56 (slabAt m false 3 c) (inWo m c))⟩]
        ∗ owns (c : Thread nD τ) (slab true 2) kept (slabAt m true 2 c)
        ∗ Owed c 21
        ∗ semVal (recvCell true 0 c) 0
        ∗ arrived m true 0 c
        ∗ owns (c : Thread nD τ) (slab true 3) fullShare (slabAt m true 3 c)) -∗ Q (k0_pay59 (slabAt m true 3 c)))
        -∗ wp frame (wpE (defs₀ (F := F)) 𝒱₀ (c : Thread nD τ) none) Set.univ
          (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v68 (k0_pay56 (slabAt m false 3 c) (inWo m c))) Q) := by
  simp only [k0_part25_eq_skeleton]; unfold k0_part25_skel
  simp only [semSignalWord, semWaitWord, Prog.lift, Prog.bind_op, Prog.bind_ret, Prog.pure_eq_ret]
  iintro ⟨#HR, HWO, HS12, HO, HRk10, HS13⟩ Hk
  iapply (step_peek c) $$ HWO
  iintro %_ HWO
  iapply (step_piece c _) $$ HWO
  iintro HWO
  iapply (step_load c (M := slabsM true) (r := slabR 2) (fun _ => rfl) (q := kept) (slabAt m true 2 c)) $$ [HS12]
  · iexact HS12
  iintro HS12
  iapply (step_recv m K c true 0 21 ((above_21 c).mono (Nat.le_of_ble_eq_true rfl)) (src := slabQ true 2) (dst := slotQ true 0) rfl (slot_credit true 0)) $$ [HO HRk10]
  · isplitr; · iexact HR
    isplitl [HO]; · iexact HO
    iexact HRk10
  iintro ⟨HO, HA10, HZr10⟩
  iapply (step_arrived m c true 0) $$ [HA10]
  · iexact HA10
  iintro HA10
  unfold blank
  icases HS13 with ⟨%o13, HS13⟩
  iapply (step_load c (M := slabsM true) (r := slabR 3) (fun _ => rfl) (q := fullShare) o13) $$ [HS13]
  · iexact HS13
  iintro HS13
  iapply (step_store c (M := slabsM true) (r := slabR 3) (fun _ => rfl) o13 (k0_pay58 (slabAt m true 2 c) (landed m true 0 c))) $$ [HS13]
  · iexact HS13
  iintro HS13
  ihave HS13 := (Entails.of_eq (congrArg (fun w => owns (c : Thread nD τ) (slab true 3) fullShare w) (next_b3 m c))) $$ HS13
  iapply (step_load c (M := slabsM true) (r := slabR 3) (fun _ => rfl) (q := fullShare) (slabAt m true 3 c)) $$ [HS13]
  · iexact HS13
  iintro HS13
  rw [wp_ret]; imodintro
  iapply Hk
  isplitl [HWO]; · iexact HWO
  isplitl [HS12]; · iexact HS12
  isplitl [HO]; · iexact HO
  isplitl [HZr10]; · iexact HZr10
  isplitl [HA10]; · iexact HA10
  iexact HS13

/-- The last rows stored; departures. -/
theorem run_part26  {Q : (PUnit) → sProp 𝕄} :
    iprop(records m K
      ∗ owns (c : Thread nD τ) (Memref.whole cc0_stg4_0) fullShare (inWo m c)
      ∗ written c (Memref.whole cc0_stg5_0) [⟨Rect.unit (s := S2x128x512) ![0, 0, 0] S1x128x512.size inb_S2x128x512_S1x128x512_0_0_0, k0_pay57 (k0_pay56 (slabAt m false 3 c) (inWo m c))⟩]
      ∗ Owed c 21
      ∗ underway false 1 c
      ∗ underway false 2 c)
      ⊢ iprop((iprop(owns (c : Thread nD τ) (Memref.whole cc0_stg4_0) fullShare (inWo m c)
        ∗ written c (Memref.whole cc0_stg5_0) [⟨Rect.unit (s := S2x128x512) ![1, 0, 0] S1x128x512.size inb_S2x128x512_S1x128x512_1_0_0, k0_pay60 (k0_pay59 (slabAt m true 3 c)) (inWo m c)⟩, ⟨Rect.unit (s := S2x128x512) ![0, 0, 0] S1x128x512.size inb_S2x128x512_S1x128x512_0_0_0, k0_pay57 (k0_pay56 (slabAt m false 3 c) (inWo m c))⟩]
        ∗ lentSlab m false 1 c
        ∗ semVal (sendCell false 1 c) 0
        ∗ Owed c 21
        ∗ lentSlab m false 2 c
        ∗ semVal (sendCell false 2 c) 0) -∗ Q ⟨⟩)
        -∗ wp frame (wpE (defs₀ (F := F)) 𝒱₀ (c : Thread nD τ) none) Set.univ
          (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (k0_pay59 (slabAt m true 3 c))) Q) := by
  simp only [k0_part26_eq_skeleton]; unfold k0_part26_skel
  simp only [semSignalWord, semWaitWord, Prog.lift, Prog.bind_op, Prog.bind_ret, Prog.pure_eq_ret]
  iintro ⟨#HR, HIWo, HWO, HO, HU01, HU02⟩ Hk
  iapply (step_full c (M := Memref.whole cc0_stg4_0) (q := fullShare) (inWo m c)) $$ [HIWo]
  · iexact HIWo
  iintro HIWo
  iapply (step_peek c) $$ HWO
  iintro %_ HWO
  iapply (step_piece c _) $$ HWO
  iintro HWO
  iapply (step_sent m K c false 1 (src := slotQ false 1) (dst := slabQ false 0) rfl (slab_credit false 0)) $$ [HO HU01]
  · isplitr; · iexact HR
    isplitl [HO]; · iexact HO
    iexact HU01
  iintro ⟨HO, HL01, HZs01⟩
  iapply (step_sent m K c false 2 (src := slotQ false 2) (dst := slabQ false 0) rfl (slab_credit false 0)) $$ [HO HU02]
  · isplitr; · iexact HR
    isplitl [HO]; · iexact HO
    iexact HU02
  iintro ⟨HO, HL02, HZs02⟩
  rw [wp_ret]; imodintro
  iapply Hk
  isplitl [HIWo]; · iexact HIWo
  isplitl [HWO]; · iexact HWO
  isplitl [HL01]; · iexact HL01
  isplitl [HZs01]; · iexact HZs01
  isplitl [HO]; · iexact HO
  isplitl [HL02]; · iexact HL02
  iexact HZs02

/-- Departures. -/
theorem run_part27  {Q : (PUnit) → sProp 𝕄} :
    iprop(records m K
      ∗ Owed c 21
      ∗ underway false 3 c
      ∗ underway true 4 c
      ∗ underway true 5 c
      ∗ underway true 6 c)
      ⊢ iprop((iprop(lentSlab m false 3 c
        ∗ semVal (sendCell false 3 c) 0
        ∗ lentSlab m true 4 c
        ∗ semVal (sendCell true 4 c) 0
        ∗ lentSlab m true 5 c
        ∗ semVal (sendCell true 5 c) 0
        ∗ Owed c 21
        ∗ lentSlab m true 6 c
        ∗ semVal (sendCell true 6 c) 0) -∗ Q ⟨⟩)
        -∗ wp frame (wpE (defs₀ (F := F)) 𝒱₀ (c : Thread nD τ) none) Set.univ
          (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  simp only [k0_part27_eq_skeleton]; unfold k0_part27_skel
  simp only [semSignalWord, semWaitWord, Prog.lift, Prog.bind_op, Prog.bind_ret, Prog.pure_eq_ret]
  iintro ⟨#HR, HO, HU03, HU14, HU15, HU16⟩ Hk
  iapply (step_sent m K c false 3 (src := slotQ false 3) (dst := slabQ false 0) rfl (slab_credit false 0)) $$ [HO HU03]
  · isplitr; · iexact HR
    isplitl [HO]; · iexact HO
    iexact HU03
  iintro ⟨HO, HL03, HZs03⟩
  iapply (step_sent m K c true 4 (src := slotQ true 4) (dst := slabQ true 0) rfl (slab_credit true 0)) $$ [HO HU14]
  · isplitr; · iexact HR
    isplitl [HO]; · iexact HO
    iexact HU14
  iintro ⟨HO, HL14, HZs14⟩
  iapply (step_sent m K c true 5 (src := slotQ true 5) (dst := slabQ true 0) rfl (slab_credit true 0)) $$ [HO HU15]
  · isplitr; · iexact HR
    isplitl [HO]; · iexact HO
    iexact HU15
  iintro ⟨HO, HL15, HZs15⟩
  iapply (step_sent m K c true 6 (src := slotQ true 6) (dst := slabQ true 0) rfl (slab_credit true 0)) $$ [HO HU16]
  · isplitr; · iexact HR
    isplitl [HO]; · iexact HO
    iexact HU16
  iintro ⟨HO, HL16, HZs16⟩
  rw [wp_ret]; imodintro
  iapply Hk
  isplitl [HL03]; · iexact HL03
  isplitl [HZs03]; · iexact HZs03
  isplitl [HL14]; · iexact HL14
  isplitl [HZs14]; · iexact HZs14
  isplitl [HL15]; · iexact HL15
  isplitl [HZs15]; · iexact HZs15
  isplitl [HO]; · iexact HO
  isplitl [HL16]; · iexact HL16
  iexact HZs16

/-- Departures. -/
theorem run_part28  {Q : (PUnit) → sProp 𝕄} :
    iprop(records m K
      ∗ Owed c 21
      ∗ underway false 4 c
      ∗ underway false 5 c
      ∗ underway false 6 c
      ∗ underway true 1 c)
      ⊢ iprop((iprop(lentSlab m false 4 c
        ∗ semVal (sendCell false 4 c) 0
        ∗ lentSlab m false 5 c
        ∗ semVal (sendCell false 5 c) 0
        ∗ lentSlab m false 6 c
        ∗ semVal (sendCell false 6 c) 0
        ∗ Owed c 21
        ∗ lentSlab m true 1 c
        ∗ semVal (sendCell true 1 c) 0) -∗ Q ⟨⟩)
        -∗ wp frame (wpE (defs₀ (F := F)) 𝒱₀ (c : Thread nD τ) none) Set.univ
          (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  simp only [k0_part28_eq_skeleton]; unfold k0_part28_skel
  simp only [semSignalWord, semWaitWord, Prog.lift, Prog.bind_op, Prog.bind_ret, Prog.pure_eq_ret]
  iintro ⟨#HR, HO, HU04, HU05, HU06, HU11⟩ Hk
  iapply (step_sent m K c false 4 (src := slotQ false 4) (dst := slabQ false 1) rfl (slab_credit false 1)) $$ [HO HU04]
  · isplitr; · iexact HR
    isplitl [HO]; · iexact HO
    iexact HU04
  iintro ⟨HO, HL04, HZs04⟩
  iapply (step_sent m K c false 5 (src := slotQ false 5) (dst := slabQ false 1) rfl (slab_credit false 1)) $$ [HO HU05]
  · isplitr; · iexact HR
    isplitl [HO]; · iexact HO
    iexact HU05
  iintro ⟨HO, HL05, HZs05⟩
  iapply (step_sent m K c false 6 (src := slotQ false 6) (dst := slabQ false 1) rfl (slab_credit false 1)) $$ [HO HU06]
  · isplitr; · iexact HR
    isplitl [HO]; · iexact HO
    iexact HU06
  iintro ⟨HO, HL06, HZs06⟩
  iapply (step_sent m K c true 1 (src := slotQ true 1) (dst := slabQ true 1) rfl (slab_credit true 1)) $$ [HO HU11]
  · isplitr; · iexact HR
    isplitl [HO]; · iexact HO
    iexact HU11
  iintro ⟨HO, HL11, HZs11⟩
  rw [wp_ret]; imodintro
  iapply Hk
  isplitl [HL04]; · iexact HL04
  isplitl [HZs04]; · iexact HZs04
  isplitl [HL05]; · iexact HL05
  isplitl [HZs05]; · iexact HZs05
  isplitl [HL06]; · iexact HL06
  isplitl [HZs06]; · iexact HZs06
  isplitl [HO]; · iexact HO
  isplitl [HL11]; · iexact HL11
  iexact HZs11

end Cert.Attn

end
-- ==== Proof.Body.lean ====
/-
# The whole body, its parts in order
-/
module

public import proofs.«01_k».proof.Proof.RunA
public import proofs.«01_k».proof.Proof.RunB
public import proofs.«01_k».proof.Proof.RunC
public import proofs.«01_k».proof.Proof.RunD

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 29 → ℕ) (c : Dev nD)

/-- Part 2 only computes. -/
theorem shape_part2 (v2 v19 v29 c2 v30 v35 v37 : BitVec 32) (v38 : BitVec 1) :
    ∃ r, k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v19 v29 c2 v30 v35 v37 v38  = .ret r := ⟨_, rfl⟩

/-- Part 3 only computes. -/
theorem shape_part3 (v19 v46 v67 v69 v72 v73 : BitVec 32) (v74 v75 : BitVec 1) (c0 : BitVec 32) :
    ∃ r, k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v19 v46 v67 v69 v72 v73 v74 v75 c0  = .ret r := ⟨_, rfl⟩

/-- Part 4 only computes. -/
theorem shape_part4 (v19 v46 v67 v95 v107 v110 v111 : BitVec 32) (v112 v113 : BitVec 1) (c0 : BitVec 32) :
    ∃ r, k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v19 v46 v67 v95 v107 v110 v111 v112 v113 c0  = .ret r := ⟨_, rfl⟩

/-- The seventh part of the body, written as its operations in order. -/
theorem shape_part7 :
    k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (devWord c) = .ret ⟨k0_pay4, (Scalar.muli (devWord c) 2#32), k0_pay5, k0_pay6, k0_pay7, k0_pay8⟩ := rfl

/-- The eighth part of the body, written as its operations in order. -/
theorem shape_part8 :
    k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (k0_pay1 (inX m c) (inWq m c)) (k0_pay2 (inK m c)) (k0_pay3 (inV m c)) k0_pay4 (Scalar.muli (devWord c) 2#32) k0_pay5 k0_pay6 k0_pay7 k0_pay8 = .ret ⟨(maskOf c), (k0_pay10 (k0_pay1 (inX m c) (inWq m c))), (k0_pay11 (k0_pay2 (inK m c))), (k0_pay12 (k0_pay3 (inV m c))), (k0_pay13 (k0_pay1 (inX m c) (inWq m c)) (k0_pay2 (inK m c)) k0_pay4 (Scalar.muli (devWord c) 2#32) k0_pay5 k0_pay6 k0_pay7 k0_pay8), (k0_pay14 (k0_pay1 (inX m c) (inWq m c)) (k0_pay2 (inK m c)) k0_pay4 (Scalar.muli (devWord c) 2#32) k0_pay5 k0_pay6 k0_pay7 k0_pay8), (k0_pay15 (k0_pay3 (inV m c))), (constant S128x64 .f32 0x00000000#32)⟩ := rfl

/-- The first part reads the device's number and computes. -/
theorem shape_part1 : ∃ g : Dev nD → BitVec 32 × BitVec 32 × BitVec 32 × BitVec 32 × BitVec 32 × BitVec 1,
    k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7
      = .op .deviceId (fun d => .ret ⟨d, devWord d, (g d).1, (g d).2.1, 2#32, (g d).2.2.1, (g d).2.2.2.1, (g d).2.2.2.2.1, (g d).2.2.2.2.2⟩) :=
  ⟨fun d => (_, _, _, _, _, _), rfl⟩

/-- What a device holds when its body starts. -/
def start (m : (ℓ : Loc nD τ sig) → Buf (Elt F) ℓ) (c : Dev nD) : sProp 𝕄 :=
  iprop(Owed c 0
    ∗ dutyTok ER (barCell (peer 0 c)) 0 (back 0)
    ∗ free false 0 c
    ∗ sendKit false 0 c
    ∗ recvKit false 0 c
    ∗ free true 0 c
    ∗ sendKit true 0 c
    ∗ recvKit true 0 c
    ∗ dutyTok ER (barCell (peer 1 c)) 0 (back 1)
    ∗ free false 1 c
    ∗ sendKit false 1 c
    ∗ recvKit false 1 c
    ∗ free true 1 c
    ∗ sendKit true 1 c
    ∗ recvKit true 1 c
    ∗ dutyTok ER (barCell (peer 2 c)) 0 (back 2)
    ∗ free false 2 c
    ∗ sendKit false 2 c
    ∗ recvKit false 2 c
    ∗ free true 2 c
    ∗ sendKit true 2 c
    ∗ recvKit true 2 c
    ∗ dutyTok ER (barCell (peer 3 c)) 0 (back 3)
    ∗ free false 3 c
    ∗ sendKit false 3 c
    ∗ recvKit false 3 c
    ∗ free true 3 c
    ∗ sendKit true 3 c
    ∗ recvKit true 3 c
    ∗ dutyTok ER (barCell (peer 4 c)) 0 (back 4)
    ∗ free false 4 c
    ∗ sendKit false 4 c
    ∗ recvKit false 4 c
    ∗ free true 4 c
    ∗ sendKit true 4 c
    ∗ recvKit true 4 c
    ∗ dutyTok ER (barCell (peer 5 c)) 0 (back 5)
    ∗ free false 5 c
    ∗ sendKit false 5 c
    ∗ recvKit false 5 c
    ∗ free true 5 c
    ∗ sendKit true 5 c
    ∗ recvKit true 5 c
    ∗ dutyTok ER (barCell (peer 6 c)) 0 (back 6)
    ∗ free false 6 c
    ∗ sendKit false 6 c
    ∗ recvKit false 6 c
    ∗ free true 6 c
    ∗ sendKit true 6 c
    ∗ recvKit true 6 c
    ∗ atPos ER (barCell c) 0 ∅ 0
    ∗ cred (tallyAt (barCell c) () 7)
    ∗ written c (slabsM false) []
    ∗ written c (slabsM true) []
    ∗ written c (Memref.whole cc0_stg5_0) []
    ∗ owns (c : Thread nD τ) (Memref.whole cc0_stg0_0) fullShare (inX m c)
    ∗ owns (c : Thread nD τ) (Memref.whole cc0_stg1_0) fullShare (inWq m c)
    ∗ owns (c : Thread nD τ) (Memref.whole cc0_stg2_0) fullShare (inK m c)
    ∗ owns (c : Thread nD τ) (Memref.whole cc0_stg3_0) fullShare (inV m c)
    ∗ owns (c : Thread nD τ) (Memref.whole cc0_stg4_0) fullShare (inWo m c))

/-- What it holds when its body is done. -/
def finish (m : (ℓ : Loc nD τ sig) → Buf (Elt F) ℓ) (c : Dev nD) : sProp 𝕄 :=
  iprop(Owed c 21
    ∗ written c (Memref.whole cc0_stg5_0) [⟨Rect.unit (s := S2x128x512) ![1, 0, 0] S1x128x512.size inb_S2x128x512_S1x128x512_1_0_0, k0_pay60 (k0_pay59 (slabAt m true 3 c)) (inWo m c)⟩, ⟨Rect.unit (s := S2x128x512) ![0, 0, 0] S1x128x512.size inb_S2x128x512_S1x128x512_0_0_0, k0_pay57 (k0_pay56 (slabAt m false 3 c) (inWo m c))⟩]
    ∗ owns (c : Thread nD τ) (Memref.whole cc0_stg0_0) fullShare (inX m c)
    ∗ owns (c : Thread nD τ) (Memref.whole cc0_stg1_0) fullShare (inWq m c)
    ∗ owns (c : Thread nD τ) (Memref.whole cc0_stg2_0) fullShare (inK m c)
    ∗ owns (c : Thread nD τ) (Memref.whole cc0_stg3_0) fullShare (inV m c)
    ∗ owns (c : Thread nD τ) (Memref.whole cc0_stg4_0) fullShare (inWo m c)
    ∗ semVal (barCell c) 0
    ∗ owns (c : Thread nD τ) (slab false 0) kept (slabAt m false 0 c)
    ∗ owns (c : Thread nD τ) (slab false 1) kept (slabAt m false 1 c)
    ∗ owns (c : Thread nD τ) (slab false 2) kept (slabAt m false 2 c)
    ∗ owns (c : Thread nD τ) (slab false 3) fullShare (slabAt m false 3 c)
    ∗ owns (c : Thread nD τ) (slab true 0) kept (slabAt m true 0 c)
    ∗ owns (c : Thread nD τ) (slab true 1) kept (slabAt m true 1 c)
    ∗ owns (c : Thread nD τ) (slab true 2) kept (slabAt m true 2 c)
    ∗ owns (c : Thread nD τ) (slab true 3) fullShare (slabAt m true 3 c)
    ∗ arrived m false 1 c
    ∗ semVal (recvCell false 1 c) 0
    ∗ arrived m false 2 c
    ∗ semVal (recvCell false 2 c) 0
    ∗ arrived m false 3 c
    ∗ semVal (recvCell false 3 c) 0
    ∗ arrived m true 4 c
    ∗ semVal (recvCell true 4 c) 0
    ∗ arrived m true 5 c
    ∗ semVal (recvCell true 5 c) 0
    ∗ arrived m true 6 c
    ∗ semVal (recvCell true 6 c) 0
    ∗ arrived m false 4 c
    ∗ semVal (recvCell false 4 c) 0
    ∗ arrived m false 5 c
    ∗ semVal (recvCell false 5 c) 0
    ∗ arrived m false 6 c
    ∗ semVal (recvCell false 6 c) 0
    ∗ arrived m true 1 c
    ∗ semVal (recvCell true 1 c) 0
    ∗ arrived m true 2 c
    ∗ semVal (recvCell true 2 c) 0
    ∗ arrived m true 3 c
    ∗ semVal (recvCell true 3 c) 0
    ∗ arrived m false 0 c
    ∗ semVal (recvCell false 0 c) 0
    ∗ arrived m true 0 c
    ∗ semVal (recvCell true 0 c) 0
    ∗ lentSlab m false 1 c
    ∗ semVal (sendCell false 1 c) 0
    ∗ lentSlab m false 2 c
    ∗ semVal (sendCell false 2 c) 0
    ∗ lentSlab m false 3 c
    ∗ semVal (sendCell false 3 c) 0
    ∗ lentSlab m true 4 c
    ∗ semVal (sendCell true 4 c) 0
    ∗ lentSlab m true 5 c
    ∗ semVal (sendCell true 5 c) 0
    ∗ lentSlab m true 6 c
    ∗ semVal (sendCell true 6 c) 0
    ∗ lentSlab m false 4 c
    ∗ semVal (sendCell false 4 c) 0
    ∗ lentSlab m false 5 c
    ∗ semVal (sendCell false 5 c) 0
    ∗ lentSlab m false 6 c
    ∗ semVal (sendCell false 6 c) 0
    ∗ lentSlab m true 1 c
    ∗ semVal (sendCell true 1 c) 0
    ∗ lentSlab m true 2 c
    ∗ semVal (sendCell true 2 c) 0
    ∗ lentSlab m true 3 c
    ∗ semVal (sendCell true 3 c) 0
    ∗ lentSlab m false 0 c
    ∗ semVal (sendCell false 0 c) 0
    ∗ lentSlab m true 0 c
    ∗ semVal (sendCell true 0 c) 0)

/-- What it holds before its last two waits. -/
def almost (m : (ℓ : Loc nD τ sig) → Buf (Elt F) ℓ) (c : Dev nD) : sProp 𝕄 :=
  iprop(Owed c 21
    ∗ written c (Memref.whole cc0_stg5_0) [⟨Rect.unit (s := S2x128x512) ![1, 0, 0] S1x128x512.size inb_S2x128x512_S1x128x512_1_0_0, k0_pay60 (k0_pay59 (slabAt m true 3 c)) (inWo m c)⟩, ⟨Rect.unit (s := S2x128x512) ![0, 0, 0] S1x128x512.size inb_S2x128x512_S1x128x512_0_0_0, k0_pay57 (k0_pay56 (slabAt m false 3 c) (inWo m c))⟩]
    ∗ owns (c : Thread nD τ) (Memref.whole cc0_stg0_0) fullShare (inX m c)
    ∗ owns (c : Thread nD τ) (Memref.whole cc0_stg1_0) fullShare (inWq m c)
    ∗ owns (c : Thread nD τ) (Memref.whole cc0_stg2_0) fullShare (inK m c)
    ∗ owns (c : Thread nD τ) (Memref.whole cc0_stg3_0) fullShare (inV m c)
    ∗ owns (c : Thread nD τ) (Memref.whole cc0_stg4_0) fullShare (inWo m c)
    ∗ semVal (barCell c) 0
    ∗ owns (c : Thread nD τ) (slab false 0) kept (slabAt m false 0 c)
    ∗ owns (c : Thread nD τ) (slab false 1) kept (slabAt m false 1 c)
    ∗ owns (c : Thread nD τ) (slab false 2) kept (slabAt m false 2 c)
    ∗ owns (c : Thread nD τ) (slab false 3) fullShare (slabAt m false 3 c)
    ∗ owns (c : Thread nD τ) (slab true 0) kept (slabAt m true 0 c)
    ∗ owns (c : Thread nD τ) (slab true 1) kept (slabAt m true 1 c)
    ∗ owns (c : Thread nD τ) (slab true 2) kept (slabAt m true 2 c)
    ∗ owns (c : Thread nD τ) (slab true 3) fullShare (slabAt m true 3 c)
    ∗ arrived m false 1 c
    ∗ semVal (recvCell false 1 c) 0
    ∗ arrived m false 2 c
    ∗ semVal (recvCell false 2 c) 0
    ∗ arrived m false 3 c
    ∗ semVal (recvCell false 3 c) 0
    ∗ arrived m true 4 c
    ∗ semVal (recvCell true 4 c) 0
    ∗ arrived m true 5 c
    ∗ semVal (recvCell true 5 c) 0
    ∗ arrived m true 6 c
    ∗ semVal (recvCell true 6 c) 0
    ∗ arrived m false 4 c
    ∗ semVal (recvCell false 4 c) 0
    ∗ arrived m false 5 c
    ∗ semVal (recvCell false 5 c) 0
    ∗ arrived m false 6 c
    ∗ semVal (recvCell false 6 c) 0
    ∗ arrived m true 1 c
    ∗ semVal (recvCell true 1 c) 0
    ∗ arrived m true 2 c
    ∗ semVal (recvCell true 2 c) 0
    ∗ arrived m true 3 c
    ∗ semVal (recvCell true 3 c) 0
    ∗ arrived m false 0 c
    ∗ semVal (recvCell false 0 c) 0
    ∗ arrived m true 0 c
    ∗ semVal (recvCell true 0 c) 0
    ∗ lentSlab m false 1 c
    ∗ semVal (sendCell false 1 c) 0
    ∗ lentSlab m false 2 c
    ∗ semVal (sendCell false 2 c) 0
    ∗ lentSlab m false 3 c
    ∗ semVal (sendCell false 3 c) 0
    ∗ lentSlab m true 4 c
    ∗ semVal (sendCell true 4 c) 0
    ∗ lentSlab m true 5 c
    ∗ semVal (sendCell true 5 c) 0
    ∗ lentSlab m true 6 c
    ∗ semVal (sendCell true 6 c) 0
    ∗ lentSlab m false 4 c
    ∗ semVal (sendCell false 4 c) 0
    ∗ lentSlab m false 5 c
    ∗ semVal (sendCell false 5 c) 0
    ∗ lentSlab m false 6 c
    ∗ semVal (sendCell false 6 c) 0
    ∗ lentSlab m true 1 c
    ∗ semVal (sendCell true 1 c) 0
    ∗ lentSlab m true 2 c
    ∗ semVal (sendCell true 2 c) 0
    ∗ lentSlab m true 3 c
    ∗ semVal (sendCell true 3 c) 0
    ∗ underway false 0 c
    ∗ underway true 0 c)

set_option maxHeartbeats 4000000 in
/-- All but the last two waits. -/
theorem run_part29 {Q : PUnit → sProp 𝕄} :
    iprop(records m K ∗ start m c)
      ⊢ iprop((almost m c -∗ Q ⟨⟩)
        -∗ wp frame (wpE (defs₀ (F := F)) 𝒱₀ (c : Thread nD τ) none) Set.univ
          (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  obtain ⟨g, h1⟩ := shape_part1 (F := F)
  simp only [k0_part29_eq_skeleton]; unfold k0_part29_skel
  unfold start
  iintro ⟨#HR, HO, HBt0, HFr00, HSk00, HRk00, HFr10, HSk10, HRk10, HBt1, HFr01, HSk01, HRk01, HFr11, HSk11, HRk11, HBt2, HFr02, HSk02, HRk02, HFr12, HSk12, HRk12, HBt3, HFr03, HSk03, HRk03, HFr13, HSk13, HRk13, HBt4, HFr04, HSk04, HRk04, HFr14, HSk14, HRk14, HBt5, HFr05, HSk05, HRk05, HFr15, HSk15, HRk15, HBt6, HFr06, HSk06, HRk06, HFr16, HSk16, HRk16, HBp, HBc, HW0, HW1, HWO, HIX, HIWq, HIKk, HIVv, HIWo⟩ Hk
  rw [h1, Prog.bind_op, wp_deviceId]
  simp only [Prog.bind_ret]
  generalize g c = u
  obtain ⟨u1, u2, u3, u4, u5, u6⟩ := u
  dsimp only
  obtain ⟨⟨p2_0, p2_1, p2_2, p2_3, p2_4, p2_5, p2_6, p2_7, p2_8⟩, h2⟩ := shape_part2 (F := F) (devWord c) u1 u2 2#32 u3 u4 u5 u6
  rw [h2, Prog.bind_ret]
  dsimp only
  obtain ⟨⟨p3_0, p3_1, p3_2, p3_3, p3_4, p3_5, p3_6, p3_7⟩, h3⟩ := shape_part3 (F := F) u1 p2_0 p2_1 p2_3 p2_4 p2_5 p2_6 p2_7 p2_8
  rw [h3, Prog.bind_ret]
  dsimp only
  obtain ⟨⟨p4_0, p4_1, p4_2, p4_3, p4_4, p4_5⟩, h4⟩ := shape_part4 (F := F) u1 p2_0 p2_1 p3_1 p3_2 p3_3 p3_4 p3_5 p3_6 p3_7
  rw [h4, Prog.bind_ret]
  dsimp only
  rw [wp_bind]
  iapply (run_part5 m K c _ _ _ _ _ _ _) $$ [HO HBt0 HFr00 HFr10]
  · isplitr; · iexact HR
    isplitl [HO]; · iexact HO
    isplitl [HBt0]; · iexact HBt0
    isplitl [HFr00]; · iexact HFr00
    iexact HFr10
  iintro %a %b %d HO
  try dsimp only
  rw [wp_bind]
  iapply (run_part6 m K c _ _ _ _ _ _ _) $$ [HO HBt1 HFr03 HFr13 HBt2 HFr02 HFr12 HBt3 HFr01 HFr11 HBt4 HFr06 HFr16 HBt5 HFr05 HFr15 HBt6 HFr04 HFr14 HIX HIWq HIKk HIVv]
  · isplitr; · iexact HR
    isplitl [HO]; · iexact HO
    isplitl [HBt1]; · iexact HBt1
    isplitl [HFr03]; · iexact HFr03
    isplitl [HFr13]; · iexact HFr13
    isplitl [HBt2]; · iexact HBt2
    isplitl [HFr02]; · iexact HFr02
    isplitl [HFr12]; · iexact HFr12
    isplitl [HBt3]; · iexact HBt3
    isplitl [HFr01]; · iexact HFr01
    isplitl [HFr11]; · iexact HFr11
    isplitl [HBt4]; · iexact HBt4
    isplitl [HFr06]; · iexact HFr06
    isplitl [HFr16]; · iexact HFr16
    isplitl [HBt5]; · iexact HBt5
    isplitl [HFr05]; · iexact HFr05
    isplitl [HFr15]; · iexact HFr15
    isplitl [HBt6]; · iexact HBt6
    isplitl [HFr04]; · iexact HFr04
    isplitl [HFr14]; · iexact HFr14
    isplitl [HIX]; · iexact HIX
    isplitl [HIWq]; · iexact HIWq
    isplitl [HIKk]; · iexact HIKk
    iexact HIVv
  iintro ⟨HO, HIX, HIWq, HIKk, HIVv⟩
  try dsimp only
  rw [shape_part7, Prog.bind_ret]
  dsimp only
  rw [shape_part8, Prog.bind_ret]
  dsimp only
  rw [wp_bind]
  iapply (run_part9 m c) $$ [HW0]
  · iexact HW0
  iintro HW0
  try dsimp only
  rw [wp_bind]
  iapply (run_part10 m K c) $$ [HW0 HO HBp HBc]
  · isplitr; · iexact HR
    isplitl [HW0]; · iexact HW0
    isplitl [HO]; · iexact HO
    isplitl [HBp]; · iexact HBp
    iexact HBc
  iintro ⟨HW0, HO, HZb, HG00, HG10, HG01, HG11, HG02, HG12, HG03, HG13, HG04, HG14, HG05, HG15, HG06, HG16⟩
  try dsimp only
  rw [wp_bind]
  iapply (run_part11 m K c _ _ _) $$ [HW0 HG01 HO HSk01 HG02 HSk02]
  · isplitr; · iexact HR
    isplitl [HW0]; · iexact HW0
    isplitl [HG01]; · iexact HG01
    isplitl [HO]; · iexact HO
    isplitl [HSk01]; · iexact HSk01
    isplitl [HG02]; · iexact HG02
    iexact HSk02
  iintro ⟨HS01, HS02, HS03, HS00, HL03, HU01, HO, HU02⟩
  try dsimp only
  rw [wp_bind]
  iapply (run_part12 m K c) $$ [HL03 HG03 HO HSk03 HW1]
  · isplitr; · iexact HR
    isplitl [HL03]; · iexact HL03
    isplitl [HG03]; · iexact HG03
    isplitl [HO]; · iexact HO
    isplitl [HSk03]; · iexact HSk03
    iexact HW1
  iintro ⟨HO, HU03, HW1⟩
  try dsimp only
  rw [wp_bind]
  iapply (run_part13 m c) $$ [HW1]
  · iexact HW1
  iintro HW1
  try dsimp only
  rw [wp_bind]
  iapply (run_part14 m K c _ _) $$ [HW1 HG14 HO HSk14]
  · isplitr; · iexact HR
    isplitl [HW1]; · iexact HW1
    isplitl [HG14]; · iexact HG14
    isplitl [HO]; · iexact HO
    iexact HSk14
  iintro ⟨HS11, HS12, HS13, HS10, HL15, HL16, HO, HU14⟩
  try dsimp only
  rw [wp_bind]
  iapply (run_part15 m K c _ _ _) $$ [HL15 HG15 HO HSk15 HL16 HG16 HSk16 HS00 HRk01]
  · isplitr; · iexact HR
    isplitl [HL15]; · iexact HL15
    isplitl [HG15]; · iexact HG15
    isplitl [HO]; · iexact HO
    isplitl [HSk15]; · iexact HSk15
    isplitl [HL16]; · iexact HL16
    isplitl [HG16]; · iexact HG16
    isplitl [HSk16]; · iexact HSk16
    isplitl [HS00]; · iexact HS00
    iexact HRk01
  iintro %w15 ⟨HU15, HU16, HS00, HO, HZr01, HA01⟩
  try dsimp only
  rw [wp_bind]
  iapply (run_part16 m K c _ _ _ _) $$ [HO HRk02 HRk03 HS01]
  · isplitr; · iexact HR
    isplitl [HO]; · iexact HO
    isplitl [HRk02]; · iexact HRk02
    isplitl [HRk03]; · iexact HRk03
    iexact HS01
  iintro ⟨HZr02, HA02, HO, HZr03, HA03, HS01⟩
  try dsimp only
  rw [wp_bind]
  iapply (run_part17 m K c _ _) $$ [HS01 HG04 HO HSk04 HG05 HSk05 HG06 HSk06 HS10]
  · isplitr; · iexact HR
    isplitl [HS01]; · iexact HS01
    isplitl [HG04]; · iexact HG04
    isplitl [HO]; · iexact HO
    isplitl [HSk04]; · iexact HSk04
    isplitl [HG05]; · iexact HG05
    isplitl [HSk05]; · iexact HSk05
    isplitl [HG06]; · iexact HG06
    isplitl [HSk06]; · iexact HSk06
    iexact HS10
  iintro ⟨HS01, HU04, HU05, HO, HU06, HS10⟩
  try dsimp only
  rw [wp_bind]
  iapply (run_part18 m K c _ _ _) $$ [HO HRk14 HRk15]
  · isplitr; · iexact HR
    isplitl [HO]; · iexact HO
    isplitl [HRk14]; · iexact HRk14
    iexact HRk15
  iintro ⟨HZr14, HA14, HO, HZr15, HA15⟩
  try dsimp only
  rw [wp_bind]
  iapply (run_part19 m K c _ _) $$ [HO HRk16 HS11 HG11 HSk11]
  · isplitr; · iexact HR
    isplitl [HO]; · iexact HO
    isplitl [HRk16]; · iexact HRk16
    isplitl [HS11]; · iexact HS11
    isplitl [HG11]; · iexact HG11
    iexact HSk11
  iintro ⟨HZr16, HA16, HS11, HL12, HL13, HO, HU11⟩
  try dsimp only
  rw [wp_bind]
  iapply (run_part20 m K c _ _ _) $$ [HL12 HG12 HO HSk12 HL13 HG13 HSk13 HS01 HRk04]
  · isplitr; · iexact HR
    isplitl [HL12]; · iexact HL12
    isplitl [HG12]; · iexact HG12
    isplitl [HO]; · iexact HO
    isplitl [HSk12]; · iexact HSk12
    isplitl [HL13]; · iexact HL13
    isplitl [HG13]; · iexact HG13
    isplitl [HSk13]; · iexact HSk13
    isplitl [HS01]; · iexact HS01
    iexact HRk04
  iintro %w20 ⟨HU12, HU13, HS01, HO, HZr04, HA04⟩
  try dsimp only
  rw [wp_bind]
  iapply (run_part21 m K c _ _ _ _) $$ [HO HRk05 HRk06 HS02]
  · isplitr; · iexact HR
    isplitl [HO]; · iexact HO
    isplitl [HRk05]; · iexact HRk05
    isplitl [HRk06]; · iexact HRk06
    iexact HS02
  iintro ⟨HZr05, HA05, HO, HZr06, HA06, HS02⟩
  try dsimp only
  rw [wp_bind]
  iapply (run_part22 m K c _ _) $$ [HS02 HG00 HO HSk00 HS11 HRk11 HRk12]
  · isplitr; · iexact HR
    isplitl [HS02]; · iexact HS02
    isplitl [HG00]; · iexact HG00
    isplitl [HO]; · iexact HO
    isplitl [HSk00]; · iexact HSk00
    isplitl [HS11]; · iexact HS11
    isplitl [HRk11]; · iexact HRk11
    iexact HRk12
  iintro ⟨HS02, HU00, HS11, HZr11, HA11, HO, HA12, HZr12⟩
  try dsimp only
  rw [wp_bind]
  iapply (run_part23 m K c _ _) $$ [HA12 HO HRk13 HS12 HG10 HSk10]
  · isplitr; · iexact HR
    isplitl [HA12]; · iexact HA12
    isplitl [HO]; · iexact HO
    isplitl [HRk13]; · iexact HRk13
    isplitl [HS12]; · iexact HS12
    isplitl [HG10]; · iexact HG10
    iexact HSk10
  iintro ⟨HA12, HZr13, HA13, HS12, HO, HU10⟩
  try dsimp only
  rw [wp_bind]
  iapply (run_part24 m K c _) $$ [HS02 HO HRk00 HS03 HIWo]
  · isplitr; · iexact HR
    isplitl [HS02]; · iexact HS02
    isplitl [HO]; · iexact HO
    isplitl [HRk00]; · iexact HRk00
    isplitl [HS03]; · iexact HS03
    iexact HIWo
  iintro ⟨HS02, HO, HZr00, HA00, HS03, HIWo⟩
  try dsimp only
  rw [wp_bind]
  iapply (run_part25 m K c _) $$ [HWO HS12 HO HRk10 HS13]
  · isplitr; · iexact HR
    isplitl [HWO]; · iexact HWO
    isplitl [HS12]; · iexact HS12
    isplitl [HO]; · iexact HO
    isplitl [HRk10]; · iexact HRk10
    iexact HS13
  iintro ⟨HWO, HS12, HO, HZr10, HA10, HS13⟩
  try dsimp only
  rw [wp_bind]
  iapply (run_part26 m K c) $$ [HIWo HWO HO HU01 HU02]
  · isplitr; · iexact HR
    isplitl [HIWo]; · iexact HIWo
    isplitl [HWO]; · iexact HWO
    isplitl [HO]; · iexact HO
    isplitl [HU01]; · iexact HU01
    iexact HU02
  iintro ⟨HIWo, HWO, HL01, HZs01, HO, HL02, HZs02⟩
  try dsimp only
  rw [wp_bind]
  iapply (run_part27 m K c) $$ [HO HU03 HU14 HU15 HU16]
  · isplitr; · iexact HR
    isplitl [HO]; · iexact HO
    isplitl [HU03]; · iexact HU03
    isplitl [HU14]; · iexact HU14
    isplitl [HU15]; · iexact HU15
    iexact HU16
  iintro ⟨HL03, HZs03, HL14, HZs14, HL15, HZs15, HO, HL16, HZs16⟩
  try dsimp only
  rw [wp_bind]
  iapply (run_part28 m K c) $$ [HO HU04 HU05 HU06 HU11]
  · isplitr; · iexact HR
    isplitl [HO]; · iexact HO
    isplitl [HU04]; · iexact HU04
    isplitl [HU05]; · iexact HU05
    isplitl [HU06]; · iexact HU06
    iexact HU11
  iintro ⟨HL04, HZs04, HL05, HZs05, HL06, HZs06, HO, HL11, HZs11⟩
  try dsimp only
  simp only [Prog.lift, Prog.bind_op, Prog.bind_ret, Prog.pure_eq_ret]
  iapply (step_sent m K c true 2 (src := slotQ true 2) (dst := slabQ true 1) rfl (slab_credit true 1)) $$ [HO HU12]
  · isplitr; · iexact HR
    isplitl [HO]; · iexact HO
    iexact HU12
  iintro ⟨HO, HL12, HZs12⟩
  iapply (step_sent m K c true 3 (src := slotQ true 3) (dst := slabQ true 1) rfl (slab_credit true 1)) $$ [HO HU13]
  · isplitr; · iexact HR
    isplitl [HO]; · iexact HO
    iexact HU13
  iintro ⟨HO, HL13, HZs13⟩
  rw [wp_ret]; imodintro
  iapply Hk
  unfold almost
  isplitl [HO]; · iexact HO
  isplitl [HWO]; · iexact HWO
  isplitl [HIX]; · iexact HIX
  isplitl [HIWq]; · iexact HIWq
  isplitl [HIKk]; · iexact HIKk
  isplitl [HIVv]; · iexact HIVv
  isplitl [HIWo]; · iexact HIWo
  isplitl [HZb]; · iexact HZb
  isplitl [HS00]; · iexact HS00
  isplitl [HS01]; · iexact HS01
  isplitl [HS02]; · iexact HS02
  isplitl [HS03]; · iexact HS03
  isplitl [HS10]; · iexact HS10
  isplitl [HS11]; · iexact HS11
  isplitl [HS12]; · iexact HS12
  isplitl [HS13]; · iexact HS13
  isplitl [HA01]; · iexact HA01
  isplitl [HZr01]; · iexact HZr01
  isplitl [HA02]; · iexact HA02
  isplitl [HZr02]; · iexact HZr02
  isplitl [HA03]; · iexact HA03
  isplitl [HZr03]; · iexact HZr03
  isplitl [HA14]; · iexact HA14
  isplitl [HZr14]; · iexact HZr14
  isplitl [HA15]; · iexact HA15
  isplitl [HZr15]; · iexact HZr15
  isplitl [HA16]; · iexact HA16
  isplitl [HZr16]; · iexact HZr16
  isplitl [HA04]; · iexact HA04
  isplitl [HZr04]; · iexact HZr04
  isplitl [HA05]; · iexact HA05
  isplitl [HZr05]; · iexact HZr05
  isplitl [HA06]; · iexact HA06
  isplitl [HZr06]; · iexact HZr06
  isplitl [HA11]; · iexact HA11
  isplitl [HZr11]; · iexact HZr11
  isplitl [HA12]; · iexact HA12
  isplitl [HZr12]; · iexact HZr12
  isplitl [HA13]; · iexact HA13
  isplitl [HZr13]; · iexact HZr13
  isplitl [HA00]; · iexact HA00
  isplitl [HZr00]; · iexact HZr00
  isplitl [HA10]; · iexact HA10
  isplitl [HZr10]; · iexact HZr10
  isplitl [HL01]; · iexact HL01
  isplitl [HZs01]; · iexact HZs01
  isplitl [HL02]; · iexact HL02
  isplitl [HZs02]; · iexact HZs02
  isplitl [HL03]; · iexact HL03
  isplitl [HZs03]; · iexact HZs03
  isplitl [HL14]; · iexact HL14
  isplitl [HZs14]; · iexact HZs14
  isplitl [HL15]; · iexact HL15
  isplitl [HZs15]; · iexact HZs15
  isplitl [HL16]; · iexact HL16
  isplitl [HZs16]; · iexact HZs16
  isplitl [HL04]; · iexact HL04
  isplitl [HZs04]; · iexact HZs04
  isplitl [HL05]; · iexact HL05
  isplitl [HZs05]; · iexact HZs05
  isplitl [HL06]; · iexact HL06
  isplitl [HZs06]; · iexact HZs06
  isplitl [HL11]; · iexact HL11
  isplitl [HZs11]; · iexact HZs11
  isplitl [HL12]; · iexact HL12
  isplitl [HZs12]; · iexact HZs12
  isplitl [HL13]; · iexact HL13
  isplitl [HZs13]; · iexact HZs13
  isplitl [HU00]; · iexact HU00
  iexact HU10

set_option maxHeartbeats 1000000 in
/-- One device's body: from what the device starts with it ends with what it finishes with, every exchange done. -/
theorem run_body {Q : PUnit → sProp 𝕄} :
    iprop(records m K ∗ start m c)
      ⊢ iprop((finish m c -∗ Q ⟨⟩)
        -∗ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  simp only [cc0_body_eq_skeleton]; unfold cc0_body_skel
  iintro ⟨#HR, Hs⟩ Hk
  rw [wp_bind]
  iapply (run_part29 m K c) $$ [Hs]
  · isplitr; · iexact HR
    iexact Hs
  unfold almost
  iintro ⟨HO, HWO, HIX, HIWq, HIKk, HIVv, HIWo, HZb, HS00, HS01, HS02, HS03, HS10, HS11, HS12, HS13, HA01, HZr01, HA02, HZr02, HA03, HZr03, HA14, HZr14, HA15, HZr15, HA16, HZr16, HA04, HZr04, HA05, HZr05, HA06, HZr06, HA11, HZr11, HA12, HZr12, HA13, HZr13, HA00, HZr00, HA10, HZr10, HL01, HZs01, HL02, HZs02, HL03, HZs03, HL14, HZs14, HL15, HZs15, HL16, HZs16, HL04, HZs04, HL05, HZs05, HL06, HZs06, HL11, HZs11, HL12, HZs12, HL13, HZs13, HU00, HU10⟩
  simp only [Prog.lift, Prog.bind_op, Prog.bind_ret, Prog.pure_eq_ret]
  iapply (step_sent m K c false 0 (src := slotQ false 0) (dst := slabQ false 2) rfl (slab_credit false 2)) $$ [HO HU00]
  · isplitr; · iexact HR
    isplitl [HO]; · iexact HO
    iexact HU00
  iintro ⟨HO, HL00, HZs00⟩
  iapply (step_sent m K c true 0 (src := slotQ true 0) (dst := slabQ true 2) rfl (slab_credit true 2)) $$ [HO HU10]
  · isplitr; · iexact HR
    isplitl [HO]; · iexact HO
    iexact HU10
  iintro ⟨HO, HL10, HZs10⟩
  rw [wp_ret]; imodintro
  iapply Hk
  unfold finish
  isplitl [HO]; · iexact HO
  isplitl [HWO]; · iexact HWO
  isplitl [HIX]; · iexact HIX
  isplitl [HIWq]; · iexact HIWq
  isplitl [HIKk]; · iexact HIKk
  isplitl [HIVv]; · iexact HIVv
  isplitl [HIWo]; · iexact HIWo
  isplitl [HZb]; · iexact HZb
  isplitl [HS00]; · iexact HS00
  isplitl [HS01]; · iexact HS01
  isplitl [HS02]; · iexact HS02
  isplitl [HS03]; · iexact HS03
  isplitl [HS10]; · iexact HS10
  isplitl [HS11]; · iexact HS11
  isplitl [HS12]; · iexact HS12
  isplitl [HS13]; · iexact HS13
  isplitl [HA01]; · iexact HA01
  isplitl [HZr01]; · iexact HZr01
  isplitl [HA02]; · iexact HA02
  isplitl [HZr02]; · iexact HZr02
  isplitl [HA03]; · iexact HA03
  isplitl [HZr03]; · iexact HZr03
  isplitl [HA14]; · iexact HA14
  isplitl [HZr14]; · iexact HZr14
  isplitl [HA15]; · iexact HA15
  isplitl [HZr15]; · iexact HZr15
  isplitl [HA16]; · iexact HA16
  isplitl [HZr16]; · iexact HZr16
  isplitl [HA04]; · iexact HA04
  isplitl [HZr04]; · iexact HZr04
  isplitl [HA05]; · iexact HA05
  isplitl [HZr05]; · iexact HZr05
  isplitl [HA06]; · iexact HA06
  isplitl [HZr06]; · iexact HZr06
  isplitl [HA11]; · iexact HA11
  isplitl [HZr11]; · iexact HZr11
  isplitl [HA12]; · iexact HA12
  isplitl [HZr12]; · iexact HZr12
  isplitl [HA13]; · iexact HA13
  isplitl [HZr13]; · iexact HZr13
  isplitl [HA00]; · iexact HA00
  isplitl [HZr00]; · iexact HZr00
  isplitl [HA10]; · iexact HA10
  isplitl [HZr10]; · iexact HZr10
  isplitl [HL01]; · iexact HL01
  isplitl [HZs01]; · iexact HZs01
  isplitl [HL02]; · iexact HL02
  isplitl [HZs02]; · iexact HZs02
  isplitl [HL03]; · iexact HL03
  isplitl [HZs03]; · iexact HZs03
  isplitl [HL14]; · iexact HL14
  isplitl [HZs14]; · iexact HZs14
  isplitl [HL15]; · iexact HL15
  isplitl [HZs15]; · iexact HZs15
  isplitl [HL16]; · iexact HL16
  isplitl [HZs16]; · iexact HZs16
  isplitl [HL04]; · iexact HL04
  isplitl [HZs04]; · iexact HZs04
  isplitl [HL05]; · iexact HL05
  isplitl [HZs05]; · iexact HZs05
  isplitl [HL06]; · iexact HL06
  isplitl [HZs06]; · iexact HZs06
  isplitl [HL11]; · iexact HL11
  isplitl [HZs11]; · iexact HZs11
  isplitl [HL12]; · iexact HL12
  isplitl [HZs12]; · iexact HZs12
  isplitl [HL13]; · iexact HL13
  isplitl [HZs13]; · iexact HZs13
  isplitl [HL00]; · iexact HL00
  isplitl [HZs00]; · iexact HZs00
  isplitl [HL10]; · iexact HL10
  iexact HZs10

end Cert.Attn

end
-- ==== Proof.Gather.lean ====
/-
# The launch

From any memory with all counters at zero, every run of the kernel on the 32 devices ends with all counters at zero and
each device's result array holding `outAt` of its inputs.
-/
module

public import proofs.«01_k».proof.Proof.Fund
public import proofs.«01_k».proof.Proof.Body

@[expose] public section

noncomputable section

namespace Cert.Attn

open Cert.KernelIdeal Cert.KernelIdeal.Gen
open Idealize.ShloMosaic
open Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The memory at the start, every counter at zero. -/
def s₀ : MemSt nD τ sig (Elt F) := ⟨m, fun _ => 0, ρ⟩

/-! ## What the devices may wait for -/

/-- The dues of any device: the slot paid across, the counter there, the amount. -/
def duesAcross : List (Fin 7 × SemLoc sig × ℕ) :=
  [(0, .reg barS, 1), (1, .reg barS, 1), (2, .reg barS, 1), (3, .reg barS, 1), (4, .reg barS, 1), (5, .reg barS, 1), (6, .reg barS, 1),
   (1, recvS false 1, N), (2, recvS false 2, N), (3, recvS false 3, N), (4, recvS true 4, N), (5, recvS true 5, N), (6, recvS true 6, N),
   (4, recvS false 4, N), (5, recvS false 5, N), (6, recvS false 6, N), (1, recvS true 1, N), (2, recvS true 2, N), (3, recvS true 3, N),
   (0, recvS false 0, N), (0, recvS true 0, N)]

/-- A duty across a slot, as a semaphore of the neighbour there. -/
abbrev across (d : Dev nD) (p : Fin 7 × SemLoc sig × ℕ) : GSem nD τ sig × ℕ := (((peer p.1 d : Dev nD) : Thread nD τ), p.2.1) |> fun g => (g, p.2.2)

/-- A device's duties are those across its slots. -/
theorem dues_eq : dues c = duesAcross.map (across c) := rfl

/-- Credits for a list of dues, at the device itself. -/
def credits : List (Fin 7 × SemLoc sig × ℕ) → sProp 𝕄
  | [] => iprop(emp)
  | p :: ps => iprop(credits ps ∗ cred (tallyAt ((c : Thread nD τ), p.2.1) () p.2.2))

/-- What all devices owe one device, it may wait for. -/
theorem credits_of (l : List (Fin 7 × SemLoc sig × ℕ)) :
    (Pipeline.launchCred (fun d => tal (l.map (across d))) c : sProp 𝕄) ⊢ credits c l := by
  induction l with
  | nil => iintro -; unfold credits; iempintro
  | cons p ps ih =>
    have e : (fun d => tal ((p :: ps).map (across d)))
        = fun d => tal (ps.map (across d)) + tallyAt (((peer p.1 d).tc : Thread nD τ), p.2.1) () p.2.2 := rfl
    rw [e, Pipeline.launchCred_add]
    unfold credits
    exact Laws.sep_mono ih (Pipeline.launchCred_tallyAt p.2.1 (peer p.1) (peer (back p.1)) (back_peer p.1) (peer_back p.1) () p.2.2 c)

/-- The same, sorted by counter. -/
def expected : sProp 𝕄 :=
  iprop(cred (tallyAt (barCell c) () 7)
    ∗ cred (tallyAt (recvCell false 0 c) () N) ∗ cred (tallyAt (recvCell false 1 c) () N) ∗ cred (tallyAt (recvCell false 2 c) () N) ∗ cred (tallyAt (recvCell false 3 c) () N) ∗ cred (tallyAt (recvCell false 4 c) () N) ∗ cred (tallyAt (recvCell false 5 c) () N) ∗ cred (tallyAt (recvCell false 6 c) () N) ∗ cred (tallyAt (recvCell true 0 c) () N) ∗ cred (tallyAt (recvCell true 1 c) () N) ∗ cred (tallyAt (recvCell true 2 c) () N) ∗ cred (tallyAt (recvCell true 3 c) () N) ∗ cred (tallyAt (recvCell true 4 c) () N) ∗ cred (tallyAt (recvCell true 5 c) () N) ∗ cred (tallyAt (recvCell true 6 c) () N))

/-- Seven single units are one claim on seven. -/
theorem seven_units :
    iprop(cred (tallyAt (barCell c) () 1) ∗ cred (tallyAt (barCell c) () 1) ∗ cred (tallyAt (barCell c) () 1) ∗ cred (tallyAt (barCell c) () 1)
      ∗ cred (tallyAt (barCell c) () 1) ∗ cred (tallyAt (barCell c) () 1) ∗ cred (tallyAt (barCell c) () 1))
      ⊢ (cred (tallyAt (barCell c) () 7) : sProp 𝕄) := by
  have h (a b : ℕ) : iprop(cred (tallyAt (barCell c) () a) ∗ cred (tallyAt (barCell c) () b)) ⊢ (cred (tallyAt (barCell c) () (a + b)) : sProp 𝕄) := by
    rw [← tallyAt_add]; exact (cred_add _ _).2
  exact (sep_mono_right ((sep_mono_right ((sep_mono_right ((sep_mono_right ((sep_mono_right (h 1 1)).trans (h 1 2))).trans (h 1 3))).trans (h 1 4))).trans (h 1 5))).trans (h 1 6)

/-- What all the devices owe to device `c` is what it expects. -/
theorem expected_intro : (Pipeline.launchCred (fun d => tal (dues d)) c : sProp 𝕄) ⊢ expected c := by
  refine (credits_of c duesAcross).trans ?_
  unfold duesAcross expected
  simp only [credits]
  iintro ⟨⟨⟨⟨⟨⟨⟨⟨⟨⟨⟨⟨⟨⟨⟨⟨⟨⟨⟨⟨⟨-, C10⟩, C00⟩, C13⟩, C12⟩, C11⟩, C06⟩, C05⟩, C04⟩, C16⟩, C15⟩, C14⟩, C03⟩, C02⟩, C01⟩, U6⟩, U5⟩, U4⟩, U3⟩, U2⟩, U1⟩, U0⟩
  isplitl [U0 U1 U2 U3 U4 U5 U6]
  · iapply (seven_units c)
    isplitl [U0]; · iexact U0
    isplitl [U1]; · iexact U1
    isplitl [U2]; · iexact U2
    isplitl [U3]; · iexact U3
    isplitl [U4]; · iexact U4
    isplitl [U5]; · iexact U5
    iexact U6
  isplitl [C00]; · iexact C00
  isplitl [C01]; · iexact C01
  isplitl [C02]; · iexact C02
  isplitl [C03]; · iexact C03
  isplitl [C04]; · iexact C04
  isplitl [C05]; · iexact C05
  isplitl [C06]; · iexact C06
  isplitl [C10]; · iexact C10
  isplitl [C11]; · iexact C11
  isplitl [C12]; · iexact C12
  isplitl [C13]; · iexact C13
  isplitl [C14]; · iexact C14
  isplitl [C15]; · iexact C15
  iexact C16

/-! ## The four buffers of the exchange -/

/-- The body's scratch buffers, with whatever they hold. -/
def buffers : sProp 𝕄 :=
  iprop((∃ f, (slabsM false).view.loc (c : Thread nD τ) ↦{fullShare} f) ∗ (∃ f, (slabsM true).view.loc (c : Thread nD τ) ↦{fullShare} f)
    ∗ (∃ f, (slotsM false).view.loc (c : Thread nD τ) ↦{fullShare} f) ∗ (∃ f, (slotsM true).view.loc (c : Thread nD τ) ↦{fullShare} f))

/-- The call's scratch memory is those buffers. -/
theorem scoped_buffers :
    (Pipeline.scopedRest (Ix := Unit) (Name := ℕ) (U := UU) (Lvl := ℕ) (Val := Elt F) cfg0.spec c : sProp 𝕄) = buffers c := by
  unfold buffers; exact scopedRest0_eq c

/-- What a device holds before its body besides the staged blocks, and after it. -/
def before : sProp 𝕄 := iprop(outfit m c ∗ levels ∗ expected c)
/-- What a device holds as its body begins. -/
def holds₀ : sProp 𝕄 := iprop(before m c ∗ buffers c)
/-- What a device holds as its body ends. -/
def holds₁ : sProp 𝕄 :=
  iprop(buffers c ∗ semVal (barCell c) 0 ∗ Pipeline.ownSems0 (Ix := Unit) (Name := ℕ) (U := UU) (Lvl := ℕ) (Val := Elt F) (τ := τ) osem c)

/-- The pieces a device starts with, in the order its body takes them. -/
theorem gather :
    iprop(Owed c 0 ∗ (atPos ER (barCell c) 0 ∅ 0 ∗ (bigSep Finset.univ fun s : Fin 7 => places c s) ∗ bigSep Finset.univ fun s : Fin 7 => dealt c s)
        ∗ expected c ∗ buffers c ∗ written c (Memref.whole cc0_stg5_0) []
        ∗ owns (c : Thread nD τ) (Memref.whole cc0_stg0_0) fullShare (inX m c) ∗ owns (c : Thread nD τ) (Memref.whole cc0_stg1_0) fullShare (inWq m c)
        ∗ owns (c : Thread nD τ) (Memref.whole cc0_stg2_0) fullShare (inK m c) ∗ owns (c : Thread nD τ) (Memref.whole cc0_stg3_0) fullShare (inV m c)
        ∗ owns (c : Thread nD τ) (Memref.whole cc0_stg4_0) fullShare (inWo m c))
      ⊢ start m c := by
  have hfree (b : Bool) : iprop(∃ f, (slotsM b).view.loc (c : Thread nD τ) ↦{fullShare} f) ⊢ (written c (slotsM b) [] : sProp 𝕄) := by
    unfold written; exact .rfl
  have hslab (b : Bool) : iprop(∃ f, (slabsM b).view.loc (c : Thread nD τ) ↦{fullShare} f) ⊢ (written c (slabsM b) [] : sProp 𝕄) := by
    unfold written; exact .rfl
  rw [bigSep_seven, bigSep_seven]
  unfold places dealt expected buffers
  iintro ⟨HO, ⟨Hb, ⟨⟨Ps00, Pr00, Ps10, Pr10⟩, ⟨Ps01, Pr01, Ps11, Pr11⟩, ⟨Ps02, Pr02, Ps12, Pr12⟩, ⟨Ps03, Pr03, Ps13, Pr13⟩, ⟨Ps04, Pr04, Ps14, Pr14⟩, ⟨Ps05, Pr05, Ps15, Pr15⟩, ⟨Ps06, Pr06, Ps16, Pr16⟩⟩, ⟨⟨Tb0, Ts00, Tr00, Ts10, Tr10⟩, ⟨Tb1, Ts01, Tr01, Ts11, Tr11⟩, ⟨Tb2, Ts02, Tr02, Ts12, Tr12⟩, ⟨Tb3, Ts03, Tr03, Ts13, Tr13⟩, ⟨Tb4, Ts04, Tr04, Ts14, Tr14⟩, ⟨Tb5, Ts05, Tr05, Ts15, Tr15⟩, ⟨Tb6, Ts06, Tr06, Ts16, Tr16⟩⟩⟩, ⟨HcB, C00, C01, C02, C03, C04, C05, C06, C10, C11, C12, C13, C14, C15, C16⟩, ⟨M0, M1, W0, W1⟩, HWO, I0, I1, I2, I3, I4⟩
  ihave W0 := ((hfree false).trans (slots_apart c false)) $$ W0
  icases W0 with ⟨F00, F01, F02, F03, F04, F05, F06⟩
  ihave W1 := ((hfree true).trans (slots_apart c true)) $$ W1
  icases W1 with ⟨F10, F11, F12, F13, F14, F15, F16⟩
  ihave M0 := (hslab false) $$ M0
  ihave M1 := (hslab true) $$ M1
  unfold start sendKit recvKit
  isplitl [HO]; · iexact HO
  isplitl [Tb0]; · iexact Tb0
  isplitl [F00]; · iexact F00
  isplitl [Ts00 Tr00 Ps00]
  · isplitl [Ts00]; · iexact Ts00
    isplitl [Tr00]; · iexact Tr00
    iexact Ps00
  isplitl [Pr00 C00]
  · isplitl [Pr00]; · iexact Pr00
    iexact C00
  isplitl [F10]; · iexact F10
  isplitl [Ts10 Tr10 Ps10]
  · isplitl [Ts10]; · iexact Ts10
    isplitl [Tr10]; · iexact Tr10
    iexact Ps10
  isplitl [Pr10 C10]
  · isplitl [Pr10]; · iexact Pr10
    iexact C10
  isplitl [Tb1]; · iexact Tb1
  isplitl [F01]; · iexact F01
  isplitl [Ts01 Tr01 Ps01]
  · isplitl [Ts01]; · iexact Ts01
    isplitl [Tr01]; · iexact Tr01
    iexact Ps01
  isplitl [Pr01 C01]
  · isplitl [Pr01]; · iexact Pr01
    iexact C01
  isplitl [F11]; · iexact F11
  isplitl [Ts11 Tr11 Ps11]
  · isplitl [Ts11]; · iexact Ts11
    isplitl [Tr11]; · iexact Tr11
    iexact Ps11
  isplitl [Pr11 C11]
  · isplitl [Pr11]; · iexact Pr11
    iexact C11
  isplitl [Tb2]; · iexact Tb2
  isplitl [F02]; · iexact F02
  isplitl [Ts02 Tr02 Ps02]
  · isplitl [Ts02]; · iexact Ts02
    isplitl [Tr02]; · iexact Tr02
    iexact Ps02
  isplitl [Pr02 C02]
  · isplitl [Pr02]; · iexact Pr02
    iexact C02
  isplitl [F12]; · iexact F12
  isplitl [Ts12 Tr12 Ps12]
  · isplitl [Ts12]; · iexact Ts12
    isplitl [Tr12]; · iexact Tr12
    iexact Ps12
  isplitl [Pr12 C12]
  · isplitl [Pr12]; · iexact Pr12
    iexact C12
  isplitl [Tb3]; · iexact Tb3
  isplitl [F03]; · iexact F03
  isplitl [Ts03 Tr03 Ps03]
  · isplitl [Ts03]; · iexact Ts03
    isplitl [Tr03]; · iexact Tr03
    iexact Ps03
  isplitl [Pr03 C03]
  · isplitl [Pr03]; · iexact Pr03
    iexact C03
  isplitl [F13]; · iexact F13
  isplitl [Ts13 Tr13 Ps13]
  · isplitl [Ts13]; · iexact Ts13
    isplitl [Tr13]; · iexact Tr13
    iexact Ps13
  isplitl [Pr13 C13]
  · isplitl [Pr13]; · iexact Pr13
    iexact C13
  isplitl [Tb4]; · iexact Tb4
  isplitl [F04]; · iexact F04
  isplitl [Ts04 Tr04 Ps04]
  · isplitl [Ts04]; · iexact Ts04
    isplitl [Tr04]; · iexact Tr04
    iexact Ps04
  isplitl [Pr04 C04]
  · isplitl [Pr04]; · iexact Pr04
    iexact C04
  isplitl [F14]; · iexact F14
  isplitl [Ts14 Tr14 Ps14]
  · isplitl [Ts14]; · iexact Ts14
    isplitl [Tr14]; · iexact Tr14
    iexact Ps14
  isplitl [Pr14 C14]
  · isplitl [Pr14]; · iexact Pr14
    iexact C14
  isplitl [Tb5]; · iexact Tb5
  isplitl [F05]; · iexact F05
  isplitl [Ts05 Tr05 Ps05]
  · isplitl [Ts05]; · iexact Ts05
    isplitl [Tr05]; · iexact Tr05
    iexact Ps05
  isplitl [Pr05 C05]
  · isplitl [Pr05]; · iexact Pr05
    iexact C05
  isplitl [F15]; · iexact F15
  isplitl [Ts15 Tr15 Ps15]
  · isplitl [Ts15]; · iexact Ts15
    isplitl [Tr15]; · iexact Tr15
    iexact Ps15
  isplitl [Pr15 C15]
  · isplitl [Pr15]; · iexact Pr15
    iexact C15
  isplitl [Tb6]; · iexact Tb6
  isplitl [F06]; · iexact F06
  isplitl [Ts06 Tr06 Ps06]
  · isplitl [Ts06]; · iexact Ts06
    isplitl [Tr06]; · iexact Tr06
    iexact Ps06
  isplitl [Pr06 C06]
  · isplitl [Pr06]; · iexact Pr06
    iexact C06
  isplitl [F16]; · iexact F16
  isplitl [Ts16 Tr16 Ps16]
  · isplitl [Ts16]; · iexact Ts16
    isplitl [Tr16]; · iexact Tr16
    iexact Ps16
  isplitl [Pr16 C16]
  · isplitl [Pr16]; · iexact Pr16
    iexact C16
  isplitl [Hb]; · iexact Hb
  isplitl [HcB]; · iexact HcB
  isplitl [M0]; · iexact M0
  isplitl [M1]; · iexact M1
  isplitl [HWO]; · iexact HWO
  isplitl [I0]; · iexact I0
  isplitl [I1]; · iexact I1
  isplitl [I2]; · iexact I2
  isplitl [I3]; · iexact I3
  iexact I4

/-- After the body the lent shares are back, and the buffers are whole again. -/
theorem scatter :
    finish m c
      ⊢ iprop(holds₁ c ∗ Owed c 21 ∗ written c (Memref.whole cc0_stg5_0)
          (outPieces (k0_pay57 (k0_pay56 (slabAt m false 3 c) (inWo m c))) (k0_pay60 (k0_pay59 (slabAt m true 3 c)) (inWo m c)))
        ∗ owns (c : Thread nD τ) (Memref.whole cc0_stg0_0) fullShare (inX m c) ∗ owns (c : Thread nD τ) (Memref.whole cc0_stg1_0) fullShare (inWq m c)
        ∗ owns (c : Thread nD τ) (Memref.whole cc0_stg2_0) fullShare (inK m c) ∗ owns (c : Thread nD τ) (Memref.whole cc0_stg3_0) fullShare (inV m c)
        ∗ owns (c : Thread nD τ) (Memref.whole cc0_stg4_0) fullShare (inWo m c)) := by
  have hfree (b : Bool) (s : Fin 7) : arrived m b s c ⊢ (free b s c : sProp 𝕄) := by
    unfold arrived free; iintro H; iexists _; iexact H
  have hblank (b : Bool) (k : Fin 4) : owns (c : Thread nD τ) (slab b k) fullShare (slabAt m b k c) ⊢ (blank b k c : sProp 𝕄) := by
    unfold blank; iintro H; iexists _; iexact H
  unfold finish holds₁ buffers
  rw [ownSems0_eq]
  iintro ⟨HO, HWO, I0, I1, I2, I3, I4, Zb, K00, K01, K02, K03, K10, K11, K12, K13, A01, Zr01, A02, Zr02, A03, Zr03, A14, Zr14, A15, Zr15, A16, Zr16, A04, Zr04, A05, Zr05, A06, Zr06, A11, Zr11, A12, Zr12, A13, Zr13, A00, Zr00, A10, Zr10, L01, Zs01, L02, Zs02, L03, Zs03, L14, Zs14, L15, Zs15, L16, Zs16, L04, Zs04, L05, Zs05, L06, Zs06, L11, Zs11, L12, Zs12, L13, Zs13, L00, Zs00, L10, Zs10⟩
  ihave S00 := ((lend_a0 m c).2.trans (hblank false 0)) $$ [K00 L01 L02 L03]
  · isplitl [K00]; · iexact K00
    isplitl [L01]; · iexact L01
    isplitl [L02]; · iexact L02
    iexact L03
  ihave S01 := ((lend_a1 m c).2.trans (hblank false 1)) $$ [K01 L04 L05 L06]
  · isplitl [K01]; · iexact K01
    isplitl [L04]; · iexact L04
    isplitl [L05]; · iexact L05
    iexact L06
  ihave S02 := ((lend_a2 m c).2.trans (hblank false 2)) $$ [K02 L00]
  · isplitl [K02]; · iexact K02
    iexact L00
  ihave S03 := (hblank false 3) $$ K03
  ihave S10 := ((lend_b0 m c).2.trans (hblank true 0)) $$ [K10 L14 L15 L16]
  · isplitl [K10]; · iexact K10
    isplitl [L14]; · iexact L14
    isplitl [L15]; · iexact L15
    iexact L16
  ihave S11 := ((lend_b1 m c).2.trans (hblank true 1)) $$ [K11 L11 L12 L13]
  · isplitl [K11]; · iexact K11
    isplitl [L11]; · iexact L11
    isplitl [L12]; · iexact L12
    iexact L13
  ihave S12 := ((lend_b2 m c).2.trans (hblank true 2)) $$ [K12 L10]
  · isplitl [K12]; · iexact K12
    iexact L10
  ihave S13 := (hblank true 3) $$ K13
  isplitl [S00 S01 S02 S03 S10 S11 S12 S13 A00 A01 A02 A03 A04 A05 A06 A10 A11 A12 A13 A14 A15 A16 Zb Zs00 Zs01 Zs02 Zs03 Zs04 Zs05 Zs06 Zr00 Zr01 Zr02 Zr03 Zr04 Zr05 Zr06 Zs10 Zs11 Zs12 Zs13 Zs14 Zs15 Zs16 Zr10 Zr11 Zr12 Zr13 Zr14 Zr15 Zr16]
  · isplitl [S00 S01 S02 S03 S10 S11 S12 S13 A00 A01 A02 A03 A04 A05 A06 A10 A11 A12 A13 A14 A15 A16]
    · isplitl [S00 S01 S02 S03]
      · iapply (slabs_together c false)
        isplitl [S00]; · iexact S00
        isplitl [S01]; · iexact S01
        isplitl [S02]; · iexact S02
        iexact S03
      isplitl [S10 S11 S12 S13]
      · iapply (slabs_together c true)
        isplitl [S10]; · iexact S10
        isplitl [S11]; · iexact S11
        isplitl [S12]; · iexact S12
        iexact S13
      isplitl [A00 A01 A02 A03 A04 A05 A06]
      · iapply (slots_together c false)
        isplitl [A00]; · iapply (hfree false 0); iexact A00
        isplitl [A01]; · iapply (hfree false 1); iexact A01
        isplitl [A02]; · iapply (hfree false 2); iexact A02
        isplitl [A03]; · iapply (hfree false 3); iexact A03
        isplitl [A04]; · iapply (hfree false 4); iexact A04
        isplitl [A05]; · iapply (hfree false 5); iexact A05
        iapply (hfree false 6); iexact A06
      iapply (slots_together c true)
      isplitl [A10]; · iapply (hfree true 0); iexact A10
      isplitl [A11]; · iapply (hfree true 1); iexact A11
      isplitl [A12]; · iapply (hfree true 2); iexact A12
      isplitl [A13]; · iapply (hfree true 3); iexact A13
      isplitl [A14]; · iapply (hfree true 4); iexact A14
      isplitl [A15]; · iapply (hfree true 5); iexact A15
      iapply (hfree true 6); iexact A16
    isplitl [Zb]; · iexact Zb
    isplitl [Zs00]; · iexact Zs00
    isplitl [Zs01]; · iexact Zs01
    isplitl [Zs02]; · iexact Zs02
    isplitl [Zs03]; · iexact Zs03
    isplitl [Zs04]; · iexact Zs04
    isplitl [Zs05]; · iexact Zs05
    isplitl [Zs06]; · iexact Zs06
    isplitl [Zr00]; · iexact Zr00
    isplitl [Zr01]; · iexact Zr01
    isplitl [Zr02]; · iexact Zr02
    isplitl [Zr03]; · iexact Zr03
    isplitl [Zr04]; · iexact Zr04
    isplitl [Zr05]; · iexact Zr05
    isplitl [Zr06]; · iexact Zr06
    isplitl [Zs10]; · iexact Zs10
    isplitl [Zs11]; · iexact Zs11
    isplitl [Zs12]; · iexact Zs12
    isplitl [Zs13]; · iexact Zs13
    isplitl [Zs14]; · iexact Zs14
    isplitl [Zs15]; · iexact Zs15
    isplitl [Zs16]; · iexact Zs16
    isplitl [Zr10]; · iexact Zr10
    isplitl [Zr11]; · iexact Zr11
    isplitl [Zr12]; · iexact Zr12
    isplitl [Zr13]; · iexact Zr13
    isplitl [Zr14]; · iexact Zr14
    isplitl [Zr15]; · iexact Zr15
    iexact Zr16
  isplitl [HO]; · iexact HO
  isplitl [HWO]; · iexact HWO
  isplitl [I0]; · iexact I0
  isplitl [I1]; · iexact I1
  isplitl [I2]; · iexact I2
  isplitl [I3]; · iexact I3
  iexact I4

end Cert.Attn

end
-- ==== Proof.Launch.lean ====
/-
# The run of the kernel

From any memory with all counters at zero, every run on the 32 devices ends, with all counters at zero, the arguments as
they were and each device's result array holding `outAt` of the arguments.
-/
module

public import proofs.«01_k».proof.Proof.Gather
public import proofs.«01_k».proof.Proof.Gen.KernelIdeal.Points
public import Idealize.ShloMosaic.Lib.Pipeline.CollectiveSegs

@[expose] public section

noncomputable section

namespace Cert.Attn

open Cert.KernelIdeal Cert.KernelIdeal.Gen
open Idealize.ShloMosaic
open Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The launch's one grid point, on device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inWq m c
    | ⟨2, _⟩ => inK m c
    | ⟨3, _⟩ => inV m c
    | ⟨4, _⟩ => inWo m c
    | ⟨5, _⟩ => outAt m c
  Φ t := match t with
    | ⟨0, _⟩ => holds₀ m c
    | ⟨_ + 1, _⟩ => holds₁ c
  q _ := fullShare
  owed t := match t with
    | ⟨0, _⟩ => tal (dues c)
    | ⟨_ + 1, _⟩ => 0

/-- Each of the five arguments is fetched. -/
theorem fetch_in : ∀ w : Fin 6, w.val < 5 → (cfg0.win w).fetch t0_0 = true := by decide

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- To own a whole staging buffer is to hold its contents. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body is given and what it leaves. -/
def given (c : Dev nD) : sProp 𝕄 :=
  iprop(holds₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
/-- What the body leaves behind. -/
def leaves (c : Dev nD) : sProp 𝕄 :=
  iprop(holds₁ c ∗ (dats m ρ 0 c).owesAt () t0_0.succ
    ∗ stg c cc0_stg0_0 (inX m c) ∗ stg c cc0_stg1_0 (inWq m c) ∗ stg c cc0_stg2_0 (inK m c) ∗ stg c cc0_stg3_0 (inV m c)
    ∗ stg c cc0_stg4_0 (inWo m c) ∗ stg c cc0_stg5_0 (outAt m c))

section Before

variable (c : Dev nD)

/-- The first argument's block is the queries' input. -/
theorem before_0 (d) : (dats m ρ 0 c).before (0 : Fin 6) t0_0 d = inX m c := by unfold Dat.before; rw [if_pos (fetch_in 0 (by decide))]; rfl
/-- The second argument's block is the query weights. -/
theorem before_1 (d) : (dats m ρ 0 c).before (1 : Fin 6) t0_0 d = inWq m c := by unfold Dat.before; rw [if_pos (fetch_in 1 (by decide))]; rfl
/-- The third argument's block is the keys. -/
theorem before_2 (d) : (dats m ρ 0 c).before (2 : Fin 6) t0_0 d = inK m c := by unfold Dat.before; rw [if_pos (fetch_in 2 (by decide))]; rfl
/-- The fourth argument's block is the values. -/
theorem before_3 (d) : (dats m ρ 0 c).before (3 : Fin 6) t0_0 d = inV m c := by unfold Dat.before; rw [if_pos (fetch_in 3 (by decide))]; rfl
/-- The fifth argument's block is the output weights. -/
theorem before_4 (d) : (dats m ρ 0 c).before (4 : Fin 6) t0_0 d = inWo m c := by unfold Dat.before; rw [if_pos (fetch_in 4 (by decide))]; rfl

/-- At the start a device owes all its duties. -/
theorem begin_owing : (dats m ρ 0 c).owesAt () t0_0.castSucc ⊢ (Owed c 0 : sProp 𝕄) := by
  unfold Dat.owesAt Pipeline.owesWithin Owed
  iintro ⟨%W, %hW, H⟩
  iexists W; iexact H
/-- At the end a device owes nothing. -/
theorem end_owing : (Owed c 21 : sProp 𝕄) ⊢ (dats m ρ 0 c).owesAt () t0_0.succ := by
  unfold Dat.owesAt Pipeline.owesWithin Owed
  rw [show (dats m ρ 0 c).owed t0_0.succ = 0 from rfl, show tal (left c 21) = 0 from rfl]
  iintro ⟨%W, H⟩
  iexists W
  isplitr; · ipureintro; exact fun _ _ => Or.inl trivial
  iexact H

/-- The two stored blocks make the result, whatever was there. -/
theorem result_read (f : cc0_stg5_0.ty.Contents (Elt F)) :
    (Memref.whole cc0_stg5_0 : Memref sig .tc .vmem S2x128x512 .f32).view.writes (Elt F) f
      (outPieces (k0_pay57 (k0_pay56 (slabAt m false 3 c) (inWo m c))) (k0_pay60 (k0_pay59 (slabAt m true 3 c)) (inWo m c))) = outAt m c := by
  have h := read_out (Memref.whole cc0_stg5_0 : Memref sig .tc .vmem S2x128x512 .f32).view f (slabAt m false 3 c) (slabAt m true 3 c) (inWo m c)
  generalize (Memref.whole cc0_stg5_0 : Memref sig .tc .vmem S2x128x512 .f32).view.writes (Elt F) f _ = g at h ⊢
  simp only [Memref.view_whole, View.read_whole] at h
  exact h

/-- The two stores of the results make the whole result block. -/
theorem result_block : (written c (Memref.whole cc0_stg5_0)
      (outPieces (k0_pay57 (k0_pay56 (slabAt m false 3 c) (inWo m c))) (k0_pay60 (k0_pay59 (slabAt m true 3 c)) (inWo m c))) : sProp 𝕄)
    ⊢ stg c cc0_stg5_0 (outAt m c) := by
  unfold written
  refine exists_elim fun f => ?_
  have e := result_read m c f
  generalize outAt m c = X at e ⊢
  generalize (Memref.whole cc0_stg5_0 : Memref sig .tc .vmem S2x128x512 .f32).view.writes (Elt F) f _ = g at e ⊢
  iintro H
  iexists g
  isplitr; · ipureintro; exact e
  iexact H

/-- A block with any contents may be written anew. -/
theorem some_block (X : cc0_stg5_0.ty.Contents (Elt F)) : stg c cc0_stg5_0 X ⊢ (written c (Memref.whole cc0_stg5_0) [] : sProp 𝕄) := by
  unfold written
  iintro ⟨%f, -, H⟩
  iexists f; iexact H

end Before

/-- What the call gives is what the body starts with. -/
theorem from_given (c : Dev nD) : given m ρ c ⊢ iprop(∃ K, records m K ∗ start m c) := by
  unfold given holds₀ before outfit
  iintro ⟨⟨⟨⟨⟨%K, #HI, #HR⟩, Hpl⟩, #HL, Hex⟩, Hbuf⟩, Ho, ⟨%d0, H0⟩, ⟨%d1, H1⟩, ⟨%d2, H2⟩, ⟨%d3, H3⟩, ⟨%d4, H4⟩, ⟨%d5, H5⟩⟩
  rw [before_0, before_1, before_2, before_3, before_4]
  iexists K
  isplitr
  · unfold records
    isplitr; · iexact HI
    isplitr; · iexact HR
    iexact HL
  iapply (gather m c)
  isplitl [Ho]; · iapply (begin_owing m ρ c); iexact Ho
  isplitl [Hpl]; · iexact Hpl
  isplitl [Hex]; · iexact Hex
  isplitl [Hbuf]; · iexact Hbuf
  isplitl [H5]; · iapply (some_block c _); iexact H5
  simp only [owns_stg]
  isplitl [H0]; · iexact H0
  isplitl [H1]; · iexact H1
  isplitl [H2]; · iexact H2
  isplitl [H3]; · iexact H3
  iexact H4

/-- What the body finishes with is what the call wants back. -/
theorem to_leaves (c : Dev nD) : finish m c ⊢ leaves m ρ c := by
  refine (scatter m c).trans ?_
  unfold leaves
  simp only [owns_stg]
  iintro ⟨Hh, Ho, Hw, H0, H1, H2, H3, H4⟩
  isplitl [Hh]; · iexact Hh
  isplitl [Ho]; · iapply (end_owing m ρ c); iexact Ho
  isplitl [H0]; · iexact H0
  isplitl [H1]; · iexact H1
  isplitl [H2]; · iexact H2
  isplitl [H3]; · iexact H3
  isplitl [H4]; · iexact H4
  iapply (result_block m c); iexact Hw

set_option maxRecDepth 4000 in
/-- The table's entry for the call is the body. -/
theorem body_row : defs₀ (F := F) Proc.tc 0 (t0_0, cfg0.slots t0_0) = bodyAt0 t0_0 := rfl

set_option maxRecDepth 4000 in
/-- The body runs on the whole staging buffers. -/
theorem body_bufs : bodyAt0 (F := F) t0_0 = cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 := rfl

set_option maxRecDepth 8000 in
/-- The body meets the call's contract. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show given m ρ c ⊢ wp frame (wpE (defs₀ (F := F)) 𝒱₀ (c : Thread nD τ) none) Set.univ
    (defs₀ (F := F) Proc.tc 0 (t0_0, cfg0.slots t0_0)) (fun _ => leaves m ρ c)
  rw [body_row, body_bufs]
  refine (from_given m ρ c).trans (exists_elim fun K => ?_)
  iintro H
  iapply (run_body m K c (Q := fun _ => leaves m ρ c)) $$ H
  iintro Hf
  iapply (to_leaves m ρ c); iexact Hf

/-! ## The launch's side conditions -/

/-- Each block is held whole. -/
theorem share_eq (c : Dev nD) (w : Fin cfg0.W) : (dats m ρ 0 c).share w = fullShare := by unfold Dat.share; split <;> rfl

/-- From the launch's shares a device gets what it holds at the start. -/
theorem start_intro (c : Dev nD) :
    iprop(Pipeline.unscopedRestP Pipeline.Prefetch.none cfg0.spec c (fun b => m ((c : Thread nD τ).loc b)) ∗ levAts L lv
        ∗ Pipeline.launchCred (fun d => tal (dues d)) c ∗ prngReg c (ρ c) ∗ outfit m c)
      ⊢ |={Set.univ}=> iprop(before m c ∗ emp) := by
  have hl : (levAts L lv : sProp 𝕄) ⊢ levels := by unfold levels; exact .rfl
  iintro ⟨-, Hlev, Hcr, -, HG⟩
  ihave Hc := (expected_intro (F := F) c) $$ Hcr
  ihave Hl := hl $$ Hlev
  imodintro
  unfold before
  isplitl
  · isplitl [HG]; · iexact HG
    isplitl [Hl]; · iexact Hl
    iexact Hc
  · iempintro

/-- Entering the call. -/
theorem enter (c : Dev nD) :
    iprop(before m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = holds₀ m c from rfl, scoped_buffers]
  unfold holds₀
  iintro ⟨Hs, -, Hr⟩
  isplitl [Hs] <;> iassumption

/-- Leaving the call: every semaphore is back and the scratch memory too. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = holds₁ c from rfl, scoped_buffers, unscopedSems0_eq]
  unfold holds₁
  iintro ⟨Hr, Hb, Hz⟩
  isplitl [Hb]; · iexact Hb
  isplitl [Hz] <;> iassumption

/-- The staging semaphores are below everything owed. -/
theorem stage_low : ∀ (w : Fin 6) (s : Fin (cfg0.win w).nbuf), lvS (.dma ((cfg0.win w).sem s)) = 0 := by decide

/-- The call's own waits are allowed. -/
theorem waits (c : Dev nD) : (levAts L lv : sProp 𝕄) ⊢ Pipeline.cellsWaits cfgs (dats m ρ) () 0 c := by
  have hl : (levAts L lv : sProp 𝕄) ⊢ levels := by unfold levels; exact .rfl
  refine Pipeline.cellsWaits_intro cfgs (dats m ρ) () 0 c fun w s t => hl.trans ?_
  rcases t with ⟨_ | _, ht⟩
  · exact may_wait c _ (dues c) (by rw [stage_low w s]; exact above_0 c)
  · exact may_wait c _ [] (above_nil _)

/-! ## The run -/

/-- An array's contents after the call. -/
def finalA (c : Dev nD) (w : Fin cfg0.W) : Buf (Elt F) ((cfg0.win w).arr.view.loc (c : Thread nD τ)) := (dats m ρ 0 c).arrAt w cfg0.N

/-- Every window's array at its final contents. -/
def Ended : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run of the program ends, with each array's contents as named and every counter at zero. -/
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => tal (dues d)) (howed₀ := fun _ => rfl) (howedN := fun _ => rfl)
    (L := L) (lv := lv) (hL := L_of_ne) (hwaits := waits m ρ)
    (G := seed m) (G' := outfit m) (u₀ := u₀)
    (hu₀ := by
      unfold u₀
      iintro Hu
      ihave H := (ownU_pair _ _) $$ Hu
      icases H with ⟨HP, HX⟩
      imod (fund_plan m) $$ HX with HG
      imodintro
      isplitl [HP] <;> iassumption)
    (hglob := glob m)
    (hA := fun _ _ => rfl) (hpf := fun _ k => k.elim0)
    (X := before m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attn

end
-- ==== Proof.SameText.lean ====
/-
# The bit-level program and the idealized one are one text

The two printed programs name the same operations in the same order, so over the same float values they are equal.
-/
module

public import proofs.«01_k».proof.Proof.Gen.Kernel
public import proofs.«01_k».proof.Proof.Gen.KernelIdeal
public import Idealize.ShloMosaic.PureOps.BitExact

@[expose] public section

noncomputable section

namespace Cert.Attn

open Idealize.ShloMosaic Idealize.SL.Sem

set_option maxRecDepth 20000

/-- The kernel's body under its one label. -/
theorem body_same : Cert.Kernel.defs₀ (F := Bits) = Cert.KernelIdeal.defs₀ (F := Bits) := by
  unfold Cert.Kernel.defs₀ Cert.KernelIdeal.defs₀
  congr 1
  funext l x
  obtain ⟨l, hl⟩ := l
  obtain rfl : l = 0 := by omega
  obtain ⟨t, s⟩ := x
  rfl

/-- The body table with the call's region. -/
theorem table_same : Cert.Kernel.defs (F := Bits) = Cert.KernelIdeal.defs (F := Bits) := by
  unfold Cert.Kernel.defs Cert.KernelIdeal.defs
  exact congrArg _ body_same

end Cert.Attn

end
-- ==== Proof.Arrays.lean ====
/-
The launch's arrays: each window is its whole array, so what the kernel reads is the argument and what it leaves
in its staging buffer is the result.
-/
module
public import proofs.«01_k».proof.Proof.Launch
public import Idealize.ShloMosaic.Lib.Pipeline.Value

@[expose] public section

noncomputable section

namespace Cert.Attn

open Cert.KernelIdeal Cert.KernelIdeal.Gen
open Idealize.ShloMosaic Idealize.ShloMosaic.TcCoe Idealize.ShloMosaic.Pipeline

variable {F : FTy → Type} [FloatOps F] (m : (ℓ : Loc nD τ sig) → Buf (Elt F) ℓ) (ρ : Dev nD → PrngReg) (c : Dev nD)

/-- Reading a window's block reads its whole array. -/
theorem inX_eq : inX m c = m ((c : Thread nD τ).loc main_arg0) := by
  funext i
  refine congrArg (m ((c : Thread nD τ).loc main_arg0)) (funext fun a => Fin.ext ?_)
  show 0 * _ + 1 * (i a).val = (i a).val
  omega
/-- The query weights' block is the whole array. -/
theorem inWq_eq : inWq m c = m ((c : Thread nD τ).loc main_arg1) := by
  funext i
  refine congrArg (m ((c : Thread nD τ).loc main_arg1)) (funext fun a => Fin.ext ?_)
  show 0 * _ + 1 * (i a).val = (i a).val
  omega
/-- The keys' block is the device's whole part. -/
theorem inK_eq : inK m c = m ((c : Thread nD τ).loc main_arg2) := by
  funext i
  refine congrArg (m ((c : Thread nD τ).loc main_arg2)) (funext fun a => Fin.ext ?_)
  show 0 * _ + 1 * (i a).val = (i a).val
  omega
/-- The values' block is the device's whole part. -/
theorem inV_eq : inV m c = m ((c : Thread nD τ).loc main_arg3) := by
  funext i
  refine congrArg (m ((c : Thread nD τ).loc main_arg3)) (funext fun a => Fin.ext ?_)
  show 0 * _ + 1 * (i a).val = (i a).val
  omega
/-- The output weights' block is the whole array. -/
theorem inWo_eq : inWo m c = m ((c : Thread nD τ).loc main_arg4) := by
  funext i
  refine congrArg (m ((c : Thread nD τ).loc main_arg4)) (funext fun a => Fin.ext ?_)
  show 0 * _ + 1 * (i a).val = (i a).val
  omega

/-- The result's block is all of it: an index of the array is the block's own. -/
theorem result_emb (i : S2x128x512.Idx) : (win0_5.blk (0 : Fin 1)).view.emb i = i := by
  funext a
  refine Fin.ext ?_
  show 0 * _ + 1 * (i a).val = (i a).val
  omega

/-- The result array ends holding what the body left in the result's staging buffer. -/
theorem final_result : finalA m ρ c 5 = outAt m c := by
  refine (dats m ρ 0 c).arrAt_eq_of_cover 5 (outAt m c) (fun t _ => ?_) fun i => ⟨t0_0, flush0_5 _, ?_⟩
  · obtain rfl := fin_N0 t
    funext i
    exact (congrArg (outAt m c) (result_emb i)).symm
  · exact Finset.mem_map.mpr ⟨i, Finset.mem_univ _, result_emb i⟩

end Cert.Attn

end
-- ==== Proof.Terms.lean ====
/-
The mathematics of the problem, element by element over the extended reals: the query and key columns of a
head, which keys a query row may read, the score of a query row against a key, and the weight it gives.
-/
module
public import proofs.«01_k».proof.Proof.Contents
public import Idealize.ShloMosaic.Lib.Pointwise
public import Idealize.ShloMosaic.PureOps.Ideal

@[expose] public section

noncomputable section

namespace Cert.AttnValue

open Idealize.ShloMosaic Idealize.ShloMosaic.TcCoe

/-- Column `d` of head `h` among the 256 columns. -/
def col (h : Fin 4) (d : Fin 64) : Fin 256 := ⟨64 * h.val + d.val, by omega⟩

/-- Head zero's columns. -/
theorem col_zero (d : Fin 64) : col 0 d = ⟨d.val, by omega⟩ := Fin.ext (by simp [col])
/-- Head one's columns. -/
theorem col_one (d : Fin 64) : col 1 d = ⟨64 + d.val, by omega⟩ := Fin.ext (by simp [col])
/-- Head two's columns. -/
theorem col_two (d : Fin 64) : col 2 d = ⟨128 + d.val, by omega⟩ := Fin.ext (by simp [col])
/-- Head three's columns. -/
theorem col_three (d : Fin 64) : col 3 d = ⟨192 + d.val, by omega⟩ := Fin.ext (by simp [col])

/-- Key `j` of device `c` among all 4096 keys. -/
def key (c : Fin 32) (j : Fin 128) : Fin 4096 := ⟨128 * c.val + j.val, by omega⟩

/-- Query row `i` reads key `j`: their blocks of 64 are the same, or the key's is the first, or the two
    blocks' numbers sum to a multiple of three. -/
def meets (i j : ℕ) : Prop := i / 64 = j / 64 ∨ j / 64 = 0 ∨ (i / 64 + j / 64) % 3 = 0

instance (i j : ℕ) : Decidable (meets i j) := by unfold meets; infer_instance

section

variable {n : ℕ} (x : (⟨3, ![2, 128, 512]⟩ : Shape).Idx → EReal) (wq : (⟨2, ![512, 256]⟩ : Shape).Idx → EReal)
  (kk : (⟨4, ![2, n, 4, 64]⟩ : Shape).Idx → EReal)

/-- The query of batch `b`, row `i`, at a column. -/
def query (b : Fin 2) (i : Fin 128) (k : Fin 256) : EReal := ∑ t : Fin 512, x (ix3 b i t) * wq (ix2 t k)

/-- The score of query row `i` against key `j` in head `h` of batch `b`: an eighth of the inner product. -/
def score (b : Fin 2) (h : Fin 4) (i : Fin 128) (j : Fin n) : EReal :=
  (∑ d : Fin 64, query x wq b i (col h d) * kk (ix4 b j h d)) * ((1 / 8 : ℝ) : EReal)

/-- The weight before it is normalised, for the key whose number among all of them is `p`. -/
def weight (p : Fin n → ℕ) (b : Fin 2) (h : Fin 4) (i : Fin 128) (j : Fin n) : EReal :=
  if meets i.val (p j) then Ideal.exp (score x wq kk b h i j) else 0

end

/-- The scale's word is one eighth. -/
theorem eighth : Ideal.ofBits .f32 0x3E000000#32 = ((1 / 8 : ℝ) : EReal) := by
  simp [Ideal.ofBits, Ideal.ieee, -EReal.coe_mul]; norm_num

/-- The library's index of three coordinates is the one `Contents` writes. -/
theorem ix3_eq {d0 d1 d2 : ℕ} (a : Fin d0) (b : Fin d1) (c : Fin d2) :
    Attn.ix3 (d := ![d0, d1, d2]) a b c = ix3 a b c := by
  funext t
  match t with
  | 0 => rfl
  | 1 => rfl
  | 2 => rfl

end Cert.AttnValue

end
-- ==== Proof.Mask.lean ====
/-
Which keys a query row may read, as the kernel computes it from the row, the device and the device's own key.
-/
module
public import proofs.«01_k».proof.Proof.Terms

@[expose] public section

noncomputable section

namespace Cert.AttnValue

open Cert.KernelIdeal Cert.KernelIdeal.Gen
open Idealize.ShloMosaic Idealize.ShloMosaic.TcCoe

/-- A row or a key, divided by 64 as the kernel divides: the quotient toward zero, one less where the signs
    differ and there is a remainder. -/
def blockOf (u : BitVec 32) : BitVec 32 :=
  Scalar.select
    (IntOp.andi
      (IntOp.cmpi .ne (IntOp.subi (BitVec.setWidth 32 (IntOp.cmpi .sgt u 0#32)) (BitVec.setWidth 32 (IntOp.cmpi .slt u 0#32)))
        (Scalar.subi (Scalar.extui (Scalar.cmpi .sgt 64#32 0#32)) (Scalar.extui (Scalar.cmpi .slt 64#32 0#32))))
      (IntOp.cmpi .ne (IntOp.remsi .vector u 64#32) 0#32))
    (IntOp.subi (IntOp.divsi .vector u 64#32) 1#32)
    (IntOp.divsi .vector u 64#32)

/-- A row's block number, for the 128 rows. -/
theorem blockOf_row : ∀ i : Fin 128, blockOf (BitVec.ofNat 32 i.val) = BitVec.ofNat 32 (i.val / 64) := by decide +kernel

/-- The first key block of device `c`. -/
theorem devWord_eq : ∀ c : Dev nD, Scalar.muli (Attn.devWord c) 2#32 = BitVec.ofNat 32 (2 * c.val) := by decide +kernel

/-- Whether blocks `u` and `v` meet, in the kernel's arithmetic. -/
def meetWord (u v : BitVec 32) : BitVec 1 :=
  let three : BitVec 32 := Scalar.select (Scalar.cmpi .eq 3#32 0#32) 1#32 3#32
  IntOp.ori (IntOp.ori (IntOp.cmpi .eq u v) (IntOp.cmpi .eq v 0#32))
    (IntOp.cmpi .eq
      (Scalar.select
        (IntOp.andi
          (IntOp.xori (IntOp.cmpi .slt (IntOp.remsi .vector (IntOp.addi u v) three) 0#32) (Scalar.cmpi .slt three 0#32))
          (IntOp.cmpi .ne (IntOp.remsi .vector (IntOp.addi u v) three) 0#32))
        (IntOp.addi (IntOp.remsi .vector (IntOp.addi u v) three) three)
        (IntOp.remsi .vector (IntOp.addi u v) three))
      0#32)

/-- The kernel's test, on the block numbers that occur: they are equal, or the second is 0, or their sum is a multiple of 3. -/
theorem meetWord_eq : ∀ (u : Fin 2) (v : Fin 64), meetWord (BitVec.ofNat 32 u.val) (BitVec.ofNat 32 v.val)
    = if u.val = v.val ∨ v.val = 0 ∨ (u.val + v.val) % 3 = 0 then 1#1 else 0#1 := by decide +kernel

/-- The kernel's mask at a row and a key is its test of their block numbers. -/
theorem maskOf_word (c : Dev nD) (i j : Fin 128) :
    Attn.maskOf c (ix2 i j) = meetWord (blockOf (BitVec.ofNat 32 i.val))
      (IntOp.addi (Scalar.muli (Attn.devWord c) 2#32) (blockOf (BitVec.ofNat 32 j.val))) := by
  simp only [meetWord, blockOf]
  pointwise [Attn.maskOf, k0_pay9, k0_pay4, k0_pay5, k0_pay6, k0_pay7, k0_pay8]

/-- The kernel's mask is set exactly where the query row meets the key. -/
theorem maskOf_eq (c : Dev nD) (i j : Fin 128) :
    Attn.maskOf c (ix2 i j) = if meets i.val (key c j).val then 1#1 else 0#1 := by
  have hk : (key c j).val / 64 = 2 * c.val + j.val / 64 := by simp only [key]; omega
  have hadd : IntOp.addi (BitVec.ofNat 32 (2 * c.val)) (BitVec.ofNat 32 (j.val / 64)) = BitVec.ofNat 32 (2 * c.val + j.val / 64) :=
    (BitVec.ofNat_add ..).symm
  rw [maskOf_word, blockOf_row, blockOf_row, devWord_eq, hadd]
  have hc : c.val < 32 := c.isLt
  have := meetWord_eq ⟨i.val / 64, by omega⟩ ⟨2 * c.val + j.val / 64, by omega⟩
  simp only at this
  rw [this]
  simp only [meets, hk]

end Cert.AttnValue

end
-- ==== Proof.Weights.lean ====
/-
What each of a device's payloads holds at an index: the queries, the keys and the values cut into heads, the
weights, the weighted sums of the values and the sums of the weights.
-/
module
public import proofs.«01_k».proof.Proof.Terms

@[expose] public section

noncomputable section

namespace Cert.AttnValue

open Cert.KernelIdeal Cert.KernelIdeal.Gen
open Idealize.ShloMosaic Idealize.ShloMosaic.TcCoe

variable (msk : IVec S128x128 1) (q : FVec Ideal S256x256 .f32) (k v : FVec Ideal S2x128x256 .f32)

/-- Row `i` of batch `b` among the 256 rows of the two batches. -/
def row (b : Fin 2) (i : Fin 128) : Fin 256 := ⟨128 * b.val + i.val, by omega⟩

/-- The first batch's rows of the queries. -/
theorem row_zero (i : Fin 128) : row 0 i = ⟨i.val, by omega⟩ := Fin.ext (by simp [row])
/-- The second batch's rows of the queries. -/
theorem row_one (i : Fin 128) : row 1 i = ⟨128 + i.val, by omega⟩ := Fin.ext (by simp [row])

/-- A weight from a row of queries and a row of keys, where the mask allows. -/
def rawWeight (b : Fin 2) (h : Fin 4) (i j : Fin 128) : EReal :=
  Scalar.select (msk (ix2 i j))
    (Ideal.exp ((∑ d : Fin 64, q (ix2 (row b i) (col h d)) * k (ix3 b j (col h d))) * Ideal.ofBits .f32 1040187392#32)) 0

/-- The weighted sum of the values in a column. -/
def rawNum (b : Fin 2) (h : Fin 4) (i : Fin 128) (d : Fin 64) : EReal :=
  ∑ j : Fin 128, rawWeight msk q k b h i j * v (ix3 b j (col h d))

/-- The sum of the weights. -/
def rawDen (b : Fin 2) (h : Fin 4) (i : Fin 128) : EReal := ∑ j : Fin 128, rawWeight msk q k b h i j

/-! ## The first batch, head by head -/

section

variable (a : IVec S128x128 32) (w : BitVec 32) (b : IVec S128x128 32) (e : IVec S128x128 1) (f g : IVec S128x128 32)

/-- First batch, head 0: the stored values are the weighted sums. -/
theorem numA0 (i : Fin 128) (d : Fin 64) :
    k0_pay16 (k0_pay13 q k a w b e f g) (k0_pay15 v) (constant S128x64 .f32 0x00000000#32) (ix3 0 i d)
      = rawNum (k0_pay9 a w b e f g) q k v 0 0 i d := by
  simp only [rawNum, rawWeight, col_zero, row_zero]
  pointwise [k0_pay16, k0_pay13, k0_pay15, k0_pay10, k0_pay11, k0_pay12]
/-- First batch, head 0: the stored weights are the weight sums. -/
theorem denA0 (i : Fin 128) :
    k0_pay17 (k0_pay14 q k a w b e f g) (ix3 0 i 0) = rawDen (k0_pay9 a w b e f g) q k 0 0 i := by
  simp only [rawDen, rawWeight, col_zero, row_zero]
  pointwise [k0_pay17, k0_pay14, k0_pay13, k0_pay10, k0_pay11]

end

/-- First batch, head 1: the stored values are the weighted sums. -/
theorem numA1 (i : Fin 128) (d : Fin 64) :
    k0_pay19 msk (k0_pay10 q) (k0_pay11 k) (k0_pay12 v) (ix3 0 i d) = rawNum msk q k v 0 1 i d := by
  simp only [rawNum, rawWeight, col_one, row_zero]
  pointwise [k0_pay19, k0_pay18, k0_pay10, k0_pay11, k0_pay12]
/-- First batch, head 1: the stored weights are the weight sums. -/
theorem denA1 (i : Fin 128) : k0_pay20 msk (k0_pay10 q) (k0_pay11 k) (ix3 0 i 0) = rawDen msk q k 0 1 i := by
  simp only [rawDen, rawWeight, col_one, row_zero]
  pointwise [k0_pay20, k0_pay18, k0_pay10, k0_pay11]
/-- First batch, head 2: the stored values are the weighted sums. -/
theorem numA2 (i : Fin 128) (d : Fin 64) :
    k0_pay23 msk (k0_pay12 v) (k0_pay21 (k0_pay10 q) (k0_pay11 k)) (Scalar.ofBits .f32 0#32) (ix3 0 i d)
      = rawNum msk q k v 0 2 i d := by
  simp only [rawNum, rawWeight, col_two, row_zero]
  pointwise [k0_pay23, k0_pay22, k0_pay21, k0_pay10, k0_pay11, k0_pay12]
/-- First batch, head 2: the stored weights are the weight sums. -/
theorem denA2 (i : Fin 128) :
    k0_pay24 msk (k0_pay21 (k0_pay10 q) (k0_pay11 k)) (Scalar.ofBits .f32 0#32) (ix3 0 i 0) = rawDen msk q k 0 2 i := by
  simp only [rawDen, rawWeight, col_two, row_zero]
  pointwise [k0_pay24, k0_pay22, k0_pay21, k0_pay10, k0_pay11]
/-- First batch, head 3: the stored values are the weighted sums. -/
theorem numA3 (i : Fin 128) (d : Fin 64) :
    k0_pay26 msk (k0_pay10 q) (k0_pay11 k) (k0_pay12 v) (ix3 0 i d) = rawNum msk q k v 0 3 i d := by
  simp only [rawNum, rawWeight, col_three, row_zero]
  pointwise [k0_pay26, k0_pay25, k0_pay10, k0_pay11, k0_pay12]
/-- First batch, head 3: the stored weights are the weight sums. -/
theorem denA3 (i : Fin 128) : k0_pay27 msk (k0_pay10 q) (k0_pay11 k) (ix3 0 i 0) = rawDen msk q k 0 3 i := by
  simp only [rawDen, rawWeight, col_three, row_zero]
  pointwise [k0_pay27, k0_pay25, k0_pay10, k0_pay11]

/-! ## The second batch, head by head -/

/-- Second batch, head 0: the stored values are the weighted sums. -/
theorem numB0 (i : Fin 128) (d : Fin 64) : k0_pay32 q k v msk (ix3 0 i d) = rawNum msk q k v 1 0 i d := by
  simp only [rawNum, rawWeight, col_zero, row_one]
  pointwise [k0_pay32, k0_pay31, k0_pay28, k0_pay29, k0_pay30]
/-- Second batch, head 0: the stored weights are the weight sums. -/
theorem denB0 (i : Fin 128) : k0_pay33 q k msk (ix3 0 i 0) = rawDen msk q k 1 0 i := by
  simp only [rawDen, rawWeight, col_zero, row_one]
  pointwise [k0_pay33, k0_pay31, k0_pay28, k0_pay29]
/-- Second batch, head 1: the stored values are the weighted sums. -/
theorem numB1 (i : Fin 128) (d : Fin 64) : k0_pay37 (k0_pay36 q k v msk) (ix3 0 i d) = rawNum msk q k v 1 1 i d := by
  simp only [rawNum, rawWeight, col_one, row_one]
  pointwise [k0_pay37, k0_pay36, k0_pay34, k0_pay28, k0_pay29, k0_pay30]
/-- Second batch, head 1: the stored weights are the weight sums. -/
theorem denB1 (i : Fin 128) : k0_pay38 (k0_pay35 q k msk) (ix3 0 i 0) = rawDen msk q k 1 1 i := by
  simp only [rawDen, rawWeight, col_one, row_one]
  pointwise [k0_pay38, k0_pay35, k0_pay34, k0_pay28, k0_pay29]
/-- Second batch, head 2: the stored values are the weighted sums. -/
theorem numB2 (i : Fin 128) (d : Fin 64) :
    k0_pay40 msk (k0_pay28 q) (k0_pay29 k) (k0_pay30 v) (ix3 0 i d) = rawNum msk q k v 1 2 i d := by
  simp only [rawNum, rawWeight, col_two, row_one]
  pointwise [k0_pay40, k0_pay39, k0_pay28, k0_pay29, k0_pay30]
/-- Second batch, head 2: the stored weights are the weight sums. -/
theorem denB2 (i : Fin 128) : k0_pay41 msk (k0_pay28 q) (k0_pay29 k) (ix3 0 i 0) = rawDen msk q k 1 2 i := by
  simp only [rawDen, rawWeight, col_two, row_one]
  pointwise [k0_pay41, k0_pay39, k0_pay28, k0_pay29]
/-- Second batch, head 3: the stored values are the weighted sums. -/
theorem numB3 (i : Fin 128) (d : Fin 64) :
    k0_pay44 (k0_pay30 v) (k0_pay42 msk (k0_pay28 q) (k0_pay29 k)) (ix3 0 i d) = rawNum msk q k v 1 3 i d := by
  simp only [rawNum, rawWeight, col_three, row_one]
  pointwise [k0_pay44, k0_pay42, k0_pay28, k0_pay29, k0_pay30]
/-- Second batch, head 3: the stored weights are the weight sums. -/
theorem denB3 (i : Fin 128) : k0_pay45 (k0_pay43 msk (k0_pay28 q) (k0_pay29 k)) (ix3 0 i 0) = rawDen msk q k 1 3 i := by
  simp only [rawDen, rawWeight, col_three, row_one]
  pointwise [k0_pay45, k0_pay43, k0_pay42, k0_pay28, k0_pay29]

/-! ## The queries, the keys and the values -/

/-- The query block at a batch's row is that batch's query. -/
theorem query_row (x : FVec Ideal S2x128x512 .f32) (wq : FVec Ideal S512x256 .f32) (b : Fin 2) (i : Fin 128) (t : Fin 256) :
    k0_pay1 (F := Ideal) x wq (ix2 (row b i) t) = query x wq b i t := by
  have h1 : (⟨(row b i).val / 128, by have := (row b i).isLt; omega⟩ : Fin 2) = b := Fin.ext (by simp only [row]; omega)
  have h2 : (⟨(row b i).val % 128, by omega⟩ : Fin 128) = i := Fin.ext (by simp only [row]; omega)
  unfold query
  pointwise [k0_pay1]
  simp only [h1, h2]

/-- The key block at a head's column is that head's key. -/
theorem keys_col (kk : FVec Ideal S2x128x4x64 .f32) (b : Fin 2) (j : Fin 128) (h : Fin 4) (d : Fin 64) :
    k0_pay2 (F := Ideal) kk (ix3 b j (col h d)) = kk (ix4 b j h d) := by
  have h1 : (⟨(col h d).val / 64, by have := (col h d).isLt; omega⟩ : Fin 4) = h := Fin.ext (by simp only [col]; omega)
  have h2 : (⟨(col h d).val % 64, by omega⟩ : Fin 64) = d := Fin.ext (by simp only [col]; omega)
  pointwise [k0_pay2]
  simp only [h1, h2]

/-- The value block at a head's column is that head's value. -/
theorem values_col (vv : FVec Ideal S2x128x4x64 .f32) (b : Fin 2) (j : Fin 128) (h : Fin 4) (d : Fin 64) :
    k0_pay3 (F := Ideal) vv (ix3 b j (col h d)) = vv (ix4 b j h d) := by
  have h1 : (⟨(col h d).val / 64, by have := (col h d).isLt; omega⟩ : Fin 4) = h := Fin.ext (by simp only [col]; omega)
  have h2 : (⟨(col h d).val % 64, by omega⟩ : Fin 64) = d := Fin.ext (by simp only [col]; omega)
  pointwise [k0_pay3]
  simp only [h1, h2]

end Cert.AttnValue

end
-- ==== Proof.Slab.lean ====
/-
One device's slab at an index, from the device's own blocks: in the first 256 columns the values weighted and
summed over the device's keys, in the last four the sums of the weights.
-/
module
public import proofs.«01_k».proof.Proof.Mask
public import proofs.«01_k».proof.Proof.Weights

@[expose] public section

noncomputable section

namespace Cert.AttnValue

open Cert.KernelIdeal Cert.KernelIdeal.Gen
open Idealize.ShloMosaic Idealize.ShloMosaic.TcCoe

/-- The slab's column for column `d` of head `h`. -/
def numCol (h : Fin 4) (d : Fin 64) : Fin 260 := ⟨64 * h.val + d.val, by omega⟩
/-- The slab's column for the sum of head `h`'s weights. -/
def denCol (h : Fin 4) : Fin 260 := ⟨256 + h.val, by omega⟩

section

variable (n0 n1 n2 n3 : FVec Ideal S1x128x64 .bf16) (d0 d1 d2 d3 : FVec Ideal S1x128x1 .bf16) (i : Fin 128)

/-- A value column of a slab. -/
theorem slabOf_num (h : Fin 4) (d : Fin 64) :
    Attn.slabOf (F := Ideal) n0 n1 n2 n3 d0 d1 d2 d3 (ix3 0 i (numCol h d)) = ![n0, n1, n2, n3] h (ix3 0 i d) := by
  have hd : d.val < 64 := d.isLt
  have hm : (64 * h.val + d.val) % 64 = d.val := by omega
  have hval : ((ix3 (0 : Fin 1) i (numCol h d) : S1x128x260.Idx) (2 : Fin 3)).val = 64 * h.val + d.val := rfl
  unfold Attn.slabOf
  simp only [hval, hm]
  match h with
  | 0 => rw [if_pos (by simp)]; exact congrArg n0 (ix3_eq ..)
  | 1 => rw [if_neg (by simp), if_pos (by simp; omega)]; exact congrArg n1 (ix3_eq ..)
  | 2 => rw [if_neg (by simp; omega), if_neg (by simp), if_pos (by simp; omega)]; exact congrArg n2 (ix3_eq ..)
  | 3 => rw [if_neg (by simp; omega), if_neg (by simp; omega), if_neg (by simp), if_pos (by simp; omega)]
         exact congrArg n3 (ix3_eq ..)

/-- A weight column of a slab. -/
theorem slabOf_den (h : Fin 4) :
    Attn.slabOf (F := Ideal) n0 n1 n2 n3 d0 d1 d2 d3 (ix3 0 i (denCol h)) = ![d0, d1, d2, d3] h (ix3 0 i 0) := by
  have hval : ((ix3 (0 : Fin 1) i (denCol h) : S1x128x260.Idx) (2 : Fin 3)).val = 256 + h.val := rfl
  unfold Attn.slabOf
  simp only [hval]
  match h with
  | 0 => simp; exact congrArg d0 (ix3_eq ..)
  | 1 => simp; exact congrArg d1 (ix3_eq ..)
  | 2 => simp; exact congrArg d2 (ix3_eq ..)
  | 3 => simp; exact congrArg d3 (ix3_eq ..)

end

section

variable (c : Dev nD) (x : FVec Ideal S2x128x512 .f32) (wq : FVec Ideal S512x256 .f32) (kk vv : FVec Ideal S2x128x4x64 .f32)

/-- A payload's weight is the weight of the problem, for the device's own keys. -/
theorem rawWeight_eq (b : Fin 2) (h : Fin 4) (i j : Fin 128) :
    rawWeight (Attn.maskOf c) (k0_pay1 x wq) (k0_pay2 kk) b h i j
      = weight x wq kk (fun j => (key c j).val) b h i j := by
  simp only [rawWeight, weight, score, query_row, keys_col, maskOf_eq, eighth]
  split <;> rfl

/-- The slab of batch `b` on device `c`. -/
def part (b : Fin 2) : FVec Ideal S1x128x260 .bf16 := if b = 0 then Attn.partA (F := Ideal) c x wq kk vv else Attn.partB (F := Ideal) c x wq kk vv

/-- A device's value columns, from its mask and its blocks. -/
theorem part_raw_num (b : Fin 2) (h : Fin 4) (i : Fin 128) (d : Fin 64) :
    part c x wq kk vv b (ix3 0 i (numCol h d))
      = rawNum (Attn.maskOf c) (k0_pay1 x wq) (k0_pay2 kk) (k0_pay3 vv) b h i d := by
  match b with
  | 0 =>
    refine (slabOf_num ..).trans ?_
    match h with
    | 0 => exact numA0 ..
    | 1 => exact numA1 ..
    | 2 => exact numA2 ..
    | 3 => exact numA3 ..
  | 1 =>
    refine (slabOf_num ..).trans ?_
    match h with
    | 0 => exact numB0 ..
    | 1 => exact numB1 ..
    | 2 => exact numB2 ..
    | 3 => exact numB3 ..

/-- A device's weight columns, from its mask and its blocks. -/
theorem part_raw_den (b : Fin 2) (h : Fin 4) (i : Fin 128) :
    part c x wq kk vv b (ix3 0 i (denCol h)) = rawDen (Attn.maskOf c) (k0_pay1 x wq) (k0_pay2 kk) b h i := by
  match b with
  | 0 =>
    refine (slabOf_den ..).trans ?_
    match h with
    | 0 => exact denA0 ..
    | 1 => exact denA1 ..
    | 2 => exact denA2 ..
    | 3 => exact denA3 ..
  | 1 =>
    refine (slabOf_den ..).trans ?_
    match h with
    | 0 => exact denB0 ..
    | 1 => exact denB1 ..
    | 2 => exact denB2 ..
    | 3 => exact denB3 ..

/-- A device's value column is the weighted sum of its own keys' values. -/
theorem part_num (b : Fin 2) (h : Fin 4) (i : Fin 128) (d : Fin 64) :
    part c x wq kk vv b (ix3 0 i (numCol h d))
      = ∑ j : Fin 128, weight x wq kk (fun j => (key c j).val) b h i j * vv (ix4 b j h d) := by
  rw [part_raw_num]
  simp only [rawNum, rawWeight_eq, values_col]

/-- A device's weight column is the sum of its own keys' weights. -/
theorem part_den (b : Fin 2) (h : Fin 4) (i : Fin 128) :
    part c x wq kk vv b (ix3 0 i (denCol h)) = ∑ j : Fin 128, weight x wq kk (fun j => (key c j).val) b h i j := by
  rw [part_raw_den]
  simp only [rawDen, rawWeight_eq]

end

end Cert.AttnValue

end
-- ==== Proof.Exchange.lean ====
/-
The three stages of each batch's exchange, at an index: from one slab per device they give, on every device, the
sum of the slabs of all 32.
-/
module
public import proofs.«01_k».proof.Proof.Terms

@[expose] public section

noncomputable section

namespace Cert.AttnValue

open Cert.KernelIdeal Cert.KernelIdeal.Gen
open Idealize.ShloMosaic Idealize.ShloMosaic.TcCoe

/-! ## The stages as lists of devices -/

/-- The devices summed on device `c` by a stage over three slots, each with what the stage before it sums. -/
def over (prev : Dev nD → List (Dev nD)) (a b e : Fin 7) (c : Dev nD) : List (Dev nD) :=
  prev c ++ prev (Attn.src a c) ++ prev (Attn.src b c) ++ prev (Attn.src e c)

/-- The devices the first batch's slab sums after its three stages. -/
def listA (c : Dev nD) : List (Dev nD) :=
  over (over (fun d => [d]) 1 2 3) 4 5 6 c ++ over (over (fun d => [d]) 1 2 3) 4 5 6 (Attn.src 0 c)
/-- The devices the second batch's slab sums. -/
def listB (c : Dev nD) : List (Dev nD) :=
  over (over (fun d => [d]) 4 5 6) 1 2 3 c ++ over (over (fun d => [d]) 4 5 6) 1 2 3 (Attn.src 0 c)

/-- The first batch's three stages reach every device exactly once. -/
theorem listA_perm : ∀ c : Dev nD, (listA c).Perm (List.finRange 32) := by decide +kernel
/-- The second batch's three stages reach every device exactly once. -/
theorem listB_perm : ∀ c : Dev nD, (listB c).Perm (List.finRange 32) := by decide +kernel

/-- A sum along a list that holds each device once is the sum over the devices. -/
theorem sum_of_perm (f : Fin 32 → EReal) (l : List (Fin 32)) (h : l.Perm (List.finRange 32)) : (l.map f).sum = ∑ d, f d := by
  rw [(h.map f).sum_eq, Fin.sum_univ_def]

/-! ## The stages at an index -/

section

variable (A : Dev nD → FVec Ideal S1x128x260 .bf16) (i : Fin 128) (k : Fin 260)

/-- The sum over a stage of three arrivals is the sum of four sums over the stage before. -/
theorem sum_over (prev : Dev nD → List (Dev nD)) (f : Dev nD → EReal) (a b e : Fin 7) (c : Dev nD) :
    ((over prev a b e c).map f).sum = ((prev c).map f).sum + ((prev (Attn.src a c)).map f).sum
      + ((prev (Attn.src b c)).map f).sum + ((prev (Attn.src e c)).map f).sum := by
  simp only [over, List.map_append, List.sum_append]

/-- The sum over one device. -/
theorem sum_one (f : Dev nD → EReal) (c : Dev nD) : (([c] : List (Dev nD)).map f).sum = f c := by simp

/-- First batch, stage 1: an entry is the sum of the stage before's entries, the device's own and the arrived ones. -/
theorem sA1_at (c : Dev nD) : Attn.sA1 (F := Ideal) A c (ix3 0 i k) = A c (ix3 0 i k) + A (Attn.src 1 c) (ix3 0 i k)
    + A (Attn.src 2 c) (ix3 0 i k) + A (Attn.src 3 c) (ix3 0 i k) := by
  pointwise [Attn.sA1, k0_pay47, k0_pay46]
/-- First batch, stage 2: an entry is the sum of the stage before's entries, the device's own and the arrived ones. -/
theorem sA2_at (c : Dev nD) : Attn.sA2 (F := Ideal) A c (ix3 0 i k) = Attn.sA1 (F := Ideal) A c (ix3 0 i k) + Attn.sA1 (F := Ideal) A (Attn.src 4 c) (ix3 0 i k)
    + Attn.sA1 (F := Ideal) A (Attn.src 5 c) (ix3 0 i k) + Attn.sA1 (F := Ideal) A (Attn.src 6 c) (ix3 0 i k) := by
  pointwise [Attn.sA2, k0_pay52, k0_pay51]
/-- First batch, stage 3: an entry is the sum of the stage before's entries, the device's own and the arrived ones. -/
theorem sA3_at (c : Dev nD) : Attn.sA3 (F := Ideal) A c (ix3 0 i k) = Attn.sA2 (F := Ideal) A c (ix3 0 i k) + Attn.sA2 (F := Ideal) A (Attn.src 0 c) (ix3 0 i k) := by
  pointwise [Attn.sA3, k0_pay55]
/-- Second batch, stage 1: an entry is the sum of the stage before's entries, the device's own and the arrived ones. -/
theorem sB1_at (c : Dev nD) : Attn.sB1 (F := Ideal) A c (ix3 0 i k) = A c (ix3 0 i k) + A (Attn.src 4 c) (ix3 0 i k)
    + A (Attn.src 5 c) (ix3 0 i k) + A (Attn.src 6 c) (ix3 0 i k) := by
  pointwise [Attn.sB1, k0_pay50, k0_pay49, k0_pay48]
/-- Second batch, stage 2: an entry is the sum of the stage before's entries, the device's own and the arrived ones. -/
theorem sB2_at (c : Dev nD) : Attn.sB2 (F := Ideal) A c (ix3 0 i k) = Attn.sB1 (F := Ideal) A c (ix3 0 i k) + Attn.sB1 (F := Ideal) A (Attn.src 1 c) (ix3 0 i k)
    + Attn.sB1 (F := Ideal) A (Attn.src 2 c) (ix3 0 i k) + Attn.sB1 (F := Ideal) A (Attn.src 3 c) (ix3 0 i k) := by
  pointwise [Attn.sB2, k0_pay54, k0_pay53]
/-- Second batch, stage 3: an entry is the sum of the stage before's entries, the device's own and the arrived ones. -/
theorem sB3_at (c : Dev nD) : Attn.sB3 (F := Ideal) A c (ix3 0 i k) = Attn.sB2 (F := Ideal) A c (ix3 0 i k) + Attn.sB2 (F := Ideal) A (Attn.src 0 c) (ix3 0 i k) := by
  pointwise [Attn.sB3, k0_pay58]

/-- After its three stages the first batch's slab on every device is the sum of all the devices' slabs. -/
theorem sA3_sum (c : Dev nD) : Attn.sA3 (F := Ideal) A c (ix3 0 i k) = ∑ d : Fin 32, A d (ix3 0 i k) := by
  rw [← sum_of_perm (fun d => A d (ix3 0 i k)) (listA c) (listA_perm c)]
  simp only [listA, List.map_append, List.sum_append, sum_over, sum_one, sA3_at, sA2_at, sA1_at]

/-- And so is the second batch's. -/
theorem sB3_sum (c : Dev nD) : Attn.sB3 (F := Ideal) A c (ix3 0 i k) = ∑ d : Fin 32, A d (ix3 0 i k) := by
  rw [← sum_of_perm (fun d => A d (ix3 0 i k)) (listB c) (listB_perm c)]
  simp only [listB, List.map_append, List.sum_append, sum_over, sum_one, sB3_at, sB2_at, sB1_at]

end

end Cert.AttnValue

end
-- ==== Proof.Softmax.lean ====
/-
The equation the claim rests on, away from any program: weighting by exponentials less the greatest score and
dividing by their sum is weighting by the exponentials themselves and dividing the total by theirs.
-/
module
public import proofs.«01_k».proof.Proof.Terms

@[expose] public section

noncomputable section

namespace Cert.AttnValue

open Idealize.ShloMosaic

variable {ι : Type} [Fintype ι]

/-- A nonnegative real may be multiplied into a sum of extended reals. -/
theorem sum_mul_real (f : ι → EReal) (r : ℝ) (hr : 0 ≤ r) : (∑ j, f j) * (r : EReal) = ∑ j, f j * (r : EReal) := by
  classical
  have h : ∀ t : Finset ι, (∑ j ∈ t, f j) * (r : EReal) = ∑ j ∈ t, f j * (r : EReal) := by
    intro t
    induction t using Finset.induction_on with
    | empty => simp
    | insert a t ha ih =>
      rw [Finset.sum_insert ha, Finset.sum_insert ha, ← ih]
      exact EReal.right_distrib_of_nonneg_of_ne_top (EReal.coe_nonneg.mpr hr) (EReal.coe_ne_top r) _ _
  exact h Finset.univ

/-- A sum of reals, taken among the extended reals. -/
theorem coe_sum (f : ι → ℝ) : ((∑ j, f j : ℝ) : EReal) = ∑ j, (f j : EReal) := by
  classical
  have h : ∀ t : Finset ι, ((∑ j ∈ t, f j : ℝ) : EReal) = ∑ j ∈ t, (f j : EReal) := by
    intro t
    induction t using Finset.induction_on with
    | empty => simp
    | insert a t ha ih => rw [Finset.sum_insert ha, Finset.sum_insert ha, EReal.coe_add, ih]
  exact h Finset.univ

section

variable (P : ι → Prop) [DecidablePred P] (s : ι → ℝ)

/-- The score where it counts, `-∞` elsewhere. -/
def masked (j : ι) : EReal := if P j then (s j : EReal) else ⊥

/-- The greatest of the masked scores. -/
def greatest : EReal := Finset.univ.fold max ⊥ (masked P s)

/-- With some score that counts, the greatest is a real number. -/
theorem greatest_real (h : ∃ j, P j) : ∃ μ : ℝ, greatest P s = (μ : EReal) := by
  obtain ⟨j, hj⟩ := h
  have h1 : greatest P s < ⊤ := by
    refine (Finset.fold_max_lt _).mpr ⟨bot_lt_top, fun x _ => ?_⟩
    unfold masked
    split
    · exact EReal.coe_lt_top _
    · exact bot_lt_top
  have h2 : ⊥ < greatest P s := by
    refine (Finset.lt_fold_max _).mpr (.inr ⟨j, Finset.mem_univ _, ?_⟩)
    simp only [masked, hj, if_true]
    exact EReal.bot_lt_coe _
  exact ⟨(greatest P s).toReal, (EReal.coe_toReal h1.ne h2.ne').symm⟩

/-- The real weight: the exponential of a score that counts. -/
def plain (j : ι) : ℝ := if P j then Real.exp (s j) else 0

/-- A plain weight is not negative. -/
theorem plain_nonneg (j : ι) : 0 ≤ plain P s j := by
  unfold plain
  split
  · exact (Real.exp_pos _).le
  · exact le_rfl

/-- The plain weights' sum is positive if some key is met. -/
theorem plain_sum_pos (h : ∃ j, P j) : 0 < ∑ j, plain P s j := by
  obtain ⟨j, hj⟩ := h
  refine Finset.sum_pos' (fun j _ => plain_nonneg P s j) ⟨j, Finset.mem_univ _, ?_⟩
  simp only [plain, hj, if_true]
  exact Real.exp_pos _

/-- The exponential of a masked score less a real is the plain weight times one factor. -/
theorem exp_masked (μ : ℝ) (j : ι) :
    Ideal.exp (masked P s j - (μ : EReal)) = ((plain P s j * Real.exp (-μ) : ℝ) : EReal) := by
  unfold masked plain
  split
  · rw [← EReal.coe_sub, Ideal.exp_coe, sub_eq_add_neg, Real.exp_add]
  · rw [EReal.bot_sub, Ideal.exp_bot, zero_mul, EReal.coe_zero]

/-- The weight over exact arithmetic is the plain one. -/
theorem weight_plain (j : ι) : (if P j then Ideal.exp (s j : EReal) else 0) = (plain P s j : EReal) := by
  unfold plain
  split
  · rw [Ideal.exp_coe]
  · rw [EReal.coe_zero]

/-- The two ways of weighting agree. -/
theorem softmax_eq (h : ∃ j, P j) (v : ι → EReal) :
    ∑ j, v j * Ideal.div (Ideal.exp (masked P s j - greatest P s)) (∑ t, Ideal.exp (masked P s t - greatest P s))
      = (∑ j, (if P j then Ideal.exp (s j : EReal) else 0) * v j)
        * Ideal.div 1 (∑ j, (if P j then Ideal.exp (s j : EReal) else 0)) := by
  obtain ⟨μ, hμ⟩ := greatest_real P s h
  have hL := plain_sum_pos P s h
  have hκ : 0 < Real.exp (-μ) := Real.exp_pos _
  rw [hμ]
  simp only [exp_masked, weight_plain]
  rw [← coe_sum, ← coe_sum, ← Finset.sum_mul, Ideal.div_coe hL.ne', one_mul, sum_mul_real _ _ (by positivity)]
  refine Finset.sum_congr rfl fun j _ => ?_
  rw [Ideal.div_coe (mul_pos hL hκ).ne', ← EReal.coe_mul, mul_comm (plain P s j : EReal) (v j), mul_assoc (v j), ← EReal.coe_mul]
  congr 2
  field_simp

end

/-- The 4096 keys, device by device. -/
theorem sum_keys (f : Fin 4096 → EReal) : ∑ c : Fin 32, ∑ j : Fin 128, f (key c j) = ∑ p : Fin 4096, f p := by
  rw [← Fintype.sum_prod_type']
  refine Fintype.sum_equiv (finProdFinEquiv (m := 32) (n := 128)) _ _ fun y => ?_
  congr 1
  exact Fin.ext (by simp [key, finProdFinEquiv]; omega)

end Cert.AttnValue

end
-- ==== Proof.Result.lean ====
/-
The kernel's result block at an index, from the arrays of the whole problem: the sums over all 32 devices' keys
are the sums over all 4096 keys, and the block is the reference's result.
-/
module
public import proofs.«01_k».proof.Proof.Slab
public import proofs.«01_k».proof.Proof.Exchange
public import proofs.«01_k».proof.Proof.Softmax

@[expose] public section

noncomputable section

namespace Cert.AttnValue

open Cert.KernelIdeal Cert.KernelIdeal.Gen
open Idealize.ShloMosaic Idealize.ShloMosaic.TcCoe

/-! ## The projection out -/

section

variable (tot : FVec Ideal S1x128x260 .bf16) (wo : FVec Ideal S256x512 .f32) (i : Fin 128) (n : Fin 512)

/-- A summed slab divided by its weights' sums and multiplied into the output projection. -/
def project : EReal :=
  ∑ t : Fin 256, tot (ix3 0 i (numCol ⟨t.val / 64, by omega⟩ ⟨t.val % 64, by omega⟩))
    * Ideal.div 1 (tot (ix3 0 i (denCol ⟨t.val / 64, by omega⟩))) * wo (ix2 t n)

/-- A context column is its head's and its place's value column. -/
theorem numCol_div (t : Fin 256) : numCol ⟨t.val / 64, by omega⟩ ⟨t.val % 64, by omega⟩ = ⟨t.val, by omega⟩ :=
  Fin.ext (by simp only [numCol]; omega)
/-- The weight column of a context column's head. -/
theorem denCol_div (t : Fin 256) : denCol ⟨t.val / 64, by omega⟩ = ⟨256 + t.val / 64, by omega⟩ := rfl

/-- The first batch's last step: divide by the weight sums and project. -/
theorem projectA_eq : k0_pay57 (k0_pay56 (F := Ideal) tot wo) (ix3 0 i n) = project tot wo i n := by
  simp only [project, numCol_div, denCol_div]
  pointwise [k0_pay57, k0_pay56]

/-- The second batch's last step: divide by the weight sums and project. -/
theorem projectB_eq : k0_pay60 (k0_pay59 (F := Ideal) tot) wo (ix3 0 i n) = project tot wo i n := by
  simp only [project, numCol_div, denCol_div]
  pointwise [k0_pay60, k0_pay59]

end

/-- The result block is batch by batch a projection. -/
theorem outOf_eq (u v : FVec Ideal S1x128x260 .bf16) (wo : FVec Ideal S256x512 .f32) (b : Fin 2) (i : Fin 128) (n : Fin 512) :
    Attn.outOf (F := Ideal) u v wo (ix3 b i n) = project (if b = 0 then u else v) wo i n := by
  match b with
  | 0 => exact (congrArg (k0_pay57 (k0_pay56 (F := Ideal) u wo)) (ix3_eq ..)).trans (projectA_eq ..)
  | 1 => exact (congrArg (k0_pay60 (k0_pay59 (F := Ideal) v) wo) (ix3_eq ..)).trans (projectB_eq ..)

/-! ## All the devices' keys -/

section

variable (x : FVec Ideal S2x128x512 .f32) (wq : FVec Ideal S512x256 .f32) (wo : FVec Ideal S256x512 .f32)
  (kc vc : Dev nD → FVec Ideal S2x128x4x64 .f32) (kk vv : (⟨4, ![2, 4096, 4, 64]⟩ : Shape).Idx → EReal)
  (hk : ∀ c b j h d, kc c (ix4 b j h d) = kk (ix4 b (key c j) h d))
  (hv : ∀ c b j h d, vc c (ix4 b j h d) = vv (ix4 b (key c j) h d))

include hk

/-- A device's weight for its own key is the weight for that key among all of them. -/
theorem weight_key (c : Dev nD) (b : Fin 2) (h : Fin 4) (i j : Fin 128) :
    weight x wq (kc c) (fun j => (key c j).val) b h i j = weight x wq kk Fin.val b h i (key c j) := by
  simp only [weight, score, hk]

/-- The devices' weight sums add up to the sum over all the keys. -/
theorem den_sum (b : Fin 2) (h : Fin 4) (i : Fin 128) :
    ∑ c : Fin 32, part c x wq (kc c) (vc c) b (ix3 0 i (denCol h)) = ∑ j : Fin 4096, weight x wq kk Fin.val b h i j := by
  rw [← sum_keys]
  refine Finset.sum_congr rfl fun c _ => ?_
  rw [part_den]
  exact Finset.sum_congr rfl fun j _ => weight_key x wq kc kk hk c b h i j

include hv

/-- The devices' weighted values add up to the sum over all the keys. -/
theorem num_sum (b : Fin 2) (h : Fin 4) (i : Fin 128) (d : Fin 64) :
    ∑ c : Fin 32, part c x wq (kc c) (vc c) b (ix3 0 i (numCol h d))
      = ∑ j : Fin 4096, weight x wq kk Fin.val b h i j * vv (ix4 b j h d) := by
  rw [← sum_keys]
  refine Finset.sum_congr rfl fun c _ => ?_
  rw [part_num]
  exact Finset.sum_congr rfl fun j _ => by rw [weight_key x wq kc kk hk, hv]

/-- The result block on every device, element by element, from the whole arrays. -/
theorem result_eq (c : Dev nD) (b : Fin 2) (i : Fin 128) (n : Fin 512) :
    Attn.outOf (F := Ideal) (Attn.sA3 (F := Ideal) (fun e => Attn.partA e x wq (kc e) (vc e)) c)
        (Attn.sB3 (F := Ideal) (fun e => Attn.partB e x wq (kc e) (vc e)) c) wo (ix3 b i n)
      = ∑ t : Fin 256,
          ((∑ j : Fin 4096, weight x wq kk Fin.val b ⟨t.val / 64, by omega⟩ i j
              * vv (ix4 b j ⟨t.val / 64, by omega⟩ ⟨t.val % 64, by omega⟩))
            * Ideal.div 1 (∑ j : Fin 4096, weight x wq kk Fin.val b ⟨t.val / 64, by omega⟩ i j)) * wo (ix2 t n) := by
  have hsum : ∀ k : Fin 260,
      (if b = 0 then Attn.sA3 (F := Ideal) (fun e => Attn.partA e x wq (kc e) (vc e)) c
        else Attn.sB3 (F := Ideal) (fun e => Attn.partB e x wq (kc e) (vc e)) c) (ix3 0 i k)
      = ∑ e : Fin 32, part e x wq (kc e) (vc e) b (ix3 0 i k) := by
    intro k
    match b with
    | 0 => exact sA3_sum _ i k c
    | 1 => exact sB3_sum _ i k c
  rw [outOf_eq, project]
  refine Finset.sum_congr rfl fun t _ => ?_
  rw [hsum, hsum, num_sum x wq kc vc kk vv hk hv, den_sum x wq kc vc kk hk]

end

end Cert.AttnValue

end
-- ==== Proof.Stages.lean ====
/-
The reference's result, stage by stage, and what each stage holds at an index.
-/
module
public import proofs.«01_k».proof.Proof.Mask
public import proofs.«01_k».proof.Proof.Gen.ReferenceIdeal.Run

@[expose] public section

noncomputable section

namespace Cert.AttnValue

open Cert.ReferenceIdeal Cert.ReferenceIdeal.Gen Cert.ReferenceIdeal.Value
open Idealize.ShloMosaic Idealize.ShloMosaic.TcCoe

/-! ## The stages -/

section

variable (x : FVec Ideal S2x128x512 .f32) (wq : FVec Ideal S512x256 .f32) (kk vv : FVec Ideal S2x4096x4x64 .f32)
  (wo : FVec Ideal S256x512 .f32)

/-- The block of 64 each query row lies in. -/
def refRow : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))
/-- The block of 64 each key lies in. -/
def refKey : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- The sum of the two block numbers. -/
def refSum : IVec S128x4096 32 :=
  addi (broadcastInDim S128x4096 ![0, 1] bcast_S128x1_S128x4096_0_1 (broadcastInDim S128x1 ![0] bcast_S128_S128x1_0 refRow)) (broadcastInDim S128x4096 ![0, 1] bcast_S1x4096_S128x4096_0_1 (broadcastInDim S1x4096 ![1] bcast_S4096_S1x4096_1 refKey))
/-- The divisor three. -/
def refThree : IVec S_ 32 :=
  select (cmpi .eq (id (constantI S_ 32 3#32)) (constantI S_ 32 0#32)) (constantI S_ 32 1#32) (id (constantI S_ 32 3#32))
/-- The remainder of the sum by three. -/
def refRem : IVec S128x4096 32 :=
  Host.remsi refSum (broadcastInDim S128x4096 ![] bcast_S_S128x4096 refThree)
/-- Which keys each row reads. -/
def refMask : IVec S128x4096 1 :=
  ori (ori (cmpi .eq (broadcastInDim S128x4096 ![0, 1] bcast_S128x1_S128x4096_0_1 (broadcastInDim S128x1 ![0] bcast_S128_S128x1_0 refRow)) (broadcastInDim S128x4096 ![0, 1] bcast_S1x4096_S128x4096_0_1 (broadcastInDim S1x4096 ![1] bcast_S4096_S1x4096_1 refKey))) (broadcastInDim S128x4096 ![0, 1] bcast_S1x4096_S128x4096_0_1 (cmpi .eq (broadcastInDim S1x4096 ![1] bcast_S4096_S1x4096_1 refKey) (broadcastInDim S1x4096 ![] bcast_S_S1x4096 (constantI S_ 32 0#32))))) (cmpi .eq (select (andi (cmpi .ne (cmpi .slt refRem (broadcastInDim S128x4096 ![] bcast_S_S128x4096 (constantI S_ 32 0#32))) (broadcastInDim S128x4096 ![] bcast_S_S128x4096 (cmpi .slt refThree (constantI S_ 32 0#32)))) (cmpi .ne refRem (broadcastInDim S128x4096 ![] bcast_S_S128x4096 (constantI S_ 32 0#32)))) (addi refRem (broadcastInDim S128x4096 ![] bcast_S_S128x4096 refThree)) refRem) (broadcastInDim S128x4096 ![] bcast_S_S128x4096 (constantI S_ 32 0#32)))
/-- Whether a row reads any key. -/
def refAny : IVec S128 1 :=
  Host.reduce IntOp.ori refMask (constantI S_ 1 0#1) reducesTo_S128x4096_S128_d1 h_S_
/-- The scores. -/
def refScore : FVec Ideal S2x4x128x4096 .f32 :=
  mulf (Host.dotGeneral dot_S2x128x4x64_S2x4096x4x64_S2x4x128x4096_3_3_1_1_02_02 none (shapeCast _ (Host.dotGeneral dot_S2x128x512_S512x256_S2x128x256_2_0_01_1_n_n none x wq) shapeCasts_S2x128x256_S2x128x4x64) kk) (broadcastInDim S2x4x128x4096 ![] bcast_S_S2x4x128x4096 (constant S_ .f32 0x3E000000#32))
/-- The scores, `-∞` at a key a row does not read. -/
def refMasked : FVec Ideal S2x4x128x4096 .f32 :=
  select (broadcastInDim S2x4x128x4096 ![0, 1, 2, 3] bcast_S1x1x128x4096_S2x4x128x4096_0_1_2_3 (broadcastInDim S1x1x128x4096 ![2, 3] bcast_S128x4096_S1x1x128x4096_2_3 refMask)) (refScore x wq kk) (broadcastInDim S2x4x128x4096 ![] bcast_S_S2x4x128x4096 (id (constant S_ .f32 0xFF800000#32)))
/-- The greatest score of each row. -/
def refMax : FVec Ideal S2x4x128 .f32 :=
  Host.reduce FloatOps.maximumf (refMasked x wq kk) (constant S_ .f32 0xFF800000#32) reducesTo_S2x4x128x4096_S2x4x128_d3 h_S_
/-- The exponentials of the scores less the greatest. -/
def refExp : FVec Ideal S2x4x128x4096 .f32 :=
  Host.exp (subf (refMasked x wq kk) (broadcastInDim S2x4x128x4096 ![0, 1, 2, 3] bcast_S2x4x128x1_S2x4x128x4096_0_1_2_3 (broadcastInDim S2x4x128x1 ![0, 1, 2] bcast_S2x4x128_S2x4x128x1_0_1_2 (refMax x wq kk))))
/-- The weights. -/
def refWeight : FVec Ideal S2x4x128x4096 .f32 :=
  select (broadcastInDim S2x4x128x4096 ![0, 1, 2, 3] bcast_S1x1x128x1_S2x4x128x4096_0_1_2_3 (broadcastInDim S1x1x128x1 ![2] bcast_S128_S1x1x128x1_2 refAny)) (Host.divf (refExp x wq kk) (broadcastInDim S2x4x128x4096 ![0, 1, 2, 3] bcast_S2x4x128x1_S2x4x128x4096_0_1_2_3 (select (broadcastInDim S2x4x128x1 ![0, 1, 2, 3] bcast_S1x1x128x1_S2x4x128x1_0_1_2_3 (broadcastInDim S1x1x128x1 ![2] bcast_S128_S1x1x128x1_2 refAny)) (broadcastInDim S2x4x128x1 ![0, 1, 2] bcast_S2x4x128_S2x4x128x1_0_1_2 (Host.reduceAdd (refExp x wq kk) (constant S_ .f32 0x00000000#32) reducesTo_S2x4x128x4096_S2x4x128_d3 h_S_)) (broadcastInDim S2x4x128x1 ![] bcast_S_S2x4x128x1 (id (constant S_ .f32 0x3F800000#32)))))) (broadcastInDim S2x4x128x4096 ![] bcast_S_S2x4x128x4096 (id (constant S_ .f32 0x00000000#32)))
/-- The result. -/
def refOut : FVec Ideal S2x128x512 .f32 :=
  Host.dotGeneral dot_S2x128x256_S256x512_S2x128x512_2_0_01_1_n_n none (shapeCast _ (transpose S2x128x4x64 [0, 3, 1, 2] (Host.dotGeneral dot_S2x4096x4x64_S2x4x128x4096_S2x4x64x128_1_3_3_2_02_01 none vv (refWeight x wq kk)) transposes_S2x4x64x128_S2x128x4x64_0_3_1_2) shapeCasts_S2x128x4x64_S2x128x256) wo

end

/-- The reference program's result is the composed one. -/
theorem res_eq (m : (ℓ : Loc nD τ sig) → Buf (Elt Ideal) ℓ) (c : Dev nD) :
    res_main_v44 (F := Ideal) m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.AttnValue

end
-- ==== Proof.Reference.lean ====
/-
What the reference holds at an index: its mask, its scores, and its result as a softmax-weighted sum of the
values multiplied into the output projection.
-/
module
public import proofs.«01_k».proof.Proof.Stages
public import proofs.«01_k».proof.Proof.Softmax

@[expose] public section

noncomputable section

namespace Cert.AttnValue

open Cert.ReferenceIdeal Cert.ReferenceIdeal.Gen Cert.ReferenceIdeal.Value
open Idealize.ShloMosaic Idealize.ShloMosaic.TcCoe

/-! ## The mask -/

/-- A row or a key, divided by 64 as the reference divides. -/
def refBlock (u : BitVec 32) : BitVec 32 :=
  Scalar.select
    (IntOp.andi
      (IntOp.cmpi .ne (if u = 0 then 0 else if u.msb = true then -1 else 1 : BitVec 32)
        (if (64#32) = 0 then 0 else if (64#32).msb = true then -1 else 1 : BitVec 32))
      (IntOp.cmpi .ne (IntOp.remsi .host u 64#32) 0#32))
    (IntOp.subi (IntOp.divsi .host u 64#32) 1#32)
    (IntOp.divsi .host u 64#32)

/-- The reference's division by 64, for every key's number. -/
theorem refBlock_eq : ∀ i : Fin 4096, refBlock (BitVec.ofNat 32 i.val) = BitVec.ofNat 32 (i.val / 64) := by decide +kernel

/-- A row's block number. -/
theorem refRow_eq (i : Fin 128) : refRow (ix1 i) = BitVec.ofNat 32 (i.val / 64) := by
  refine Eq.trans ?_ (refBlock_eq ⟨i.val, by omega⟩)
  simp only [refBlock]
  pointwise [refRow]
  rfl

/-- A key's block number. -/
theorem refKey_eq (j : Fin 4096) : refKey (ix1 j) = BitVec.ofNat 32 (j.val / 64) := by
  refine Eq.trans ?_ (refBlock_eq j)
  simp only [refBlock]
  pointwise [refKey]
  rfl

/-- Whether blocks `u` and `v` meet, in the reference's arithmetic. -/
def refMeet (u v : BitVec 32) : BitVec 1 :=
  let three : BitVec 32 := Scalar.select (IntOp.cmpi .eq 3#32 0#32) 1#32 3#32
  let rem : BitVec 32 := IntOp.remsi .host (IntOp.addi u v) three
  IntOp.ori (IntOp.ori (IntOp.cmpi .eq u v) (IntOp.cmpi .eq v 0#32))
    (IntOp.cmpi .eq
      (Scalar.select
        (IntOp.andi (IntOp.cmpi .ne (IntOp.cmpi .slt rem 0#32) (IntOp.cmpi .slt three 0#32)) (IntOp.cmpi .ne rem 0#32))
        (IntOp.addi rem three) rem)
      0#32)

/-- The reference's test, on the block numbers that occur: they are equal, or the second is 0, or their sum is a multiple of 3. -/
theorem refMeet_eq : ∀ (u : Fin 2) (v : Fin 64), refMeet (BitVec.ofNat 32 u.val) (BitVec.ofNat 32 v.val)
    = if u.val = v.val ∨ v.val = 0 ∨ (u.val + v.val) % 3 = 0 then 1#1 else 0#1 := by decide +kernel

/-- The reference's mask is set exactly where the query row meets the key. -/
theorem refMask_eq (i : Fin 128) (j : Fin 4096) : refMask (ix2 i j) = if meets i.val j.val then 1#1 else 0#1 := by
  refine Eq.trans ?_ (refMeet_eq ⟨i.val / 64, by omega⟩ ⟨j.val / 64, by omega⟩)
  simp only [refMeet]
  rw [← refRow_eq i, ← refKey_eq j]
  pointwise [refMask, refRem, refSum, refThree]
  rfl

/-- Every row reads some key: the first. -/
theorem meets_first (i : ℕ) : meets i 0 := .inr (.inl rfl)

/-- A disjunction is set if one member is. -/
theorem fold_or_one {ι : Type} (t : Finset ι) (f : ι → BitVec 1) (j : ι) (hj : j ∈ t) (h : f j = 1#1) :
    t.fold IntOp.ori 0#1 f = 1#1 := by
  classical
  rw [← Finset.insert_erase hj, Finset.fold_insert (Finset.notMem_erase j t), h]
  exact (by decide : ∀ u : BitVec 1, IntOp.ori 1#1 u = 1#1) _

/-- Every row has a key that it meets. -/
theorem refAny_eq (i : Fin 128) : refAny (ix1 i) = 1#1 := by
  pointwise [refAny]
  refine fold_or_one _ _ (0 : Fin 4096) (Finset.mem_univ _) ?_
  rw [refMask_eq]
  exact if_pos (meets_first _)

/-! ## The scores and the weights -/

section

variable (x : FVec Ideal S2x128x512 .f32) (wq : FVec Ideal S512x256 .f32) (kk vv : FVec Ideal S2x4096x4x64 .f32)
  (wo : FVec Ideal S256x512 .f32)

/-- The reference's score is the scaled product of query and key. -/
theorem refScore_eq (b : Fin 2) (h : Fin 4) (i : Fin 128) (j : Fin 4096) :
    refScore x wq kk (ix4 b h i j) = score x wq kk b h i j := by
  have hcol : ∀ d : Fin 64, (⟨h.val * 64 + d.val, by omega⟩ : Fin 256) = col h d := fun d => Fin.ext (by simp only [col]; omega)
  simp only [score, query, ← eighth]
  pointwise [refScore]
  simp only [hcol]

/-- The masked score: the score where row and key meet, −∞ elsewhere. -/
theorem refMasked_eq (b : Fin 2) (h : Fin 4) (i : Fin 128) (j : Fin 4096) :
    refMasked x wq kk (ix4 b h i j) = if meets i.val j.val then score x wq kk b h i j else ⊥ := by
  have hb : Ideal.ofBits .f32 4286578688#32 = ⊥ := by simp [Ideal.ofBits, Ideal.ieee]
  rw [← refScore_eq, ← hb]
  pointwise [refMasked]
  rw [refMask_eq]
  by_cases hm : meets i.val j.val
  · rw [if_pos hm, if_pos hm]; rfl
  · rw [if_neg hm, if_neg hm]; rfl

/-- The reference's maximum is the greatest masked score of the row. -/
theorem refMax_eq (b : Fin 2) (h : Fin 4) (i : Fin 128) :
    refMax x wq kk (ix3 b h i)
      = Finset.univ.fold max ⊥ fun j : Fin 4096 => if meets i.val j.val then score x wq kk b h i j else ⊥ := by
  have hb : Ideal.ofBits .f32 4286578688#32 = ⊥ := by simp [Ideal.ofBits, Ideal.ieee]
  simp only [← refMasked_eq]
  rw [← hb]
  pointwise [refMax]

/-- The reference's exponential, the maximum subtracted. -/
theorem refExp_eq (b : Fin 2) (h : Fin 4) (i : Fin 128) (j : Fin 4096) :
    refExp x wq kk (ix4 b h i j) = Ideal.exp (refMasked x wq kk (ix4 b h i j) - refMax x wq kk (ix3 b h i)) := by
  pointwise [refExp]

/-- The reference's weight: the exponential over the row's sum. -/
theorem refWeight_eq (b : Fin 2) (h : Fin 4) (i : Fin 128) (j : Fin 4096) :
    refWeight x wq kk (ix4 b h i j)
      = Ideal.div (refExp x wq kk (ix4 b h i j)) (∑ t : Fin 4096, refExp x wq kk (ix4 b h i t)) := by
  pointwise [refWeight]
  rw [refAny_eq]
  rfl

/-- The reference's result, when every score is a real number: the plain weights' sums of the values, divided by
    the weights' sums, into the output projection. -/
theorem refOut_eq (s : Fin 2 → Fin 4 → Fin 128 → Fin 4096 → ℝ)
    (hs : ∀ b h i j, score x wq kk b h i j = (s b h i j : EReal)) (b : Fin 2) (i : Fin 128) (n : Fin 512) :
    refOut x wq kk vv wo (ix3 b i n)
      = ∑ t : Fin 256,
          ((∑ j : Fin 4096, weight x wq kk Fin.val b ⟨t.val / 64, by omega⟩ i j
              * vv (ix4 b j ⟨t.val / 64, by omega⟩ ⟨t.val % 64, by omega⟩))
            * Ideal.div 1 (∑ j : Fin 4096, weight x wq kk Fin.val b ⟨t.val / 64, by omega⟩ i j)) * wo (ix2 t n) := by
  have h1 : ∀ h : Fin 4, (∑ j : Fin 4096, refExp x wq kk (ix4 b h i j))
      = ∑ j : Fin 4096, Ideal.exp (masked (fun j : Fin 4096 => meets i.val j.val) (s b h i) j
          - greatest (fun j : Fin 4096 => meets i.val j.val) (s b h i)) := fun h =>
    Finset.sum_congr rfl fun j _ => by rw [refExp_eq, refMasked_eq, refMax_eq]; simp only [hs]; rfl
  have h2 : ∀ (h : Fin 4) (v : Fin 4096 → EReal), ∑ j : Fin 4096, v j * refWeight x wq kk (ix4 b h i j)
      = (∑ j : Fin 4096, weight x wq kk Fin.val b h i j * v j) * Ideal.div 1 (∑ j : Fin 4096, weight x wq kk Fin.val b h i j) := by
    intro h v
    have h3 := softmax_eq (fun j : Fin 4096 => meets i.val j.val) (s b h i) ⟨0, meets_first _⟩ v
    simp only [weight, hs]
    refine Eq.trans ?_ h3
    refine Finset.sum_congr rfl fun j _ => ?_
    rw [refWeight_eq, h1, refExp_eq, refMasked_eq, refMax_eq]
    simp only [hs]
    rfl
  pointwise [refOut]
  simp only [h2]

end

end Cert.AttnValue

end
-- ==== Proof.Finite.lean ====
/-
The precondition read at an element, and what it gives: the scores are real numbers.
-/
module
public import proofs.«01_k».proof.Proof.Terms
public import proofs.«01_k».proof.Proof.Softmax
public import proofs.«01_k».proof.Pre_finite_scores_KernelIdeal
public import Idealize.ShloMosaic.Lib.ReduceAll
public import Idealize.ShloMosaic.PureOps.Ideal.Laws

@[expose] public section

noncomputable section

namespace Cert.AttnValue

open Cert.Pre_finite_scores_KernelIdeal
open Idealize.ShloMosaic

/-- A conjunction of two bits is set only if both are. -/
theorem andi_one : ∀ a b : BitVec 1, IntOp.andi a b = 1#1 → a = 1#1 ∧ b = 1#1 := by decide

/-- An absolute value below the greatest extended real is a real number's. -/
theorem real_of_abs_lt (a : EReal) (h : Ideal.cmp .olt (max a (-a)) (Ideal.ofBits .f32 0x7F800000#32) = 1#1) :
    ∃ r : ℝ, a = (r : EReal) := by
  have ht : Ideal.ofBits .f32 0x7F800000#32 = ⊤ := by simp [Ideal.ofBits, Ideal.ieee]
  rw [ht] at h
  have hlt : max a (-a) < ⊤ := by
    by_contra hn
    simp [Ideal.cmp, hn] at h
  have h1 : a < ⊤ := (le_max_left _ _).trans_lt hlt
  have h2 : -a < ⊤ := (le_max_right _ _).trans_lt hlt
  have h3 : a ≠ ⊥ := fun e => by rw [e, EReal.neg_bot] at h2; exact lt_irrefl _ h2
  exact ⟨a.toReal, (EReal.coe_toReal h1.ne h3).symm⟩

/-- Where the precondition holds of a device's blocks, every element of the first three is a real number. -/
theorem pre_real [Facts] (x : FVec Ideal S2x128x512 .f32) (wq : FVec Ideal S512x256 .f32) (kk vv : FVec Ideal S2x128x4x64 .f32)
    (wo : FVec Ideal S256x512 .f32) (h : fn (F := Ideal) x wq kk vv wo = fun _ => 1#1) :
    (∀ i, ∃ r : ℝ, x i = (r : EReal)) ∧ (∀ i, ∃ r : ℝ, wq i = (r : EReal)) ∧ ∀ i, ∃ r : ℝ, kk i = (r : EReal) := by
  haveI : Subsingleton S_.Idx := ⟨fun a b => funext fun t => t.elim0⟩
  have h0 := congrFun h (fun t => t.elim0)
  unfold fn at h0
  obtain ⟨h1, h4⟩ := andi_one _ _ h0
  obtain ⟨h2, h3⟩ := andi_one _ _ h1
  exact ⟨fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

/-- A sum of products of reals is a real. -/
theorem real_dot {ι : Type} [Fintype ι] (f g : ι → EReal) (hf : ∀ j, ∃ r : ℝ, f j = (r : EReal)) (hg : ∀ j, ∃ r : ℝ, g j = (r : EReal)) :
    ∃ r : ℝ, ∑ j, f j * g j = (r : EReal) := by
  choose a ha using hf
  choose b hb using hg
  refine ⟨∑ j, a j * b j, ?_⟩
  rw [coe_sum]
  exact Finset.sum_congr rfl fun j _ => by rw [ha, hb, EReal.coe_mul]

/-- The scores of real queries, weights and keys are real. -/
theorem score_real {n : ℕ} (x : (⟨3, ![2, 128, 512]⟩ : Shape).Idx → EReal) (wq : (⟨2, ![512, 256]⟩ : Shape).Idx → EReal)
    (kk : (⟨4, ![2, n, 4, 64]⟩ : Shape).Idx → EReal) (hx : ∀ i, ∃ r : ℝ, x i = (r : EReal))
    (hw : ∀ i, ∃ r : ℝ, wq i = (r : EReal)) (hk : ∀ i, ∃ r : ℝ, kk i = (r : EReal)) (b : Fin 2) (h : Fin 4) (i : Fin 128) (j : Fin n) :
    ∃ r : ℝ, score x wq kk b h i j = (r : EReal) := by
  obtain ⟨r, hr⟩ := real_dot (fun d : Fin 64 => query x wq b i (col h d)) (fun d => kk (ix4 b j h d))
    (fun d => real_dot _ _ (fun _ => hx _) fun _ => hw _) fun _ => hk _
  exact ⟨r * (1 / 8), by unfold score; rw [hr, EReal.coe_mul]⟩

end Cert.AttnValue

end
-- ==== Proof.Agree.lean ====
/-
The kernel's result block is the reference's result, from memories that hold the same arrays, the keys and the
values cut into the devices' parts, when the queries, their weights and the keys are real numbers.
-/
module
public import proofs.«01_k».proof.Proof.Arrays
public import proofs.«01_k».proof.Proof.Result
public import proofs.«01_k».proof.Proof.Reference
public import proofs.«01_k».proof.Proof.Finite
public import Idealize.ShloMosaic.Lib.Layout

@[expose] public section

noncomputable section

namespace Cert.AttnValue

open Cert.KernelIdeal Cert.KernelIdeal.Gen
open Idealize.ShloMosaic Idealize.ShloMosaic.TcCoe

/-- The cut of a key or value array: device `c`'s part `i` is the whole array's, 128 keys further for each device. -/
theorem part_idx (hT : Layout.Tiles ⟨4, ![2, 128, 4, 64]⟩ ⟨4, ![2, 4096, 4, 64]⟩ 1 32) (c : Fin 32) (b : Fin 2) (j : Fin 128)
    (h : Fin 4) (d : Fin 64) : hT.idx c (ix4 b j h d) = ix4 b (key c j) h d := by
  funext a
  match a with
  | 0 => rfl
  | 1 => exact Fin.ext (by show c.val * 128 + j.val = 128 * c.val + j.val; omega)
  | 2 => rfl
  | 3 => rfl

/-- Every key of the whole array is some device's. -/
theorem key_cover (p : Fin 4096) : ∃ (c : Fin 32) (j : Fin 128), p = key c j :=
  ⟨⟨p.val / 128, by omega⟩, ⟨p.val % 128, by omega⟩, Fin.ext (by simp only [key]; omega)⟩

/-- An index of three coordinates, spelled by them. -/
theorem ix3_self {d0 d1 d2 : ℕ} (i : (⟨3, ![d0, d1, d2]⟩ : Shape).Idx) : i = ix3 (i 0) (i 1) (i 2) := by
  funext a
  match a with
  | 0 => rfl
  | 1 => rfl
  | 2 => rfl

/-- An index of four coordinates, spelled by them. -/
theorem ix4_self {d0 d1 d2 d3 : ℕ} (i : (⟨4, ![d0, d1, d2, d3]⟩ : Shape).Idx) : i = ix4 (i 0) (i 1) (i 2) (i 3) := by
  funext a
  match a with
  | 0 => rfl
  | 1 => rfl
  | 2 => rfl
  | 3 => rfl

/-- Device `c`'s result block is the reference's result, when every device holds the same queries and weights and its own
part of the keys and values, and the queries, their weights and the keys are real numbers. -/
theorem agree (m : (ℓ : Loc nD τ sig) → Buf (Elt Ideal) ℓ)
    (x : FVec Ideal S2x128x512 .f32) (wq : FVec Ideal S512x256 .f32) (kk vv : (⟨4, ![2, 4096, 4, 64]⟩ : Shape).Idx → EReal)
    (wo : FVec Ideal S256x512 .f32)
    (h0 : ∀ c : Dev nD, m ((c : Thread nD τ).loc main_arg0) = x)
    (h1 : ∀ c : Dev nD, m ((c : Thread nD τ).loc main_arg1) = wq)
    (h2 : ∀ c : Dev nD, m ((c : Thread nD τ).loc main_arg2) = Layout.block ⟨4, ![2, 128, 4, 64]⟩ ⟨4, ![2, 4096, 4, 64]⟩ 1 32 c kk)
    (h3 : ∀ c : Dev nD, m ((c : Thread nD τ).loc main_arg3) = Layout.block ⟨4, ![2, 128, 4, 64]⟩ ⟨4, ![2, 4096, 4, 64]⟩ 1 32 c vv)
    (h4 : ∀ c : Dev nD, m ((c : Thread nD τ).loc main_arg4) = wo)
    (hx : ∀ i, ∃ r : ℝ, x i = (r : EReal)) (hw : ∀ i, ∃ r : ℝ, wq i = (r : EReal))
    (hr : ∀ (c : Dev nD) b j h d, ∃ r : ℝ, kk (ix4 b (key c j) h d) = (r : EReal))
    (c : Dev nD) : Attn.outAt (F := Ideal) m c = refOut x wq kk vv wo := by
  have hA : Attn.partAm (F := Ideal) m = fun e => Attn.partA e x wq
      (Layout.block ⟨4, ![2, 128, 4, 64]⟩ ⟨4, ![2, 4096, 4, 64]⟩ 1 32 e kk)
      (Layout.block ⟨4, ![2, 128, 4, 64]⟩ ⟨4, ![2, 4096, 4, 64]⟩ 1 32 e vv) := funext fun e => by
    unfold Attn.partAm
    rw [Attn.inX_eq, Attn.inWq_eq, Attn.inK_eq, Attn.inV_eq, h0, h1, h2, h3]
  have hB : Attn.partBm (F := Ideal) m = fun e => Attn.partB e x wq
      (Layout.block ⟨4, ![2, 128, 4, 64]⟩ ⟨4, ![2, 4096, 4, 64]⟩ 1 32 e kk)
      (Layout.block ⟨4, ![2, 128, 4, 64]⟩ ⟨4, ![2, 4096, 4, 64]⟩ 1 32 e vv) := funext fun e => by
    unfold Attn.partBm
    rw [Attn.inX_eq, Attn.inWq_eq, Attn.inK_eq, Attn.inV_eq, h0, h1, h2, h3]
  have hk : ∀ i, ∃ r : ℝ, kk i = (r : EReal) := fun i => by
    obtain ⟨e, j, hj⟩ := key_cover (i 1)
    obtain ⟨r, h⟩ := hr e (i 0) j (i 2) (i 3)
    rw [← hj] at h
    exact ⟨r, (congrArg kk (ix4_self i)).trans h⟩
  choose s hs using score_real x wq kk hx hw hk
  funext i
  refine (congrArg (Attn.outAt (F := Ideal) m c) (ix3_self i)).trans (Eq.trans ?_ (congrArg (refOut x wq kk vv wo) (ix3_self i)).symm)
  refine Eq.trans ?_ (refOut_eq x wq kk vv wo s hs (i 0) (i 1) (i 2)).symm
  unfold Attn.outAt
  simp only [Attn.slabAt]
  rw [Attn.inWo_eq, h4, hA, hB]
  exact result_eq x wq wo _ _ kk vv (fun e b j h d => congrArg kk (part_idx _ e b j h d))
    (fun e b j h d => congrArg vv (part_idx _ e b j h d)) c (i 0) (i 1) (i 2)

end Cert.AttnValue

end
-- ==== Proof.lean ====
/-
# The certificate

`Cert.Claim`: the block-sparse attention kernel on 32 devices always ends, leaves its arguments alone and every counter
at zero, and over exact arithmetic gives the reference's result on every device.
-/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Launch
public import proofs.«01_k».proof.Proof.SameText
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem

/-- From a run of the kernel's launch: the argument arrays are the launch's own, and every counter is at zero. -/
theorem args_kept {F : FTy → Type} [FloatOps F]
    (m : (ℓ : Loc Cert.KernelIdeal.nD Cert.KernelIdeal.τ Cert.KernelIdeal.sig) → Buf (Elt F) ℓ) (ρ : Dev Cert.KernelIdeal.nD → PrngReg)
    {r} (h : Cert.Attn.Ended m ρ r) (c : Dev Cert.KernelIdeal.nD) :
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c 0).trans ((Cert.Attn.dats m ρ 0 c).arrAt_in 0 rfl _), (h c 1).trans ((Cert.Attn.dats m ρ 0 c).arrAt_in 1 rfl _),
   (h c 2).trans ((Cert.Attn.dats m ρ 0 c).arrAt_in 2 rfl _), (h c 3).trans ((Cert.Attn.dats m ρ 0 c).arrAt_in 3 rfl _),
   (h c 4).trans ((Cert.Attn.dats m ρ 0 c).arrAt_in 4 rfl _)⟩

/-- Over exact arithmetic the kernel always ends, with its arguments kept and every counter at zero. -/
theorem frame_kernelIdeal : Cert.quiescent_KernelIdeal := fun m ρ _ =>
  (θ_run Cert.KernelIdeal.defs _ _).mono (fun _ h => ⟨args_kept m ρ h.1, h.2⟩) (Cert.Attn.run_main (F := Ideal) m ρ)

set_option maxRecDepth 20000 in
set_option maxHeartbeats 4000000 in
/-- The bit-level program has the same text, so the same run at bit patterns. -/
theorem frame_kernel : Cert.quiescent_Kernel := by
  intro m ρ _
  have h := (θ_run (Cert.KernelIdeal.defs (F := Bits)) _ _).mono
    (fun r (h : Cert.Attn.Ended m ρ r ∧ r.2.sem = fun _ => 0) => (⟨args_kept m ρ h.1, h.2⟩ : _ ∧ _)) (Cert.Attn.run_main (F := Bits) m ρ)
  rw [Cert.Attn.table_same]
  exact h

/-- The reference always ends, with its arguments kept and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over exact arithmetic both programs run, and every device's result is the reference's. -/
theorem value : Cert.algebraic_KernelIdeal_ReferenceIdeal_pre_finite_scores_KernelIdeal
    (hPre_finite_scores_KernelIdeal := Cert.Pre_finite_scores_KernelIdeal.Gen.facts) := by
  intro m ρ m' ρ' hpre hargs
  haveI := Cert.Pre_finite_scores_KernelIdeal.Gen.facts
  have hreal := fun c => Cert.AttnValue.pre_real _ _ _ _ _ (hpre c)
  have hx := (hreal 0).1
  have hw := (hreal 0).2.1
  have hr : ∀ (c : Dev Cert.KernelIdeal.nD) (b : Fin 2) (j : Fin 128) (h : Fin 4) (d : Fin 64), ∃ r : ℝ,
      m' (((0 : Dev Cert.ReferenceIdeal.nD).tc : Thread Cert.ReferenceIdeal.nD Cert.ReferenceIdeal.τ).loc Cert.ReferenceIdeal.main_arg2)
        (ix4 b (Cert.AttnValue.key c j) h d) = (r : EReal) := fun c b j h d => by
    obtain ⟨r, hr⟩ := (hreal c).2.2 (ix4 b j h d)
    have he := (congrFun (hargs c).2.2.1 (ix4 b j h d)).trans (Layout.block_apply ..)
    rw [Cert.AttnValue.part_idx] at he
    exact ⟨r, he.symm.trans hr⟩
  rw [(hargs 0).1] at hx
  rw [(hargs 0).2.1] at hw
  refine ⟨Cert.ReferenceIdeal.Value.res_main_v44 (F := Ideal) m' 0, ?_, ?_⟩
  · refine (θ_run Cert.KernelIdeal.defs _ _).mono (fun r h c => ⟨?_, args_kept m ρ h.1 c⟩) (Cert.Attn.run_main (F := Ideal) m ρ)
    refine (h.1 c 5).trans ((Cert.Attn.final_result m ρ c).trans ?_)
    exact (Cert.AttnValue.agree m _ _ _ _ _ (fun c => (hargs c).1) (fun c => (hargs c).2.1) (fun c => (hargs c).2.2.1)
      (fun c => (hargs c).2.2.2.1) (fun c => (hargs c).2.2.2.2) hx hw hr c).trans (Cert.AttnValue.res_eq m' 0).symm
  · exact (θ_run Cert.ReferenceIdeal.defs _ _).mono (fun r h => h 0) (Cert.ReferenceIdeal.Value.run (F := Ideal) m' ρ')

/-- The printed claim: the three frames, the idealized kernel being the kernel itself, and the equation of the results. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_kernelIdeal, fun m ρ _ => frame_kernelIdeal m ρ trivial,
    frame_reference, fun m ρ _ => frame_reference m ρ trivial, trivial, value⟩

end Cert.Proof

end
